-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S16x3 : Shape := ⟨2, ![16, 3]⟩
abbrev S_ : Shape := ⟨0, ![]⟩
abbrev S512x128 : Shape := ⟨2, ![512, 128]⟩
abbrev S1x1 : Shape := ⟨2, ![1, 1]⟩
abbrev S256x128 : Shape := ⟨2, ![256, 128]⟩

abbrev nBuf : Space → Nat
  | .hbm => 2
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.xori v2 c1_i32_4
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_11 : BitVec 32 := 1#32
  let v17 : BitVec 32 := Scalar.muli v16 c1_i32_11
  let v18 : BitVec 32 := Scalar.addi c0_i32_12 v17
  v18.toNat
def k0_mult1 (d0 : Dev nD) : BitVec 32 :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_14 : BitVec 32 := 0#32
  let v19 : BitVec 1 := Scalar.cmpi .eq v8 c0_i32_14
  let c512_i32 : BitVec 32 := 512#32
  let c0_i32_15 : BitVec 32 := 0#32
  let v20 : BitVec 32 := Scalar.select v19 c512_i32 c0_i32_15
  let v21 : BitVec 32 := Scalar.addi c0_i32_16 v20
  v21
def k0_off1 (d0 : Dev nD) (c512_i32 : BitVec 32) (c0_i32_15 : BitVec 32) : Fin 2 → Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_14 : BitVec 32 := 0#32
  let v19 : BitVec 1 := Scalar.cmpi .eq v8 c0_i32_14
  let v20 : BitVec 32 := Scalar.select v19 c512_i32 c0_i32_15
  let v21 : BitVec 32 := Scalar.addi c0_i32_16 v20
  let v22 : BitVec 32 := v21
  let v23 : Index := Scalar.indexCast v22
  let c0 : Index := 0#32
  ![v23.toNat, 0]
def k0_off1_at (r : Fin 2) : BitVec 32 × BitVec 32 :=
  if r.val < 1 then
    (512#32, 0#32)
  else
    (0#32, 512#32)
def k0_off2 (d0 : Dev nD) : Fin 2 → Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_14 : BitVec 32 := 0#32
  let v19 : BitVec 1 := Scalar.cmpi .eq v8 c0_i32_14
  let c512_i32 : BitVec 32 := 512#32
  let c0_i32_15 : BitVec 32 := 0#32
  let v20 : BitVec 32 := Scalar.select v19 c512_i32 c0_i32_15
  let v21 : BitVec 32 := Scalar.addi c0_i32_16 v20
  let v22 : BitVec 32 := v21
  let c0_i32_25 : BitVec 32 := 0#32
  ![v22.toNat, 0]
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v30 : BitVec 32 := Scalar.xori v2 c1_i32_18
  let c1_i32_23 : BitVec 32 := 1#32
  let v31 : BitVec 32 := Scalar.muli v30 c1_i32_23
  let v32 : BitVec 32 := Scalar.addi c0_i32_24 v31
  v32.toNat
def k0_mult2 (d0 : Dev nD) : BitVec 32 :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_27 : BitVec 32 := 0#32
  let v39 : BitVec 1 := Scalar.cmpi .eq v5 c0_i32_27
  let c512_i32_28 : BitVec 32 := 512#32
  let c0_i32_29 : BitVec 32 := 0#32
  let v40 : BitVec 32 := Scalar.select v39 c512_i32_28 c0_i32_29
  let v41 : BitVec 32 := Scalar.addi c1024_i32 v40
  v41
def k0_off3 (d0 : Dev nD) (c512_i32_28 : BitVec 32) (c0_i32_29 : BitVec 32) : Fin 2 → Nat :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_27 : BitVec 32 := 0#32
  let v39 : BitVec 1 := Scalar.cmpi .eq v5 c0_i32_27
  let v40 : BitVec 32 := Scalar.select v39 c512_i32_28 c0_i32_29
  let v41 : BitVec 32 := Scalar.addi c1024_i32 v40
  let v42 : BitVec 32 := v41
  let v43 : Index := Scalar.indexCast v42
  let c0_30 : Index := 0#32
  ![v43.toNat, 0]
def k0_off3_at (r : Fin 2) : BitVec 32 × BitVec 32 :=
  if r.val < 1 then
    (512#32, 0#32)
  else
    (0#32, 512#32)
def k0_off4 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_27 : BitVec 32 := 0#32
  let v39 : BitVec 1 := Scalar.cmpi .eq v5 c0_i32_27
  let c512_i32_28 : BitVec 32 := 512#32
  let c0_i32_29 : BitVec 32 := 0#32
  let v40 : BitVec 32 := Scalar.select v39 c512_i32_28 c0_i32_29
  let v41 : BitVec 32 := Scalar.addi c1024_i32 v40
  let v42 : BitVec 32 := v41
  let c0_i32_39 : BitVec 32 := 0#32
  ![v42.toNat, 0]
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_32 : BitVec 32 := 3#32
  let v50 : BitVec 32 := Scalar.xori v2 c3_i32_32
  let c1_i32_37 : BitVec 32 := 1#32
  let v51 : BitVec 32 := Scalar.muli v50 c1_i32_37
  let v52 : BitVec 32 := Scalar.addi c0_i32_38 v51
  v52.toNat
def k0_mult3 (d0 : Dev nD) : BitVec 32 :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_41 : BitVec 32 := 0#32
  let v59 : BitVec 1 := Scalar.cmpi .eq v5 c0_i32_41
  let c512_i32_42 : BitVec 32 := 512#32
  let c0_i32_43 : BitVec 32 := 0#32
  let v60 : BitVec 32 := Scalar.select v59 c512_i32_42 c0_i32_43
  let v61 : BitVec 32 := Scalar.addi c0_i32_44 v60
  v61
def k0_off5 (d0 : Dev nD) (c0_i32_44 : BitVec 32) (c1_i32_1 : BitVec 32) (c512_i32_42 : BitVec 32) (c0_i32_43 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c0_i32_41 : BitVec 32 := 0#32
  let v59 : BitVec 1 := Scalar.cmpi .eq v5 c0_i32_41
  let v60 : BitVec 32 := Scalar.select v59 c512_i32_42 c0_i32_43
  let v61 : BitVec 32 := Scalar.addi c0_i32_44 v60
  let v62 : BitVec 32 := v61
  let v63 : Index := Scalar.indexCast v62
  let c128 : Index := 128#32
  ![v63.toNat, 128]
def k0_off5_at (r : Fin 4) : BitVec 32 × BitVec 32 × BitVec 32 × BitVec 32 :=
  if r.val < 2 then
    if r.val < 1 then
      (0#32, 1#32, 512#32, 0#32)
    else
      (1024#32, 2#32, 512#32, 0#32)
  else
    if r.val < 3 then
      (0#32, 1#32, 0#32, 512#32)
    else
      (1024#32, 2#32, 0#32, 512#32)
def k0_off6 (d0 : Dev nD) (c0_i32_44 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c0_i32_41 : BitVec 32 := 0#32
  let v59 : BitVec 1 := Scalar.cmpi .eq v5 c0_i32_41
  let c512_i32_42 : BitVec 32 := 512#32
  let c0_i32_43 : BitVec 32 := 0#32
  let v60 : BitVec 32 := Scalar.select v59 c512_i32_42 c0_i32_43
  let v61 : BitVec 32 := Scalar.addi c0_i32_44 v60
  let v62 : BitVec 32 := v61
  let c128_i32 : BitVec 32 := 128#32
  ![v62.toNat, 128]
def k0_off6_at (r : Fin 2) : BitVec 32 × BitVec 32 :=
  if r.val < 1 then
    (0#32, 1#32)
  else
    (1024#32, 2#32)
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_46 : BitVec 32 := 3#32
  let v70 : BitVec 32 := Scalar.xori v2 c3_i32_46
  let c1_i32_51 : BitVec 32 := 1#32
  let v71 : BitVec 32 := Scalar.muli v70 c1_i32_51
  let v72 : BitVec 32 := Scalar.addi c0_i32_52 v71
  v72.toNat
def k0_mult4 (d0 : Dev nD) : BitVec 32 :=
  let c1024_i32_57 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_54 : BitVec 32 := 0#32
  let v79 : BitVec 1 := Scalar.cmpi .eq v7 c0_i32_54
  let c512_i32_55 : BitVec 32 := 512#32
  let c0_i32_56 : BitVec 32 := 0#32
  let v80 : BitVec 32 := Scalar.select v79 c512_i32_55 c0_i32_56
  let v81 : BitVec 32 := Scalar.addi c1024_i32_57 v80
  v81
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_60 : BitVec 32 := 4#32
  let v90 : BitVec 32 := Scalar.xori v2 c4_i32_60
  let c1_i32_65 : BitVec 32 := 1#32
  let v91 : BitVec 32 := Scalar.muli v90 c1_i32_65
  let v92 : BitVec 32 := Scalar.addi c0_i32_66 v91
  v92.toNat
def k0_mult5 (d0 : Dev nD) : BitVec 32 :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_69 : BitVec 32 := 0#32
  let v99 : BitVec 1 := Scalar.cmpi .eq v7 c0_i32_69
  let c512_i32_70 : BitVec 32 := 512#32
  let c0_i32_71 : BitVec 32 := 0#32
  let v100 : BitVec 32 := Scalar.select v99 c512_i32_70 c0_i32_71
  let v101 : BitVec 32 := Scalar.addi c0_i32_72 v100
  v101
def k0_off7 (d0 : Dev nD) (c512_i32_70 : BitVec 32) (c0_i32_71 : BitVec 32) : Fin 2 → Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_69 : BitVec 32 := 0#32
  let v99 : BitVec 1 := Scalar.cmpi .eq v7 c0_i32_69
  let v100 : BitVec 32 := Scalar.select v99 c512_i32_70 c0_i32_71
  let v101 : BitVec 32 := Scalar.addi c0_i32_72 v100
  let v102 : BitVec 32 := v101
  let v103 : Index := Scalar.indexCast v102
  let c256 : Index := 256#32
  ![v103.toNat, 256]
def k0_off7_at (r : Fin 2) : BitVec 32 × BitVec 32 :=
  if r.val < 1 then
    (512#32, 0#32)
  else
    (0#32, 512#32)
def k0_off8 (d0 : Dev nD) : Fin 2 → Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_69 : BitVec 32 := 0#32
  let v99 : BitVec 1 := Scalar.cmpi .eq v7 c0_i32_69
  let c512_i32_70 : BitVec 32 := 512#32
  let c0_i32_71 : BitVec 32 := 0#32
  let v100 : BitVec 32 := Scalar.select v99 c512_i32_70 c0_i32_71
  let v101 : BitVec 32 := Scalar.addi c0_i32_72 v100
  let v102 : BitVec 32 := v101
  let c256_i32 : BitVec 32 := 256#32
  ![v102.toNat, 256]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v110 : BitVec 32 := Scalar.xori v2 c4_i32_74
  let c1_i32_79 : BitVec 32 := 1#32
  let v111 : BitVec 32 := Scalar.muli v110 c1_i32_79
  let v112 : BitVec 32 := Scalar.addi c0_i32_80 v111
  v112.toNat
def k0_mult6 (d0 : Dev nD) : BitVec 32 :=
  let c1024_i32_85 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_82 : BitVec 32 := 0#32
  let v119 : BitVec 1 := Scalar.cmpi .eq v8 c0_i32_82
  let c512_i32_83 : BitVec 32 := 512#32
  let c0_i32_84 : BitVec 32 := 0#32
  let v120 : BitVec 32 := Scalar.select v119 c512_i32_83 c0_i32_84
  let v121 : BitVec 32 := Scalar.addi c1024_i32_85 v120
  v121
def k0_off9 (d0 : Dev nD) (c512_i32_83 : BitVec 32) (c0_i32_84 : BitVec 32) : Fin 2 → Nat :=
  let c1024_i32_85 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_82 : BitVec 32 := 0#32
  let v119 : BitVec 1 := Scalar.cmpi .eq v8 c0_i32_82
  let v120 : BitVec 32 := Scalar.select v119 c512_i32_83 c0_i32_84
  let v121 : BitVec 32 := Scalar.addi c1024_i32_85 v120
  let v122 : BitVec 32 := v121
  let v123 : Index := Scalar.indexCast v122
  let c256_86 : Index := 256#32
  ![v123.toNat, 256]
def k0_off9_at (r : Fin 2) : BitVec 32 × BitVec 32 :=
  if r.val < 1 then
    (512#32, 0#32)
  else
    (0#32, 512#32)
def k0_off10 (d0 : Dev nD) : Fin 2 → Nat :=
  let c1024_i32_85 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_82 : BitVec 32 := 0#32
  let v119 : BitVec 1 := Scalar.cmpi .eq v8 c0_i32_82
  let c512_i32_83 : BitVec 32 := 512#32
  let c0_i32_84 : BitVec 32 := 0#32
  let v120 : BitVec 32 := Scalar.select v119 c512_i32_83 c0_i32_84
  let v121 : BitVec 32 := Scalar.addi c1024_i32_85 v120
  let v122 : BitVec 32 := v121
  let c256_i32_94 : BitVec 32 := 256#32
  ![v122.toNat, 256]
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_88 : BitVec 32 := 1#32
  let v130 : BitVec 32 := Scalar.xori v2 c1_i32_88
  let c1_i32_92 : BitVec 32 := 1#32
  let v131 : BitVec 32 := Scalar.muli v130 c1_i32_92
  let v132 : BitVec 32 := Scalar.addi c0_i32_93 v131
  v132.toNat
def k0_mult7 (d0 : Dev nD) : BitVec 32 :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_96 : BitVec 32 := 0#32
  let v139 : BitVec 1 := Scalar.cmpi .eq v8 c0_i32_96
  let c512_i32_97 : BitVec 32 := 512#32
  let c0_i32_98 : BitVec 32 := 0#32
  let v140 : BitVec 32 := Scalar.select v139 c512_i32_97 c0_i32_98
  let v141 : BitVec 32 := Scalar.addi c0_i32_99 v140
  v141
def k0_off11 (d0 : Dev nD) (c512_i32_97 : BitVec 32) (c0_i32_98 : BitVec 32) : Fin 2 → Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_96 : BitVec 32 := 0#32
  let v139 : BitVec 1 := Scalar.cmpi .eq v8 c0_i32_96
  let v140 : BitVec 32 := Scalar.select v139 c512_i32_97 c0_i32_98
  let v141 : BitVec 32 := Scalar.addi c0_i32_99 v140
  let v142 : BitVec 32 := v141
  let v143 : Index := Scalar.indexCast v142
  let c384 : Index := 384#32
  ![v143.toNat, 384]
def k0_off11_at (r : Fin 2) : BitVec 32 × BitVec 32 :=
  if r.val < 1 then
    (512#32, 0#32)
  else
    (0#32, 512#32)
def k0_off12 (d0 : Dev nD) : Fin 2 → Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_96 : BitVec 32 := 0#32
  let v139 : BitVec 1 := Scalar.cmpi .eq v8 c0_i32_96
  let c512_i32_97 : BitVec 32 := 512#32
  let c0_i32_98 : BitVec 32 := 0#32
  let v140 : BitVec 32 := Scalar.select v139 c512_i32_97 c0_i32_98
  let v141 : BitVec 32 := Scalar.addi c0_i32_99 v140
  let v142 : BitVec 32 := v141
  let c384_i32 : BitVec 32 := 384#32
  ![v142.toNat, 384]
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v150 : BitVec 32 := Scalar.xori v2 c1_i32_101
  let c1_i32_105 : BitVec 32 := 1#32
  let v151 : BitVec 32 := Scalar.muli v150 c1_i32_105
  let v152 : BitVec 32 := Scalar.addi c0_i32_106 v151
  v152.toNat
def k0_mult8 (d0 : Dev nD) : BitVec 32 :=
  let c1024_i32_111 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_108 : BitVec 32 := 0#32
  let v159 : BitVec 1 := Scalar.cmpi .eq v5 c0_i32_108
  let c512_i32_109 : BitVec 32 := 512#32
  let c0_i32_110 : BitVec 32 := 0#32
  let v160 : BitVec 32 := Scalar.select v159 c512_i32_109 c0_i32_110
  let v161 : BitVec 32 := Scalar.addi c1024_i32_111 v160
  v161
def k0_off13 (d0 : Dev nD) (c512_i32_109 : BitVec 32) (c0_i32_110 : BitVec 32) : Fin 2 → Nat :=
  let c1024_i32_111 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_108 : BitVec 32 := 0#32
  let v159 : BitVec 1 := Scalar.cmpi .eq v5 c0_i32_108
  let v160 : BitVec 32 := Scalar.select v159 c512_i32_109 c0_i32_110
  let v161 : BitVec 32 := Scalar.addi c1024_i32_111 v160
  let v162 : BitVec 32 := v161
  let v163 : Index := Scalar.indexCast v162
  let c384_112 : Index := 384#32
  ![v163.toNat, 384]
def k0_off13_at (r : Fin 2) : BitVec 32 × BitVec 32 :=
  if r.val < 1 then
    (512#32, 0#32)
  else
    (0#32, 512#32)
def k0_off14 (d0 : Dev nD) : Fin 2 → Nat :=
  let c1024_i32_111 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_108 : BitVec 32 := 0#32
  let v159 : BitVec 1 := Scalar.cmpi .eq v5 c0_i32_108
  let c512_i32_109 : BitVec 32 := 512#32
  let c0_i32_110 : BitVec 32 := 0#32
  let v160 : BitVec 32 := Scalar.select v159 c512_i32_109 c0_i32_110
  let v161 : BitVec 32 := Scalar.addi c1024_i32_111 v160
  let v162 : BitVec 32 := v161
  let c384_i32_120 : BitVec 32 := 384#32
  ![v162.toNat, 384]
def k0_dev11 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v170 : BitVec 32 := Scalar.xori v2 c3_i32_114
  let c1_i32_118 : BitVec 32 := 1#32
  let v171 : BitVec 32 := Scalar.muli v170 c1_i32_118
  let v172 : BitVec 32 := Scalar.addi c0_i32_119 v171
  v172.toNat
def k0_mult9 (d0 : Dev nD) : BitVec 32 :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_122 : BitVec 32 := 0#32
  let v179 : BitVec 1 := Scalar.cmpi .eq v5 c0_i32_122
  let c512_i32_123 : BitVec 32 := 512#32
  let c0_i32_124 : BitVec 32 := 0#32
  let v180 : BitVec 32 := Scalar.select v179 c512_i32_123 c0_i32_124
  let v181 : BitVec 32 := Scalar.addi c0_i32_125 v180
  v181
def k0_off15 (d0 : Dev nD) (c0_i32_125 : BitVec 32) (c1_i32_1 : BitVec 32) (c512_i32_123 : BitVec 32) (c0_i32_124 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c0_i32_122 : BitVec 32 := 0#32
  let v179 : BitVec 1 := Scalar.cmpi .eq v5 c0_i32_122
  let v180 : BitVec 32 := Scalar.select v179 c512_i32_123 c0_i32_124
  let v181 : BitVec 32 := Scalar.addi c0_i32_125 v180
  let v182 : BitVec 32 := v181
  let v183 : Index := Scalar.indexCast v182
  let c512 : Index := 512#32
  ![v183.toNat, 512]
def k0_off15_at (r : Fin 4) : BitVec 32 × BitVec 32 × BitVec 32 × BitVec 32 :=
  if r.val < 2 then
    if r.val < 1 then
      (0#32, 1#32, 512#32, 0#32)
    else
      (1024#32, 2#32, 512#32, 0#32)
  else
    if r.val < 3 then
      (0#32, 1#32, 0#32, 512#32)
    else
      (1024#32, 2#32, 0#32, 512#32)
def k0_off16 (d0 : Dev nD) (c0_i32_125 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c0_i32_122 : BitVec 32 := 0#32
  let v179 : BitVec 1 := Scalar.cmpi .eq v5 c0_i32_122
  let c512_i32_123 : BitVec 32 := 512#32
  let c0_i32_124 : BitVec 32 := 0#32
  let v180 : BitVec 32 := Scalar.select v179 c512_i32_123 c0_i32_124
  let v181 : BitVec 32 := Scalar.addi c0_i32_125 v180
  let v182 : BitVec 32 := v181
  let c512_i32_134 : BitVec 32 := 512#32
  ![v182.toNat, 512]
def k0_off16_at (r : Fin 2) : BitVec 32 × BitVec 32 :=
  if r.val < 1 then
    (0#32, 1#32)
  else
    (1024#32, 2#32)
def k0_dev12 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_127 : BitVec 32 := 3#32
  let v190 : BitVec 32 := Scalar.xori v2 c3_i32_127
  let c1_i32_132 : BitVec 32 := 1#32
  let v191 : BitVec 32 := Scalar.muli v190 c1_i32_132
  let v192 : BitVec 32 := Scalar.addi c0_i32_133 v191
  v192.toNat
def k0_mult10 (d0 : Dev nD) : BitVec 32 :=
  let c1024_i32_139 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_136 : BitVec 32 := 0#32
  let v199 : BitVec 1 := Scalar.cmpi .eq v7 c0_i32_136
  let c512_i32_137 : BitVec 32 := 512#32
  let c0_i32_138 : BitVec 32 := 0#32
  let v200 : BitVec 32 := Scalar.select v199 c512_i32_137 c0_i32_138
  let v201 : BitVec 32 := Scalar.addi c1024_i32_139 v200
  v201
def k0_dev13 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_142 : BitVec 32 := 4#32
  let v210 : BitVec 32 := Scalar.xori v2 c4_i32_142
  let c1_i32_146 : BitVec 32 := 1#32
  let v211 : BitVec 32 := Scalar.muli v210 c1_i32_146
  let v212 : BitVec 32 := Scalar.addi c0_i32_147 v211
  v212.toNat
def k0_mult11 (d0 : Dev nD) : BitVec 32 :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_150 : BitVec 32 := 0#32
  let v219 : BitVec 1 := Scalar.cmpi .eq v7 c0_i32_150
  let c512_i32_151 : BitVec 32 := 512#32
  let c0_i32_152 : BitVec 32 := 0#32
  let v220 : BitVec 32 := Scalar.select v219 c512_i32_151 c0_i32_152
  let v221 : BitVec 32 := Scalar.addi c0_i32_153 v220
  v221
def k0_off17 (d0 : Dev nD) (c512_i32_151 : BitVec 32) (c0_i32_152 : BitVec 32) : Fin 2 → Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_150 : BitVec 32 := 0#32
  let v219 : BitVec 1 := Scalar.cmpi .eq v7 c0_i32_150
  let v220 : BitVec 32 := Scalar.select v219 c512_i32_151 c0_i32_152
  let v221 : BitVec 32 := Scalar.addi c0_i32_153 v220
  let v222 : BitVec 32 := v221
  let v223 : Index := Scalar.indexCast v222
  let c640 : Index := 640#32
  ![v223.toNat, 640]
def k0_off17_at (r : Fin 2) : BitVec 32 × BitVec 32 :=
  if r.val < 1 then
    (512#32, 0#32)
  else
    (0#32, 512#32)
def k0_off18 (d0 : Dev nD) : Fin 2 → Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_150 : BitVec 32 := 0#32
  let v219 : BitVec 1 := Scalar.cmpi .eq v7 c0_i32_150
  let c512_i32_151 : BitVec 32 := 512#32
  let c0_i32_152 : BitVec 32 := 0#32
  let v220 : BitVec 32 := Scalar.select v219 c512_i32_151 c0_i32_152
  let v221 : BitVec 32 := Scalar.addi c0_i32_153 v220
  let v222 : BitVec 32 := v221
  let c640_i32 : BitVec 32 := 640#32
  ![v222.toNat, 640]
def k0_dev14 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v230 : BitVec 32 := Scalar.xori v2 c4_i32_155
  let c1_i32_159 : BitVec 32 := 1#32
  let v231 : BitVec 32 := Scalar.muli v230 c1_i32_159
  let v232 : BitVec 32 := Scalar.addi c0_i32_160 v231
  v232.toNat
def k0_mult12 (d0 : Dev nD) : BitVec 32 :=
  let c1024_i32_165 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_162 : BitVec 32 := 0#32
  let v239 : BitVec 1 := Scalar.cmpi .eq v8 c0_i32_162
  let c512_i32_163 : BitVec 32 := 512#32
  let c0_i32_164 : BitVec 32 := 0#32
  let v240 : BitVec 32 := Scalar.select v239 c512_i32_163 c0_i32_164
  let v241 : BitVec 32 := Scalar.addi c1024_i32_165 v240
  v241
def k0_off19 (d0 : Dev nD) (c512_i32_163 : BitVec 32) (c0_i32_164 : BitVec 32) : Fin 2 → Nat :=
  let c1024_i32_165 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_162 : BitVec 32 := 0#32
  let v239 : BitVec 1 := Scalar.cmpi .eq v8 c0_i32_162
  let v240 : BitVec 32 := Scalar.select v239 c512_i32_163 c0_i32_164
  let v241 : BitVec 32 := Scalar.addi c1024_i32_165 v240
  let v242 : BitVec 32 := v241
  let v243 : Index := Scalar.indexCast v242
  let c640_166 : Index := 640#32
  ![v243.toNat, 640]
def k0_off19_at (r : Fin 2) : BitVec 32 × BitVec 32 :=
  if r.val < 1 then
    (512#32, 0#32)
  else
    (0#32, 512#32)
def k0_off20 (d0 : Dev nD) : Fin 2 → Nat :=
  let c1024_i32_165 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_162 : BitVec 32 := 0#32
  let v239 : BitVec 1 := Scalar.cmpi .eq v8 c0_i32_162
  let c512_i32_163 : BitVec 32 := 512#32
  let c0_i32_164 : BitVec 32 := 0#32
  let v240 : BitVec 32 := Scalar.select v239 c512_i32_163 c0_i32_164
  let v241 : BitVec 32 := Scalar.addi c1024_i32_165 v240
  let v242 : BitVec 32 := v241
  let c640_i32_174 : BitVec 32 := 640#32
  ![v242.toNat, 640]
def k0_dev15 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_168 : BitVec 32 := 1#32
  let v250 : BitVec 32 := Scalar.xori v2 c1_i32_168
  let c1_i32_172 : BitVec 32 := 1#32
  let v251 : BitVec 32 := Scalar.muli v250 c1_i32_172
  let v252 : BitVec 32 := Scalar.addi c0_i32_173 v251
  v252.toNat
def k0_mult13 (d0 : Dev nD) : BitVec 32 :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_176 : BitVec 32 := 0#32
  let v259 : BitVec 1 := Scalar.cmpi .eq v8 c0_i32_176
  let c512_i32_177 : BitVec 32 := 512#32
  let c0_i32_178 : BitVec 32 := 0#32
  let v260 : BitVec 32 := Scalar.select v259 c512_i32_177 c0_i32_178
  let v261 : BitVec 32 := Scalar.addi c0_i32_179 v260
  v261
def k0_off21 (d0 : Dev nD) (c512_i32_177 : BitVec 32) (c0_i32_178 : BitVec 32) : Fin 2 → Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_176 : BitVec 32 := 0#32
  let v259 : BitVec 1 := Scalar.cmpi .eq v8 c0_i32_176
  let v260 : BitVec 32 := Scalar.select v259 c512_i32_177 c0_i32_178
  let v261 : BitVec 32 := Scalar.addi c0_i32_179 v260
  let v262 : BitVec 32 := v261
  let v263 : Index := Scalar.indexCast v262
  let c768 : Index := 768#32
  ![v263.toNat, 768]
def k0_off21_at (r : Fin 2) : BitVec 32 × BitVec 32 :=
  if r.val < 1 then
    (512#32, 0#32)
  else
    (0#32, 512#32)
def k0_off22 (d0 : Dev nD) : Fin 2 → Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_176 : BitVec 32 := 0#32
  let v259 : BitVec 1 := Scalar.cmpi .eq v8 c0_i32_176
  let c512_i32_177 : BitVec 32 := 512#32
  let c0_i32_178 : BitVec 32 := 0#32
  let v260 : BitVec 32 := Scalar.select v259 c512_i32_177 c0_i32_178
  let v261 : BitVec 32 := Scalar.addi c0_i32_179 v260
  let v262 : BitVec 32 := v261
  let c768_i32 : BitVec 32 := 768#32
  ![v262.toNat, 768]
def k0_dev16 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_181 : BitVec 32 := 1#32
  let v270 : BitVec 32 := Scalar.xori v2 c1_i32_181
  let c1_i32_185 : BitVec 32 := 1#32
  let v271 : BitVec 32 := Scalar.muli v270 c1_i32_185
  let v272 : BitVec 32 := Scalar.addi c0_i32_186 v271
  v272.toNat
def k0_mult14 (d0 : Dev nD) : BitVec 32 :=
  let c1024_i32_191 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_188 : BitVec 32 := 0#32
  let v279 : BitVec 1 := Scalar.cmpi .eq v5 c0_i32_188
  let c512_i32_189 : BitVec 32 := 512#32
  let c0_i32_190 : BitVec 32 := 0#32
  let v280 : BitVec 32 := Scalar.select v279 c512_i32_189 c0_i32_190
  let v281 : BitVec 32 := Scalar.addi c1024_i32_191 v280
  v281
def k0_off23 (d0 : Dev nD) (c512_i32_189 : BitVec 32) (c0_i32_190 : BitVec 32) : Fin 2 → Nat :=
  let c1024_i32_191 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_188 : BitVec 32 := 0#32
  let v279 : BitVec 1 := Scalar.cmpi .eq v5 c0_i32_188
  let v280 : BitVec 32 := Scalar.select v279 c512_i32_189 c0_i32_190
  let v281 : BitVec 32 := Scalar.addi c1024_i32_191 v280
  let v282 : BitVec 32 := v281
  let v283 : Index := Scalar.indexCast v282
  let c768_192 : Index := 768#32
  ![v283.toNat, 768]
def k0_off23_at (r : Fin 2) : BitVec 32 × BitVec 32 :=
  if r.val < 1 then
    (512#32, 0#32)
  else
    (0#32, 512#32)
def k0_off24 (d0 : Dev nD) : Fin 2 → Nat :=
  let c1024_i32_191 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_188 : BitVec 32 := 0#32
  let v279 : BitVec 1 := Scalar.cmpi .eq v5 c0_i32_188
  let c512_i32_189 : BitVec 32 := 512#32
  let c0_i32_190 : BitVec 32 := 0#32
  let v280 : BitVec 32 := Scalar.select v279 c512_i32_189 c0_i32_190
  let v281 : BitVec 32 := Scalar.addi c1024_i32_191 v280
  let v282 : BitVec 32 := v281
  let c768_i32_200 : BitVec 32 := 768#32
  ![v282.toNat, 768]
def k0_dev17 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_194 : BitVec 32 := 3#32
  let v290 : BitVec 32 := Scalar.xori v2 c3_i32_194
  let c1_i32_198 : BitVec 32 := 1#32
  let v291 : BitVec 32 := Scalar.muli v290 c1_i32_198
  let v292 : BitVec 32 := Scalar.addi c0_i32_199 v291
  v292.toNat
def k0_mult15 (d0 : Dev nD) : BitVec 32 :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_202 : BitVec 32 := 0#32
  let v299 : BitVec 1 := Scalar.cmpi .eq v5 c0_i32_202
  let c512_i32_203 : BitVec 32 := 512#32
  let c0_i32_204 : BitVec 32 := 0#32
  let v300 : BitVec 32 := Scalar.select v299 c512_i32_203 c0_i32_204
  let v301 : BitVec 32 := Scalar.addi c0_i32_205 v300
  v301
def k0_off25 (d0 : Dev nD) (c0_i32_205 : BitVec 32) (c1_i32_1 : BitVec 32) (c512_i32_203 : BitVec 32) (c0_i32_204 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c0_i32_202 : BitVec 32 := 0#32
  let v299 : BitVec 1 := Scalar.cmpi .eq v5 c0_i32_202
  let v300 : BitVec 32 := Scalar.select v299 c512_i32_203 c0_i32_204
  let v301 : BitVec 32 := Scalar.addi c0_i32_205 v300
  let v302 : BitVec 32 := v301
  let v303 : Index := Scalar.indexCast v302
  let c896 : Index := 896#32
  ![v303.toNat, 896]
def k0_off25_at (r : Fin 4) : BitVec 32 × BitVec 32 × BitVec 32 × BitVec 32 :=
  if r.val < 2 then
    if r.val < 1 then
      (0#32, 1#32, 512#32, 0#32)
    else
      (1024#32, 2#32, 512#32, 0#32)
  else
    if r.val < 3 then
      (0#32, 1#32, 0#32, 512#32)
    else
      (1024#32, 2#32, 0#32, 512#32)
def k0_off26 (d0 : Dev nD) (c0_i32_205 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c0_i32_202 : BitVec 32 := 0#32
  let v299 : BitVec 1 := Scalar.cmpi .eq v5 c0_i32_202
  let c512_i32_203 : BitVec 32 := 512#32
  let c0_i32_204 : BitVec 32 := 0#32
  let v300 : BitVec 32 := Scalar.select v299 c512_i32_203 c0_i32_204
  let v301 : BitVec 32 := Scalar.addi c0_i32_205 v300
  let v302 : BitVec 32 := v301
  let c896_i32 : BitVec 32 := 896#32
  ![v302.toNat, 896]
def k0_off26_at (r : Fin 2) : BitVec 32 × BitVec 32 :=
  if r.val < 1 then
    (0#32, 1#32)
  else
    (1024#32, 2#32)
def k0_dev18 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_207 : BitVec 32 := 3#32
  let v310 : BitVec 32 := Scalar.xori v2 c3_i32_207
  let c1_i32_211 : BitVec 32 := 1#32
  let v311 : BitVec 32 := Scalar.muli v310 c1_i32_211
  let v312 : BitVec 32 := Scalar.addi c0_i32_212 v311
  v312.toNat
def k0_mult16 (d0 : Dev nD) : BitVec 32 :=
  let c1024_i32_217 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_214 : BitVec 32 := 0#32
  let v319 : BitVec 1 := Scalar.cmpi .eq v7 c0_i32_214
  let c512_i32_215 : BitVec 32 := 512#32
  let c0_i32_216 : BitVec 32 := 0#32
  let v320 : BitVec 32 := Scalar.select v319 c512_i32_215 c0_i32_216
  let v321 : BitVec 32 := Scalar.addi c1024_i32_217 v320
  v321
def k0_dev19 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_220 : BitVec 32 := 4#32
  let v330 : BitVec 32 := Scalar.xori v2 c4_i32_220
  let c1_i32_224 : BitVec 32 := 1#32
  let v331 : BitVec 32 := Scalar.muli v330 c1_i32_224
  let v332 : BitVec 32 := Scalar.addi c0_i32_225 v331
  v332.toNat
def k0_mult17 (d0 : Dev nD) : BitVec 32 :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  v347
def k0_mult18 (d0 : Dev nD) : BitVec 32 :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_243 : BitVec 32 := 0#32
  let v361 : BitVec 1 := Scalar.cmpi .eq v5 c0_i32_243
  let c256_i32_244 : BitVec 32 := 256#32
  let c0_i32_245 : BitVec 32 := 0#32
  let v362 : BitVec 32 := Scalar.select v361 c256_i32_244 c0_i32_245
  let v363 : BitVec 32 := Scalar.addi v348 v362
  v363
def k0_off27 (d0 : Dev nD) (c256_i32_244 : BitVec 32) (c0_i32_245 : BitVec 32) : Fin 2 → Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_243 : BitVec 32 := 0#32
  let v361 : BitVec 1 := Scalar.cmpi .eq v5 c0_i32_243
  let v362 : BitVec 32 := Scalar.select v361 c256_i32_244 c0_i32_245
  let v363 : BitVec 32 := Scalar.addi v348 v362
  let v364 : BitVec 32 := v363
  let v365 : Index := Scalar.indexCast v364
  let c0_246 : Index := 0#32
  ![v365.toNat, 0]
def k0_off27_at (r : Fin 2) : BitVec 32 × BitVec 32 :=
  if r.val < 1 then
    (256#32, 0#32)
  else
    (0#32, 256#32)
def k0_off28 (d0 : Dev nD) : Fin 2 → Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_243 : BitVec 32 := 0#32
  let v361 : BitVec 1 := Scalar.cmpi .eq v5 c0_i32_243
  let c256_i32_244 : BitVec 32 := 256#32
  let c0_i32_245 : BitVec 32 := 0#32
  let v362 : BitVec 32 := Scalar.select v361 c256_i32_244 c0_i32_245
  let v363 : BitVec 32 := Scalar.addi v348 v362
  let v364 : BitVec 32 := v363
  let c0_i32_255 : BitVec 32 := 0#32
  ![v364.toNat, 0]
def k0_dev20 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_248 : BitVec 32 := 3#32
  let v372 : BitVec 32 := Scalar.xori v2 c3_i32_248
  let c1_i32_253 : BitVec 32 := 1#32
  let v373 : BitVec 32 := Scalar.muli v372 c1_i32_253
  let v374 : BitVec 32 := Scalar.addi c0_i32_254 v373
  v374.toNat
def k0_mult19 (d0 : Dev nD) : BitVec 32 :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  v389
def k0_mult20 (d0 : Dev nD) : BitVec 32 :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_272 : BitVec 32 := 0#32
  let v403 : BitVec 1 := Scalar.cmpi .eq v7 c0_i32_272
  let c256_i32_273 : BitVec 32 := 256#32
  let c0_i32_274 : BitVec 32 := 0#32
  let v404 : BitVec 32 := Scalar.select v403 c256_i32_273 c0_i32_274
  let v405 : BitVec 32 := Scalar.addi v390 v404
  v405
def k0_off29 (d0 : Dev nD) (c256_i32_273 : BitVec 32) (c0_i32_274 : BitVec 32) : Fin 2 → Nat :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_272 : BitVec 32 := 0#32
  let v403 : BitVec 1 := Scalar.cmpi .eq v7 c0_i32_272
  let v404 : BitVec 32 := Scalar.select v403 c256_i32_273 c0_i32_274
  let v405 : BitVec 32 := Scalar.addi v390 v404
  let v406 : BitVec 32 := v405
  let v407 : Index := Scalar.indexCast v406
  let c0_275 : Index := 0#32
  ![v407.toNat, 0]
def k0_off29_at (r : Fin 2) : BitVec 32 × BitVec 32 :=
  if r.val < 1 then
    (256#32, 0#32)
  else
    (0#32, 256#32)
def k0_off30 (d0 : Dev nD) : Fin 2 → Nat :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_272 : BitVec 32 := 0#32
  let v403 : BitVec 1 := Scalar.cmpi .eq v7 c0_i32_272
  let c256_i32_273 : BitVec 32 := 256#32
  let c0_i32_274 : BitVec 32 := 0#32
  let v404 : BitVec 32 := Scalar.select v403 c256_i32_273 c0_i32_274
  let v405 : BitVec 32 := Scalar.addi v390 v404
  let v406 : BitVec 32 := v405
  let c0_i32_284 : BitVec 32 := 0#32
  ![v406.toNat, 0]
def k0_dev21 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_277 : BitVec 32 := 4#32
  let v414 : BitVec 32 := Scalar.xori v2 c4_i32_277
  let c1_i32_282 : BitVec 32 := 1#32
  let v415 : BitVec 32 := Scalar.muli v414 c1_i32_282
  let v416 : BitVec 32 := Scalar.addi c0_i32_283 v415
  v416.toNat
def k0_mult21 (d0 : Dev nD) : BitVec 32 :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  v431
def k0_mult22 (d0 : Dev nD) : BitVec 32 :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_301 : BitVec 32 := 0#32
  let v445 : BitVec 1 := Scalar.cmpi .eq v7 c0_i32_301
  let c256_i32_302 : BitVec 32 := 256#32
  let c0_i32_303 : BitVec 32 := 0#32
  let v446 : BitVec 32 := Scalar.select v445 c256_i32_302 c0_i32_303
  let v447 : BitVec 32 := Scalar.addi v432 v446
  v447
def k0_off31 (d0 : Dev nD) (c256_i32_302 : BitVec 32) (c0_i32_303 : BitVec 32) : Fin 2 → Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_301 : BitVec 32 := 0#32
  let v445 : BitVec 1 := Scalar.cmpi .eq v7 c0_i32_301
  let v446 : BitVec 32 := Scalar.select v445 c256_i32_302 c0_i32_303
  let v447 : BitVec 32 := Scalar.addi v432 v446
  let v448 : BitVec 32 := v447
  let v449 : Index := Scalar.indexCast v448
  let c128_304 : Index := 128#32
  ![v449.toNat, 128]
def k0_off31_at (r : Fin 2) : BitVec 32 × BitVec 32 :=
  if r.val < 1 then
    (256#32, 0#32)
  else
    (0#32, 256#32)
def k0_off32 (d0 : Dev nD) : Fin 2 → Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_301 : BitVec 32 := 0#32
  let v445 : BitVec 1 := Scalar.cmpi .eq v7 c0_i32_301
  let c256_i32_302 : BitVec 32 := 256#32
  let c0_i32_303 : BitVec 32 := 0#32
  let v446 : BitVec 32 := Scalar.select v445 c256_i32_302 c0_i32_303
  let v447 : BitVec 32 := Scalar.addi v432 v446
  let v448 : BitVec 32 := v447
  let c128_i32_313 : BitVec 32 := 128#32
  ![v448.toNat, 128]
def k0_dev22 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_306 : BitVec 32 := 4#32
  let v456 : BitVec 32 := Scalar.xori v2 c4_i32_306
  let c1_i32_311 : BitVec 32 := 1#32
  let v457 : BitVec 32 := Scalar.muli v456 c1_i32_311
  let v458 : BitVec 32 := Scalar.addi c0_i32_312 v457
  v458.toNat
def k0_mult23 (d0 : Dev nD) : BitVec 32 :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  v473
def k0_mult24 (d0 : Dev nD) : BitVec 32 :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_330 : BitVec 32 := 0#32
  let v487 : BitVec 1 := Scalar.cmpi .eq v8 c0_i32_330
  let c256_i32_331 : BitVec 32 := 256#32
  let c0_i32_332 : BitVec 32 := 0#32
  let v488 : BitVec 32 := Scalar.select v487 c256_i32_331 c0_i32_332
  let v489 : BitVec 32 := Scalar.addi v474 v488
  v489
def k0_off33 (d0 : Dev nD) (c256_i32_331 : BitVec 32) (c0_i32_332 : BitVec 32) : Fin 2 → Nat :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_330 : BitVec 32 := 0#32
  let v487 : BitVec 1 := Scalar.cmpi .eq v8 c0_i32_330
  let v488 : BitVec 32 := Scalar.select v487 c256_i32_331 c0_i32_332
  let v489 : BitVec 32 := Scalar.addi v474 v488
  let v490 : BitVec 32 := v489
  let v491 : Index := Scalar.indexCast v490
  let c128_333 : Index := 128#32
  ![v491.toNat, 128]
def k0_off33_at (r : Fin 2) : BitVec 32 × BitVec 32 :=
  if r.val < 1 then
    (256#32, 0#32)
  else
    (0#32, 256#32)
def k0_off34 (d0 : Dev nD) : Fin 2 → Nat :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_330 : BitVec 32 := 0#32
  let v487 : BitVec 1 := Scalar.cmpi .eq v8 c0_i32_330
  let c256_i32_331 : BitVec 32 := 256#32
  let c0_i32_332 : BitVec 32 := 0#32
  let v488 : BitVec 32 := Scalar.select v487 c256_i32_331 c0_i32_332
  let v489 : BitVec 32 := Scalar.addi v474 v488
  let v490 : BitVec 32 := v489
  let c128_i32_342 : BitVec 32 := 128#32
  ![v490.toNat, 128]
def k0_dev23 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_335 : BitVec 32 := 1#32
  let v498 : BitVec 32 := Scalar.xori v2 c1_i32_335
  let c1_i32_340 : BitVec 32 := 1#32
  let v499 : BitVec 32 := Scalar.muli v498 c1_i32_340
  let v500 : BitVec 32 := Scalar.addi c0_i32_341 v499
  v500.toNat
def k0_mult25 (d0 : Dev nD) : BitVec 32 :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  v515
def k0_mult26 (d0 : Dev nD) : BitVec 32 :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_359 : BitVec 32 := 0#32
  let v529 : BitVec 1 := Scalar.cmpi .eq v8 c0_i32_359
  let c256_i32_360 : BitVec 32 := 256#32
  let c0_i32_361 : BitVec 32 := 0#32
  let v530 : BitVec 32 := Scalar.select v529 c256_i32_360 c0_i32_361
  let v531 : BitVec 32 := Scalar.addi v516 v530
  v531
def k0_off35 (d0 : Dev nD) (c256_i32_360 : BitVec 32) (c0_i32_361 : BitVec 32) : Fin 2 → Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_359 : BitVec 32 := 0#32
  let v529 : BitVec 1 := Scalar.cmpi .eq v8 c0_i32_359
  let v530 : BitVec 32 := Scalar.select v529 c256_i32_360 c0_i32_361
  let v531 : BitVec 32 := Scalar.addi v516 v530
  let v532 : BitVec 32 := v531
  let v533 : Index := Scalar.indexCast v532
  let c256_362 : Index := 256#32
  ![v533.toNat, 256]
def k0_off35_at (r : Fin 2) : BitVec 32 × BitVec 32 :=
  if r.val < 1 then
    (256#32, 0#32)
  else
    (0#32, 256#32)
def k0_off36 (d0 : Dev nD) : Fin 2 → Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_359 : BitVec 32 := 0#32
  let v529 : BitVec 1 := Scalar.cmpi .eq v8 c0_i32_359
  let c256_i32_360 : BitVec 32 := 256#32
  let c0_i32_361 : BitVec 32 := 0#32
  let v530 : BitVec 32 := Scalar.select v529 c256_i32_360 c0_i32_361
  let v531 : BitVec 32 := Scalar.addi v516 v530
  let v532 : BitVec 32 := v531
  let c256_i32_371 : BitVec 32 := 256#32
  ![v532.toNat, 256]
def k0_dev24 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_364 : BitVec 32 := 1#32
  let v540 : BitVec 32 := Scalar.xori v2 c1_i32_364
  let c1_i32_369 : BitVec 32 := 1#32
  let v541 : BitVec 32 := Scalar.muli v540 c1_i32_369
  let v542 : BitVec 32 := Scalar.addi c0_i32_370 v541
  v542.toNat
def k0_mult27 (d0 : Dev nD) : BitVec 32 :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  v557
def k0_mult28 (d0 : Dev nD) : BitVec 32 :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_388 : BitVec 32 := 0#32
  let v571 : BitVec 1 := Scalar.cmpi .eq v5 c0_i32_388
  let c256_i32_389 : BitVec 32 := 256#32
  let c0_i32_390 : BitVec 32 := 0#32
  let v572 : BitVec 32 := Scalar.select v571 c256_i32_389 c0_i32_390
  let v573 : BitVec 32 := Scalar.addi v558 v572
  v573
def k0_off37 (d0 : Dev nD) (c256_i32_389 : BitVec 32) (c0_i32_390 : BitVec 32) : Fin 2 → Nat :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_388 : BitVec 32 := 0#32
  let v571 : BitVec 1 := Scalar.cmpi .eq v5 c0_i32_388
  let v572 : BitVec 32 := Scalar.select v571 c256_i32_389 c0_i32_390
  let v573 : BitVec 32 := Scalar.addi v558 v572
  let v574 : BitVec 32 := v573
  let v575 : Index := Scalar.indexCast v574
  let c256_391 : Index := 256#32
  ![v575.toNat, 256]
def k0_off37_at (r : Fin 2) : BitVec 32 × BitVec 32 :=
  if r.val < 1 then
    (256#32, 0#32)
  else
    (0#32, 256#32)
def k0_off38 (d0 : Dev nD) : Fin 2 → Nat :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_388 : BitVec 32 := 0#32
  let v571 : BitVec 1 := Scalar.cmpi .eq v5 c0_i32_388
  let c256_i32_389 : BitVec 32 := 256#32
  let c0_i32_390 : BitVec 32 := 0#32
  let v572 : BitVec 32 := Scalar.select v571 c256_i32_389 c0_i32_390
  let v573 : BitVec 32 := Scalar.addi v558 v572
  let v574 : BitVec 32 := v573
  let c256_i32_400 : BitVec 32 := 256#32
  ![v574.toNat, 256]
def k0_dev25 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_393 : BitVec 32 := 3#32
  let v582 : BitVec 32 := Scalar.xori v2 c3_i32_393
  let c1_i32_398 : BitVec 32 := 1#32
  let v583 : BitVec 32 := Scalar.muli v582 c1_i32_398
  let v584 : BitVec 32 := Scalar.addi c0_i32_399 v583
  v584.toNat
def k0_mult29 (d0 : Dev nD) : BitVec 32 :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  v599
def k0_mult30 (d0 : Dev nD) : BitVec 32 :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_417 : BitVec 32 := 0#32
  let v613 : BitVec 1 := Scalar.cmpi .eq v5 c0_i32_417
  let c256_i32_418 : BitVec 32 := 256#32
  let c0_i32_419 : BitVec 32 := 0#32
  let v614 : BitVec 32 := Scalar.select v613 c256_i32_418 c0_i32_419
  let v615 : BitVec 32 := Scalar.addi v600 v614
  v615
def k0_off39 (d0 : Dev nD) (c256_i32_418 : BitVec 32) (c0_i32_419 : BitVec 32) : Fin 2 → Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_417 : BitVec 32 := 0#32
  let v613 : BitVec 1 := Scalar.cmpi .eq v5 c0_i32_417
  let v614 : BitVec 32 := Scalar.select v613 c256_i32_418 c0_i32_419
  let v615 : BitVec 32 := Scalar.addi v600 v614
  let v616 : BitVec 32 := v615
  let v617 : Index := Scalar.indexCast v616
  let c384_420 : Index := 384#32
  ![v617.toNat, 384]
def k0_off39_at (r : Fin 2) : BitVec 32 × BitVec 32 :=
  if r.val < 1 then
    (256#32, 0#32)
  else
    (0#32, 256#32)
def k0_off40 (d0 : Dev nD) : Fin 2 → Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_417 : BitVec 32 := 0#32
  let v613 : BitVec 1 := Scalar.cmpi .eq v5 c0_i32_417
  let c256_i32_418 : BitVec 32 := 256#32
  let c0_i32_419 : BitVec 32 := 0#32
  let v614 : BitVec 32 := Scalar.select v613 c256_i32_418 c0_i32_419
  let v615 : BitVec 32 := Scalar.addi v600 v614
  let v616 : BitVec 32 := v615
  let c384_i32_429 : BitVec 32 := 384#32
  ![v616.toNat, 384]
def k0_dev26 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_422 : BitVec 32 := 3#32
  let v624 : BitVec 32 := Scalar.xori v2 c3_i32_422
  let c1_i32_427 : BitVec 32 := 1#32
  let v625 : BitVec 32 := Scalar.muli v624 c1_i32_427
  let v626 : BitVec 32 := Scalar.addi c0_i32_428 v625
  v626.toNat
def k0_mult31 (d0 : Dev nD) : BitVec 32 :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  v641
def k0_mult32 (d0 : Dev nD) : BitVec 32 :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_446 : BitVec 32 := 0#32
  let v655 : BitVec 1 := Scalar.cmpi .eq v7 c0_i32_446
  let c256_i32_447 : BitVec 32 := 256#32
  let c0_i32_448 : BitVec 32 := 0#32
  let v656 : BitVec 32 := Scalar.select v655 c256_i32_447 c0_i32_448
  let v657 : BitVec 32 := Scalar.addi v642 v656
  v657
def k0_off41 (d0 : Dev nD) (c256_i32_447 : BitVec 32) (c0_i32_448 : BitVec 32) : Fin 2 → Nat :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_446 : BitVec 32 := 0#32
  let v655 : BitVec 1 := Scalar.cmpi .eq v7 c0_i32_446
  let v656 : BitVec 32 := Scalar.select v655 c256_i32_447 c0_i32_448
  let v657 : BitVec 32 := Scalar.addi v642 v656
  let v658 : BitVec 32 := v657
  let v659 : Index := Scalar.indexCast v658
  let c384_449 : Index := 384#32
  ![v659.toNat, 384]
def k0_off41_at (r : Fin 2) : BitVec 32 × BitVec 32 :=
  if r.val < 1 then
    (256#32, 0#32)
  else
    (0#32, 256#32)
def k0_off42 (d0 : Dev nD) : Fin 2 → Nat :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_446 : BitVec 32 := 0#32
  let v655 : BitVec 1 := Scalar.cmpi .eq v7 c0_i32_446
  let c256_i32_447 : BitVec 32 := 256#32
  let c0_i32_448 : BitVec 32 := 0#32
  let v656 : BitVec 32 := Scalar.select v655 c256_i32_447 c0_i32_448
  let v657 : BitVec 32 := Scalar.addi v642 v656
  let v658 : BitVec 32 := v657
  let c384_i32_458 : BitVec 32 := 384#32
  ![v658.toNat, 384]
def k0_dev27 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_451 : BitVec 32 := 4#32
  let v666 : BitVec 32 := Scalar.xori v2 c4_i32_451
  let c1_i32_456 : BitVec 32 := 1#32
  let v667 : BitVec 32 := Scalar.muli v666 c1_i32_456
  let v668 : BitVec 32 := Scalar.addi c0_i32_457 v667
  v668.toNat
def k0_mult33 (d0 : Dev nD) : BitVec 32 :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  v683
def k0_mult34 (d0 : Dev nD) : BitVec 32 :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_475 : BitVec 32 := 0#32
  let v697 : BitVec 1 := Scalar.cmpi .eq v7 c0_i32_475
  let c256_i32_476 : BitVec 32 := 256#32
  let c0_i32_477 : BitVec 32 := 0#32
  let v698 : BitVec 32 := Scalar.select v697 c256_i32_476 c0_i32_477
  let v699 : BitVec 32 := Scalar.addi v684 v698
  v699
def k0_off43 (d0 : Dev nD) (c256_i32_476 : BitVec 32) (c0_i32_477 : BitVec 32) : Fin 2 → Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_475 : BitVec 32 := 0#32
  let v697 : BitVec 1 := Scalar.cmpi .eq v7 c0_i32_475
  let v698 : BitVec 32 := Scalar.select v697 c256_i32_476 c0_i32_477
  let v699 : BitVec 32 := Scalar.addi v684 v698
  let v700 : BitVec 32 := v699
  let v701 : Index := Scalar.indexCast v700
  let c512_478 : Index := 512#32
  ![v701.toNat, 512]
def k0_off43_at (r : Fin 2) : BitVec 32 × BitVec 32 :=
  if r.val < 1 then
    (256#32, 0#32)
  else
    (0#32, 256#32)
def k0_off44 (d0 : Dev nD) : Fin 2 → Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_475 : BitVec 32 := 0#32
  let v697 : BitVec 1 := Scalar.cmpi .eq v7 c0_i32_475
  let c256_i32_476 : BitVec 32 := 256#32
  let c0_i32_477 : BitVec 32 := 0#32
  let v698 : BitVec 32 := Scalar.select v697 c256_i32_476 c0_i32_477
  let v699 : BitVec 32 := Scalar.addi v684 v698
  let v700 : BitVec 32 := v699
  let c512_i32_487 : BitVec 32 := 512#32
  ![v700.toNat, 512]
def k0_dev28 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_480 : BitVec 32 := 4#32
  let v708 : BitVec 32 := Scalar.xori v2 c4_i32_480
  let c1_i32_485 : BitVec 32 := 1#32
  let v709 : BitVec 32 := Scalar.muli v708 c1_i32_485
  let v710 : BitVec 32 := Scalar.addi c0_i32_486 v709
  v710.toNat
def k0_mult35 (d0 : Dev nD) : BitVec 32 :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  v725
def k0_mult36 (d0 : Dev nD) : BitVec 32 :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_504 : BitVec 32 := 0#32
  let v739 : BitVec 1 := Scalar.cmpi .eq v8 c0_i32_504
  let c256_i32_505 : BitVec 32 := 256#32
  let c0_i32_506 : BitVec 32 := 0#32
  let v740 : BitVec 32 := Scalar.select v739 c256_i32_505 c0_i32_506
  let v741 : BitVec 32 := Scalar.addi v726 v740
  v741
def k0_off45 (d0 : Dev nD) (c256_i32_505 : BitVec 32) (c0_i32_506 : BitVec 32) : Fin 2 → Nat :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_504 : BitVec 32 := 0#32
  let v739 : BitVec 1 := Scalar.cmpi .eq v8 c0_i32_504
  let v740 : BitVec 32 := Scalar.select v739 c256_i32_505 c0_i32_506
  let v741 : BitVec 32 := Scalar.addi v726 v740
  let v742 : BitVec 32 := v741
  let v743 : Index := Scalar.indexCast v742
  let c512_507 : Index := 512#32
  ![v743.toNat, 512]
def k0_off45_at (r : Fin 2) : BitVec 32 × BitVec 32 :=
  if r.val < 1 then
    (256#32, 0#32)
  else
    (0#32, 256#32)
def k0_off46 (d0 : Dev nD) : Fin 2 → Nat :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_504 : BitVec 32 := 0#32
  let v739 : BitVec 1 := Scalar.cmpi .eq v8 c0_i32_504
  let c256_i32_505 : BitVec 32 := 256#32
  let c0_i32_506 : BitVec 32 := 0#32
  let v740 : BitVec 32 := Scalar.select v739 c256_i32_505 c0_i32_506
  let v741 : BitVec 32 := Scalar.addi v726 v740
  let v742 : BitVec 32 := v741
  let c512_i32_516 : BitVec 32 := 512#32
  ![v742.toNat, 512]
def k0_dev29 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_509 : BitVec 32 := 1#32
  let v750 : BitVec 32 := Scalar.xori v2 c1_i32_509
  let c1_i32_514 : BitVec 32 := 1#32
  let v751 : BitVec 32 := Scalar.muli v750 c1_i32_514
  let v752 : BitVec 32 := Scalar.addi c0_i32_515 v751
  v752.toNat
def k0_mult37 (d0 : Dev nD) : BitVec 32 :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  v767
def k0_mult38 (d0 : Dev nD) : BitVec 32 :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_533 : BitVec 32 := 0#32
  let v781 : BitVec 1 := Scalar.cmpi .eq v8 c0_i32_533
  let c256_i32_534 : BitVec 32 := 256#32
  let c0_i32_535 : BitVec 32 := 0#32
  let v782 : BitVec 32 := Scalar.select v781 c256_i32_534 c0_i32_535
  let v783 : BitVec 32 := Scalar.addi v768 v782
  v783
def k0_off47 (d0 : Dev nD) (c256_i32_534 : BitVec 32) (c0_i32_535 : BitVec 32) : Fin 2 → Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_533 : BitVec 32 := 0#32
  let v781 : BitVec 1 := Scalar.cmpi .eq v8 c0_i32_533
  let v782 : BitVec 32 := Scalar.select v781 c256_i32_534 c0_i32_535
  let v783 : BitVec 32 := Scalar.addi v768 v782
  let v784 : BitVec 32 := v783
  let v785 : Index := Scalar.indexCast v784
  let c640_536 : Index := 640#32
  ![v785.toNat, 640]
def k0_off47_at (r : Fin 2) : BitVec 32 × BitVec 32 :=
  if r.val < 1 then
    (256#32, 0#32)
  else
    (0#32, 256#32)
def k0_off48 (d0 : Dev nD) : Fin 2 → Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_533 : BitVec 32 := 0#32
  let v781 : BitVec 1 := Scalar.cmpi .eq v8 c0_i32_533
  let c256_i32_534 : BitVec 32 := 256#32
  let c0_i32_535 : BitVec 32 := 0#32
  let v782 : BitVec 32 := Scalar.select v781 c256_i32_534 c0_i32_535
  let v783 : BitVec 32 := Scalar.addi v768 v782
  let v784 : BitVec 32 := v783
  let c640_i32_545 : BitVec 32 := 640#32
  ![v784.toNat, 640]
def k0_dev30 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_538 : BitVec 32 := 1#32
  let v792 : BitVec 32 := Scalar.xori v2 c1_i32_538
  let c1_i32_543 : BitVec 32 := 1#32
  let v793 : BitVec 32 := Scalar.muli v792 c1_i32_543
  let v794 : BitVec 32 := Scalar.addi c0_i32_544 v793
  v794.toNat
def k0_mult39 (d0 : Dev nD) : BitVec 32 :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  v809
def k0_mult40 (d0 : Dev nD) : BitVec 32 :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_562 : BitVec 32 := 0#32
  let v823 : BitVec 1 := Scalar.cmpi .eq v5 c0_i32_562
  let c256_i32_563 : BitVec 32 := 256#32
  let c0_i32_564 : BitVec 32 := 0#32
  let v824 : BitVec 32 := Scalar.select v823 c256_i32_563 c0_i32_564
  let v825 : BitVec 32 := Scalar.addi v810 v824
  v825
def k0_off49 (d0 : Dev nD) (c256_i32_563 : BitVec 32) (c0_i32_564 : BitVec 32) : Fin 2 → Nat :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_562 : BitVec 32 := 0#32
  let v823 : BitVec 1 := Scalar.cmpi .eq v5 c0_i32_562
  let v824 : BitVec 32 := Scalar.select v823 c256_i32_563 c0_i32_564
  let v825 : BitVec 32 := Scalar.addi v810 v824
  let v826 : BitVec 32 := v825
  let v827 : Index := Scalar.indexCast v826
  let c640_565 : Index := 640#32
  ![v827.toNat, 640]
def k0_off49_at (r : Fin 2) : BitVec 32 × BitVec 32 :=
  if r.val < 1 then
    (256#32, 0#32)
  else
    (0#32, 256#32)
def k0_off50 (d0 : Dev nD) : Fin 2 → Nat :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_562 : BitVec 32 := 0#32
  let v823 : BitVec 1 := Scalar.cmpi .eq v5 c0_i32_562
  let c256_i32_563 : BitVec 32 := 256#32
  let c0_i32_564 : BitVec 32 := 0#32
  let v824 : BitVec 32 := Scalar.select v823 c256_i32_563 c0_i32_564
  let v825 : BitVec 32 := Scalar.addi v810 v824
  let v826 : BitVec 32 := v825
  let c640_i32_574 : BitVec 32 := 640#32
  ![v826.toNat, 640]
def k0_dev31 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_567 : BitVec 32 := 3#32
  let v834 : BitVec 32 := Scalar.xori v2 c3_i32_567
  let c1_i32_572 : BitVec 32 := 1#32
  let v835 : BitVec 32 := Scalar.muli v834 c1_i32_572
  let v836 : BitVec 32 := Scalar.addi c0_i32_573 v835
  v836.toNat
def k0_mult41 (d0 : Dev nD) : BitVec 32 :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  v851
def k0_mult42 (d0 : Dev nD) : BitVec 32 :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_591 : BitVec 32 := 0#32
  let v865 : BitVec 1 := Scalar.cmpi .eq v5 c0_i32_591
  let c256_i32_592 : BitVec 32 := 256#32
  let c0_i32_593 : BitVec 32 := 0#32
  let v866 : BitVec 32 := Scalar.select v865 c256_i32_592 c0_i32_593
  let v867 : BitVec 32 := Scalar.addi v852 v866
  v867
def k0_off51 (d0 : Dev nD) (c256_i32_592 : BitVec 32) (c0_i32_593 : BitVec 32) : Fin 2 → Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_591 : BitVec 32 := 0#32
  let v865 : BitVec 1 := Scalar.cmpi .eq v5 c0_i32_591
  let v866 : BitVec 32 := Scalar.select v865 c256_i32_592 c0_i32_593
  let v867 : BitVec 32 := Scalar.addi v852 v866
  let v868 : BitVec 32 := v867
  let v869 : Index := Scalar.indexCast v868
  let c768_594 : Index := 768#32
  ![v869.toNat, 768]
def k0_off51_at (r : Fin 2) : BitVec 32 × BitVec 32 :=
  if r.val < 1 then
    (256#32, 0#32)
  else
    (0#32, 256#32)
def k0_off52 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_591 : BitVec 32 := 0#32
  let v865 : BitVec 1 := Scalar.cmpi .eq v5 c0_i32_591
  let c256_i32_592 : BitVec 32 := 256#32
  let c0_i32_593 : BitVec 32 := 0#32
  let v866 : BitVec 32 := Scalar.select v865 c256_i32_592 c0_i32_593
  let v867 : BitVec 32 := Scalar.addi v852 v866
  let v868 : BitVec 32 := v867
  let c768_i32_603 : BitVec 32 := 768#32
  ![v868.toNat, 768]
def k0_dev32 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_596 : BitVec 32 := 3#32
  let v876 : BitVec 32 := Scalar.xori v2 c3_i32_596
  let c1_i32_601 : BitVec 32 := 1#32
  let v877 : BitVec 32 := Scalar.muli v876 c1_i32_601
  let v878 : BitVec 32 := Scalar.addi c0_i32_602 v877
  v878.toNat
def k0_mult43 (d0 : Dev nD) : BitVec 32 :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  v893
def k0_mult44 (d0 : Dev nD) : BitVec 32 :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_620 : BitVec 32 := 0#32
  let v907 : BitVec 1 := Scalar.cmpi .eq v7 c0_i32_620
  let c256_i32_621 : BitVec 32 := 256#32
  let c0_i32_622 : BitVec 32 := 0#32
  let v908 : BitVec 32 := Scalar.select v907 c256_i32_621 c0_i32_622
  let v909 : BitVec 32 := Scalar.addi v894 v908
  v909
def k0_off53 (d0 : Dev nD) (c256_i32_621 : BitVec 32) (c0_i32_622 : BitVec 32) : Fin 2 → Nat :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_620 : BitVec 32 := 0#32
  let v907 : BitVec 1 := Scalar.cmpi .eq v7 c0_i32_620
  let v908 : BitVec 32 := Scalar.select v907 c256_i32_621 c0_i32_622
  let v909 : BitVec 32 := Scalar.addi v894 v908
  let v910 : BitVec 32 := v909
  let v911 : Index := Scalar.indexCast v910
  let c768_623 : Index := 768#32
  ![v911.toNat, 768]
def k0_off53_at (r : Fin 2) : BitVec 32 × BitVec 32 :=
  if r.val < 1 then
    (256#32, 0#32)
  else
    (0#32, 256#32)
def k0_off54 (d0 : Dev nD) : Fin 2 → Nat :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_620 : BitVec 32 := 0#32
  let v907 : BitVec 1 := Scalar.cmpi .eq v7 c0_i32_620
  let c256_i32_621 : BitVec 32 := 256#32
  let c0_i32_622 : BitVec 32 := 0#32
  let v908 : BitVec 32 := Scalar.select v907 c256_i32_621 c0_i32_622
  let v909 : BitVec 32 := Scalar.addi v894 v908
  let v910 : BitVec 32 := v909
  let c768_i32_632 : BitVec 32 := 768#32
  ![v910.toNat, 768]
def k0_dev33 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_625 : BitVec 32 := 4#32
  let v918 : BitVec 32 := Scalar.xori v2 c4_i32_625
  let c1_i32_630 : BitVec 32 := 1#32
  let v919 : BitVec 32 := Scalar.muli v918 c1_i32_630
  let v920 : BitVec 32 := Scalar.addi c0_i32_631 v919
  v920.toNat
def k0_mult45 (d0 : Dev nD) : BitVec 32 :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  v935
def k0_mult46 (d0 : Dev nD) : BitVec 32 :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_649 : BitVec 32 := 0#32
  let v949 : BitVec 1 := Scalar.cmpi .eq v7 c0_i32_649
  let c256_i32_650 : BitVec 32 := 256#32
  let c0_i32_651 : BitVec 32 := 0#32
  let v950 : BitVec 32 := Scalar.select v949 c256_i32_650 c0_i32_651
  let v951 : BitVec 32 := Scalar.addi v936 v950
  v951
def k0_off55 (d0 : Dev nD) (c256_i32_650 : BitVec 32) (c0_i32_651 : BitVec 32) : Fin 2 → Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_649 : BitVec 32 := 0#32
  let v949 : BitVec 1 := Scalar.cmpi .eq v7 c0_i32_649
  let v950 : BitVec 32 := Scalar.select v949 c256_i32_650 c0_i32_651
  let v951 : BitVec 32 := Scalar.addi v936 v950
  let v952 : BitVec 32 := v951
  let v953 : Index := Scalar.indexCast v952
  let c896_652 : Index := 896#32
  ![v953.toNat, 896]
def k0_off55_at (r : Fin 2) : BitVec 32 × BitVec 32 :=
  if r.val < 1 then
    (256#32, 0#32)
  else
    (0#32, 256#32)
def k0_off56 (d0 : Dev nD) : Fin 2 → Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_649 : BitVec 32 := 0#32
  let v949 : BitVec 1 := Scalar.cmpi .eq v7 c0_i32_649
  let c256_i32_650 : BitVec 32 := 256#32
  let c0_i32_651 : BitVec 32 := 0#32
  let v950 : BitVec 32 := Scalar.select v949 c256_i32_650 c0_i32_651
  let v951 : BitVec 32 := Scalar.addi v936 v950
  let v952 : BitVec 32 := v951
  let c896_i32_661 : BitVec 32 := 896#32
  ![v952.toNat, 896]
def k0_dev34 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_654 : BitVec 32 := 4#32
  let v960 : BitVec 32 := Scalar.xori v2 c4_i32_654
  let c1_i32_659 : BitVec 32 := 1#32
  let v961 : BitVec 32 := Scalar.muli v960 c1_i32_659
  let v962 : BitVec 32 := Scalar.addi c0_i32_660 v961
  v962.toNat
def k0_mult47 (d0 : Dev nD) : BitVec 32 :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  v977
def k0_mult48 (d0 : Dev nD) : BitVec 32 :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_678 : BitVec 32 := 0#32
  let v991 : BitVec 1 := Scalar.cmpi .eq v8 c0_i32_678
  let c256_i32_679 : BitVec 32 := 256#32
  let c0_i32_680 : BitVec 32 := 0#32
  let v992 : BitVec 32 := Scalar.select v991 c256_i32_679 c0_i32_680
  let v993 : BitVec 32 := Scalar.addi v978 v992
  v993
def k0_off57 (d0 : Dev nD) (c256_i32_679 : BitVec 32) (c0_i32_680 : BitVec 32) : Fin 2 → Nat :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_678 : BitVec 32 := 0#32
  let v991 : BitVec 1 := Scalar.cmpi .eq v8 c0_i32_678
  let v992 : BitVec 32 := Scalar.select v991 c256_i32_679 c0_i32_680
  let v993 : BitVec 32 := Scalar.addi v978 v992
  let v994 : BitVec 32 := v993
  let v995 : Index := Scalar.indexCast v994
  let c896_681 : Index := 896#32
  ![v995.toNat, 896]
def k0_off57_at (r : Fin 2) : BitVec 32 × BitVec 32 :=
  if r.val < 1 then
    (256#32, 0#32)
  else
    (0#32, 256#32)
def k0_off58 (d0 : Dev nD) : Fin 2 → Nat :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_678 : BitVec 32 := 0#32
  let v991 : BitVec 1 := Scalar.cmpi .eq v8 c0_i32_678
  let c256_i32_679 : BitVec 32 := 256#32
  let c0_i32_680 : BitVec 32 := 0#32
  let v992 : BitVec 32 := Scalar.select v991 c256_i32_679 c0_i32_680
  let v993 : BitVec 32 := Scalar.addi v978 v992
  let v994 : BitVec 32 := v993
  let c896_i32_690 : BitVec 32 := 896#32
  ![v994.toNat, 896]
def k0_dev35 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_683 : BitVec 32 := 1#32
  let v1002 : BitVec 32 := Scalar.xori v2 c1_i32_683
  let c1_i32_688 : BitVec 32 := 1#32
  let v1003 : BitVec 32 := Scalar.muli v1002 c1_i32_688
  let v1004 : BitVec 32 := Scalar.addi c0_i32_689 v1003
  v1004.toNat
def k0_mult49 (d0 : Dev nD) : BitVec 32 :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  v1019
def k0_mult50 (d0 : Dev nD) : BitVec 32 :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  v1020
def k0_off59 (d0 : Dev nD) : Fin 2 → Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  let v1031 : BitVec 32 := v1020
  let v1032 : Index := Scalar.indexCast v1031
  let c0_706 : Index := 0#32
  ![v1032.toNat, 0]
def k0_off60 (d0 : Dev nD) : Fin 2 → Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  let v1031 : BitVec 32 := v1020
  let c0_i32_715 : BitVec 32 := 0#32
  ![v1031.toNat, 0]
def k0_dev36 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_708 : BitVec 32 := 4#32
  let v1039 : BitVec 32 := Scalar.xori v2 c4_i32_708
  let c1_i32_713 : BitVec 32 := 1#32
  let v1040 : BitVec 32 := Scalar.muli v1039 c1_i32_713
  let v1041 : BitVec 32 := Scalar.addi c0_i32_714 v1040
  v1041.toNat
def k0_mult51 (d0 : Dev nD) : BitVec 32 :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  v1056
def k0_mult52 (d0 : Dev nD) : BitVec 32 :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  v1057
def k0_off61 (d0 : Dev nD) : Fin 2 → Nat :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  let v1068 : BitVec 32 := v1057
  let v1069 : Index := Scalar.indexCast v1068
  let c0_731 : Index := 0#32
  ![v1069.toNat, 0]
def k0_off62 (d0 : Dev nD) : Fin 2 → Nat :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  let v1068 : BitVec 32 := v1057
  let c0_i32_740 : BitVec 32 := 0#32
  ![v1068.toNat, 0]
def k0_dev37 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_733 : BitVec 32 := 1#32
  let v1076 : BitVec 32 := Scalar.xori v2 c1_i32_733
  let c1_i32_738 : BitVec 32 := 1#32
  let v1077 : BitVec 32 := Scalar.muli v1076 c1_i32_738
  let v1078 : BitVec 32 := Scalar.addi c0_i32_739 v1077
  v1078.toNat
def k0_mult53 (d0 : Dev nD) : BitVec 32 :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  v1093
def k0_mult54 (d0 : Dev nD) : BitVec 32 :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  v1094
def k0_off63 (d0 : Dev nD) : Fin 2 → Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  let v1105 : BitVec 32 := v1094
  let v1106 : Index := Scalar.indexCast v1105
  let c128_756 : Index := 128#32
  ![v1106.toNat, 128]
def k0_off64 (d0 : Dev nD) : Fin 2 → Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  let v1105 : BitVec 32 := v1094
  let c128_i32_765 : BitVec 32 := 128#32
  ![v1105.toNat, 128]
def k0_dev38 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_758 : BitVec 32 := 1#32
  let v1113 : BitVec 32 := Scalar.xori v2 c1_i32_758
  let c1_i32_763 : BitVec 32 := 1#32
  let v1114 : BitVec 32 := Scalar.muli v1113 c1_i32_763
  let v1115 : BitVec 32 := Scalar.addi c0_i32_764 v1114
  v1115.toNat
def k0_mult55 (d0 : Dev nD) : BitVec 32 :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  v1130
def k0_mult56 (d0 : Dev nD) : BitVec 32 :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  v1131
def k0_off65 (d0 : Dev nD) : Fin 2 → Nat :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  let v1142 : BitVec 32 := v1131
  let v1143 : Index := Scalar.indexCast v1142
  let c128_781 : Index := 128#32
  ![v1143.toNat, 128]
def k0_off66 (d0 : Dev nD) : Fin 2 → Nat :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  let v1142 : BitVec 32 := v1131
  let c128_i32_790 : BitVec 32 := 128#32
  ![v1142.toNat, 128]
def k0_dev39 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_783 : BitVec 32 := 3#32
  let v1150 : BitVec 32 := Scalar.xori v2 c3_i32_783
  let c1_i32_788 : BitVec 32 := 1#32
  let v1151 : BitVec 32 := Scalar.muli v1150 c1_i32_788
  let v1152 : BitVec 32 := Scalar.addi c0_i32_789 v1151
  v1152.toNat
def k0_mult57 (d0 : Dev nD) : BitVec 32 :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  v1167
def k0_mult58 (d0 : Dev nD) : BitVec 32 :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  v1168
def k0_off67 (d0 : Dev nD) : Fin 2 → Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  let v1179 : BitVec 32 := v1168
  let v1180 : Index := Scalar.indexCast v1179
  let c256_806 : Index := 256#32
  ![v1180.toNat, 256]
def k0_off68 (d0 : Dev nD) : Fin 2 → Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  let v1179 : BitVec 32 := v1168
  let c256_i32_815 : BitVec 32 := 256#32
  ![v1179.toNat, 256]
def k0_dev40 (d0 : Dev nD) : Nat :=
  let c0_i32_814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_808 : BitVec 32 := 3#32
  let v1187 : BitVec 32 := Scalar.xori v2 c3_i32_808
  let c1_i32_813 : BitVec 32 := 1#32
  let v1188 : BitVec 32 := Scalar.muli v1187 c1_i32_813
  let v1189 : BitVec 32 := Scalar.addi c0_i32_814 v1188
  v1189.toNat
def k0_mult59 (d0 : Dev nD) : BitVec 32 :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  v1204
def k0_mult60 (d0 : Dev nD) : BitVec 32 :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  v1205
def k0_off69 (d0 : Dev nD) : Fin 2 → Nat :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  let v1216 : BitVec 32 := v1205
  let v1217 : Index := Scalar.indexCast v1216
  let c256_831 : Index := 256#32
  ![v1217.toNat, 256]
def k0_off70 (d0 : Dev nD) : Fin 2 → Nat :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  let v1216 : BitVec 32 := v1205
  let c256_i32_840 : BitVec 32 := 256#32
  ![v1216.toNat, 256]
def k0_dev41 (d0 : Dev nD) : Nat :=
  let c0_i32_839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_833 : BitVec 32 := 4#32
  let v1224 : BitVec 32 := Scalar.xori v2 c4_i32_833
  let c1_i32_838 : BitVec 32 := 1#32
  let v1225 : BitVec 32 := Scalar.muli v1224 c1_i32_838
  let v1226 : BitVec 32 := Scalar.addi c0_i32_839 v1225
  v1226.toNat
def k0_mult61 (d0 : Dev nD) : BitVec 32 :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  v1241
def k0_mult62 (d0 : Dev nD) : BitVec 32 :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  v1242
def k0_off71 (d0 : Dev nD) : Fin 2 → Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  let v1253 : BitVec 32 := v1242
  let v1254 : Index := Scalar.indexCast v1253
  let c384_856 : Index := 384#32
  ![v1254.toNat, 384]
def k0_off72 (d0 : Dev nD) : Fin 2 → Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  let v1253 : BitVec 32 := v1242
  let c384_i32_865 : BitVec 32 := 384#32
  ![v1253.toNat, 384]
def k0_dev42 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_858 : BitVec 32 := 4#32
  let v1261 : BitVec 32 := Scalar.xori v2 c4_i32_858
  let c1_i32_863 : BitVec 32 := 1#32
  let v1262 : BitVec 32 := Scalar.muli v1261 c1_i32_863
  let v1263 : BitVec 32 := Scalar.addi c0_i32_864 v1262
  v1263.toNat
def k0_mult63 (d0 : Dev nD) : BitVec 32 :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  v1278
def k0_mult64 (d0 : Dev nD) : BitVec 32 :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  v1279
def k0_off73 (d0 : Dev nD) : Fin 2 → Nat :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  let v1290 : BitVec 32 := v1279
  let v1291 : Index := Scalar.indexCast v1290
  let c384_881 : Index := 384#32
  ![v1291.toNat, 384]
def k0_off74 (d0 : Dev nD) : Fin 2 → Nat :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  let v1290 : BitVec 32 := v1279
  let c384_i32_890 : BitVec 32 := 384#32
  ![v1290.toNat, 384]
def k0_dev43 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_883 : BitVec 32 := 1#32
  let v1298 : BitVec 32 := Scalar.xori v2 c1_i32_883
  let c1_i32_888 : BitVec 32 := 1#32
  let v1299 : BitVec 32 := Scalar.muli v1298 c1_i32_888
  let v1300 : BitVec 32 := Scalar.addi c0_i32_889 v1299
  v1300.toNat
def k0_mult65 (d0 : Dev nD) : BitVec 32 :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  v1315
def k0_mult66 (d0 : Dev nD) : BitVec 32 :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  v1316
def k0_off75 (d0 : Dev nD) : Fin 2 → Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  let v1327 : BitVec 32 := v1316
  let v1328 : Index := Scalar.indexCast v1327
  let c512_906 : Index := 512#32
  ![v1328.toNat, 512]
def k0_off76 (d0 : Dev nD) : Fin 2 → Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  let v1327 : BitVec 32 := v1316
  let c512_i32_915 : BitVec 32 := 512#32
  ![v1327.toNat, 512]
def k0_dev44 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_908 : BitVec 32 := 1#32
  let v1335 : BitVec 32 := Scalar.xori v2 c1_i32_908
  let c1_i32_913 : BitVec 32 := 1#32
  let v1336 : BitVec 32 := Scalar.muli v1335 c1_i32_913
  let v1337 : BitVec 32 := Scalar.addi c0_i32_914 v1336
  v1337.toNat
def k0_mult67 (d0 : Dev nD) : BitVec 32 :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  v1352
def k0_mult68 (d0 : Dev nD) : BitVec 32 :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  v1353
def k0_off77 (d0 : Dev nD) : Fin 2 → Nat :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  let v1364 : BitVec 32 := v1353
  let v1365 : Index := Scalar.indexCast v1364
  let c512_931 : Index := 512#32
  ![v1365.toNat, 512]
def k0_off78 (d0 : Dev nD) : Fin 2 → Nat :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  let v1364 : BitVec 32 := v1353
  let c512_i32_940 : BitVec 32 := 512#32
  ![v1364.toNat, 512]
def k0_dev45 (d0 : Dev nD) : Nat :=
  let c0_i32_939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_933 : BitVec 32 := 3#32
  let v1372 : BitVec 32 := Scalar.xori v2 c3_i32_933
  let c1_i32_938 : BitVec 32 := 1#32
  let v1373 : BitVec 32 := Scalar.muli v1372 c1_i32_938
  let v1374 : BitVec 32 := Scalar.addi c0_i32_939 v1373
  v1374.toNat
def k0_mult69 (d0 : Dev nD) : BitVec 32 :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  v1389
def k0_mult70 (d0 : Dev nD) : BitVec 32 :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  v1390
def k0_off79 (d0 : Dev nD) : Fin 2 → Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  let v1401 : BitVec 32 := v1390
  let v1402 : Index := Scalar.indexCast v1401
  let c640_956 : Index := 640#32
  ![v1402.toNat, 640]
def k0_off80 (d0 : Dev nD) : Fin 2 → Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  let v1401 : BitVec 32 := v1390
  let c640_i32_965 : BitVec 32 := 640#32
  ![v1401.toNat, 640]
def k0_dev46 (d0 : Dev nD) : Nat :=
  let c0_i32_964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_958 : BitVec 32 := 3#32
  let v1409 : BitVec 32 := Scalar.xori v2 c3_i32_958
  let c1_i32_963 : BitVec 32 := 1#32
  let v1410 : BitVec 32 := Scalar.muli v1409 c1_i32_963
  let v1411 : BitVec 32 := Scalar.addi c0_i32_964 v1410
  v1411.toNat
def k0_mult71 (d0 : Dev nD) : BitVec 32 :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  v1426
def k0_mult72 (d0 : Dev nD) : BitVec 32 :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  v1427
def k0_off81 (d0 : Dev nD) : Fin 2 → Nat :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  let v1438 : BitVec 32 := v1427
  let v1439 : Index := Scalar.indexCast v1438
  let c640_981 : Index := 640#32
  ![v1439.toNat, 640]
def k0_off82 (d0 : Dev nD) : Fin 2 → Nat :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  let v1438 : BitVec 32 := v1427
  let c640_i32_990 : BitVec 32 := 640#32
  ![v1438.toNat, 640]
def k0_dev47 (d0 : Dev nD) : Nat :=
  let c0_i32_989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_983 : BitVec 32 := 4#32
  let v1446 : BitVec 32 := Scalar.xori v2 c4_i32_983
  let c1_i32_988 : BitVec 32 := 1#32
  let v1447 : BitVec 32 := Scalar.muli v1446 c1_i32_988
  let v1448 : BitVec 32 := Scalar.addi c0_i32_989 v1447
  v1448.toNat
def k0_mult73 (d0 : Dev nD) : BitVec 32 :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  v1463
def k0_mult74 (d0 : Dev nD) : BitVec 32 :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  v1464
def k0_off83 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  let v1475 : BitVec 32 := v1464
  let v1476 : Index := Scalar.indexCast v1475
  let c768_1006 : Index := 768#32
  ![v1476.toNat, 768]
def k0_off84 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  let v1475 : BitVec 32 := v1464
  let c768_i32_1015 : BitVec 32 := 768#32
  ![v1475.toNat, 768]
def k0_dev48 (d0 : Dev nD) : Nat :=
  let c0_i32_1014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1008 : BitVec 32 := 4#32
  let v1483 : BitVec 32 := Scalar.xori v2 c4_i32_1008
  let c1_i32_1013 : BitVec 32 := 1#32
  let v1484 : BitVec 32 := Scalar.muli v1483 c1_i32_1013
  let v1485 : BitVec 32 := Scalar.addi c0_i32_1014 v1484
  v1485.toNat
def k0_mult75 (d0 : Dev nD) : BitVec 32 :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  v1500
def k0_mult76 (d0 : Dev nD) : BitVec 32 :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  v1501
def k0_off85 (d0 : Dev nD) : Fin 2 → Nat :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  let v1512 : BitVec 32 := v1501
  let v1513 : Index := Scalar.indexCast v1512
  let c768_1031 : Index := 768#32
  ![v1513.toNat, 768]
def k0_off86 (d0 : Dev nD) : Fin 2 → Nat :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  let v1512 : BitVec 32 := v1501
  let c768_i32_1040 : BitVec 32 := 768#32
  ![v1512.toNat, 768]
def k0_dev49 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1033 : BitVec 32 := 1#32
  let v1520 : BitVec 32 := Scalar.xori v2 c1_i32_1033
  let c1_i32_1038 : BitVec 32 := 1#32
  let v1521 : BitVec 32 := Scalar.muli v1520 c1_i32_1038
  let v1522 : BitVec 32 := Scalar.addi c0_i32_1039 v1521
  v1522.toNat
def k0_mult77 (d0 : Dev nD) : BitVec 32 :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  v1537
def k0_mult78 (d0 : Dev nD) : BitVec 32 :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  v1538
def k0_off87 (d0 : Dev nD) : Fin 2 → Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  let v1549 : BitVec 32 := v1538
  let v1550 : Index := Scalar.indexCast v1549
  let c896_1056 : Index := 896#32
  ![v1550.toNat, 896]
def k0_off88 (d0 : Dev nD) : Fin 2 → Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  let v1549 : BitVec 32 := v1538
  let c896_i32_1065 : BitVec 32 := 896#32
  ![v1549.toNat, 896]
def k0_dev50 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1058 : BitVec 32 := 1#32
  let v1557 : BitVec 32 := Scalar.xori v2 c1_i32_1058
  let c1_i32_1063 : BitVec 32 := 1#32
  let v1558 : BitVec 32 := Scalar.muli v1557 c1_i32_1063
  let v1559 : BitVec 32 := Scalar.addi c0_i32_1064 v1558
  v1559.toNat
def k0_mult79 (d0 : Dev nD) : BitVec 32 :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  v1574
def k0_mult80 (d0 : Dev nD) : BitVec 32 :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  v1575
def k0_off89 (d0 : Dev nD) : Fin 2 → Nat :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  let v1586 : BitVec 32 := v1575
  let v1587 : Index := Scalar.indexCast v1586
  let c896_1081 : Index := 896#32
  ![v1587.toNat, 896]
def k0_off90 (d0 : Dev nD) : Fin 2 → Nat :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  let v1586 : BitVec 32 := v1575
  let c896_i32_1090 : BitVec 32 := 896#32
  ![v1586.toNat, 896]
def k0_dev51 (d0 : Dev nD) : Nat :=
  let c0_i32_1089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1083 : BitVec 32 := 3#32
  let v1594 : BitVec 32 := Scalar.xori v2 c3_i32_1083
  let c1_i32_1088 : BitVec 32 := 1#32
  let v1595 : BitVec 32 := Scalar.muli v1594 c1_i32_1088
  let v1596 : BitVec 32 := Scalar.addi c0_i32_1089 v1595
  v1596.toNat
def k0_mult81 (d0 : Dev nD) : BitVec 32 :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  v1020
def k0_mult82 (d0 : Dev nD) : BitVec 32 :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  v1020
def k0_dev52 (d0 : Dev nD) : Nat :=
  let c0_i32_1110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1104 : BitVec 32 := 3#32
  let v1629 : BitVec 32 := Scalar.xori v2 c3_i32_1104
  let c1_i32_1109 : BitVec 32 := 1#32
  let v1630 : BitVec 32 := Scalar.muli v1629 c1_i32_1109
  let v1631 : BitVec 32 := Scalar.addi c0_i32_1110 v1630
  v1631.toNat
def k0_mult83 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1103 : BitVec 32 := 0#32
  let v1627 : BitVec 1 := Scalar.cmpi .eq v5 c0_i32_1103
  let c0_i32_239 : BitVec 32 := 0#32
  let c1_i32_0 : BitVec 32 := 1#32
  let v3 : BitVec 32 := Scalar.andi v2 c1_i32_0
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  let v1628 : BitVec 32 := v1020
  let c256_i32_1113 : BitVec 32 := 256#32
  let v1638 : BitVec 32 := Scalar.addi v1628 c256_i32_1113
  let c256_i32_1114 : BitVec 32 := 256#32
  let v1639 : BitVec 32 := Scalar.subi v1628 c256_i32_1114
  let v1640 : BitVec 32 := Scalar.select v1627 v1638 v1639
  v1640
def k0_mult84 (d0 : Dev nD) : BitVec 32 :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  v1057
def k0_mult85 (d0 : Dev nD) : BitVec 32 :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  v1057
def k0_dev53 (d0 : Dev nD) : Nat :=
  let c0_i32_1135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1129 : BitVec 32 := 4#32
  let v1669 : BitVec 32 := Scalar.xori v2 c4_i32_1129
  let c1_i32_1134 : BitVec 32 := 1#32
  let v1670 : BitVec 32 := Scalar.muli v1669 c1_i32_1134
  let v1671 : BitVec 32 := Scalar.addi c0_i32_1135 v1670
  v1671.toNat
def k0_mult86 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1128 : BitVec 32 := 0#32
  let v1667 : BitVec 1 := Scalar.cmpi .eq v7 c0_i32_1128
  let c1024_i32_268 : BitVec 32 := 1024#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  let v1668 : BitVec 32 := v1057
  let c256_i32_1138 : BitVec 32 := 256#32
  let v1678 : BitVec 32 := Scalar.addi v1668 c256_i32_1138
  let c256_i32_1139 : BitVec 32 := 256#32
  let v1679 : BitVec 32 := Scalar.subi v1668 c256_i32_1139
  let v1680 : BitVec 32 := Scalar.select v1667 v1678 v1679
  v1680
def k0_mult87 (d0 : Dev nD) : BitVec 32 :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  v1094
def k0_mult88 (d0 : Dev nD) : BitVec 32 :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  v1094
def k0_dev54 (d0 : Dev nD) : Nat :=
  let c0_i32_1160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1154 : BitVec 32 := 4#32
  let v1709 : BitVec 32 := Scalar.xori v2 c4_i32_1154
  let c1_i32_1159 : BitVec 32 := 1#32
  let v1710 : BitVec 32 := Scalar.muli v1709 c1_i32_1159
  let v1711 : BitVec 32 := Scalar.addi c0_i32_1160 v1710
  v1711.toNat
def k0_mult89 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1153 : BitVec 32 := 0#32
  let v1707 : BitVec 1 := Scalar.cmpi .eq v7 c0_i32_1153
  let c0_i32_297 : BitVec 32 := 0#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  let v1708 : BitVec 32 := v1094
  let c256_i32_1163 : BitVec 32 := 256#32
  let v1718 : BitVec 32 := Scalar.addi v1708 c256_i32_1163
  let c256_i32_1164 : BitVec 32 := 256#32
  let v1719 : BitVec 32 := Scalar.subi v1708 c256_i32_1164
  let v1720 : BitVec 32 := Scalar.select v1707 v1718 v1719
  v1720
def k0_mult90 (d0 : Dev nD) : BitVec 32 :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  v1131
def k0_mult91 (d0 : Dev nD) : BitVec 32 :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  v1131
def k0_dev55 (d0 : Dev nD) : Nat :=
  let c0_i32_1185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1179 : BitVec 32 := 1#32
  let v1749 : BitVec 32 := Scalar.xori v2 c1_i32_1179
  let c1_i32_1184 : BitVec 32 := 1#32
  let v1750 : BitVec 32 := Scalar.muli v1749 c1_i32_1184
  let v1751 : BitVec 32 := Scalar.addi c0_i32_1185 v1750
  v1751.toNat
def k0_mult92 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1178 : BitVec 32 := 0#32
  let v1747 : BitVec 1 := Scalar.cmpi .eq v8 c0_i32_1178
  let c1024_i32_326 : BitVec 32 := 1024#32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  let v1748 : BitVec 32 := v1131
  let c256_i32_1188 : BitVec 32 := 256#32
  let v1758 : BitVec 32 := Scalar.addi v1748 c256_i32_1188
  let c256_i32_1189 : BitVec 32 := 256#32
  let v1759 : BitVec 32 := Scalar.subi v1748 c256_i32_1189
  let v1760 : BitVec 32 := Scalar.select v1747 v1758 v1759
  v1760
def k0_mult93 (d0 : Dev nD) : BitVec 32 :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  v1168
def k0_mult94 (d0 : Dev nD) : BitVec 32 :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  v1168
def k0_dev56 (d0 : Dev nD) : Nat :=
  let c0_i32_1210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1204 : BitVec 32 := 1#32
  let v1789 : BitVec 32 := Scalar.xori v2 c1_i32_1204
  let c1_i32_1209 : BitVec 32 := 1#32
  let v1790 : BitVec 32 := Scalar.muli v1789 c1_i32_1209
  let v1791 : BitVec 32 := Scalar.addi c0_i32_1210 v1790
  v1791.toNat
def k0_mult95 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1203 : BitVec 32 := 0#32
  let v1787 : BitVec 1 := Scalar.cmpi .eq v8 c0_i32_1203
  let c0_i32_355 : BitVec 32 := 0#32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  let v1788 : BitVec 32 := v1168
  let c256_i32_1213 : BitVec 32 := 256#32
  let v1798 : BitVec 32 := Scalar.addi v1788 c256_i32_1213
  let c256_i32_1214 : BitVec 32 := 256#32
  let v1799 : BitVec 32 := Scalar.subi v1788 c256_i32_1214
  let v1800 : BitVec 32 := Scalar.select v1787 v1798 v1799
  v1800
def k0_mult96 (d0 : Dev nD) : BitVec 32 :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  v1205
def k0_mult97 (d0 : Dev nD) : BitVec 32 :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  v1205
def k0_dev57 (d0 : Dev nD) : Nat :=
  let c0_i32_1235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1229 : BitVec 32 := 3#32
  let v1829 : BitVec 32 := Scalar.xori v2 c3_i32_1229
  let c1_i32_1234 : BitVec 32 := 1#32
  let v1830 : BitVec 32 := Scalar.muli v1829 c1_i32_1234
  let v1831 : BitVec 32 := Scalar.addi c0_i32_1235 v1830
  v1831.toNat
def k0_mult98 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1228 : BitVec 32 := 0#32
  let v1827 : BitVec 1 := Scalar.cmpi .eq v5 c0_i32_1228
  let c1024_i32_384 : BitVec 32 := 1024#32
  let c1_i32_0 : BitVec 32 := 1#32
  let v3 : BitVec 32 := Scalar.andi v2 c1_i32_0
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  let v1828 : BitVec 32 := v1205
  let c256_i32_1238 : BitVec 32 := 256#32
  let v1838 : BitVec 32 := Scalar.addi v1828 c256_i32_1238
  let c256_i32_1239 : BitVec 32 := 256#32
  let v1839 : BitVec 32 := Scalar.subi v1828 c256_i32_1239
  let v1840 : BitVec 32 := Scalar.select v1827 v1838 v1839
  v1840
def k0_mult99 (d0 : Dev nD) : BitVec 32 :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  v1242
def k0_mult100 (d0 : Dev nD) : BitVec 32 :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  v1242
def k0_dev58 (d0 : Dev nD) : Nat :=
  let c0_i32_1260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1254 : BitVec 32 := 3#32
  let v1869 : BitVec 32 := Scalar.xori v2 c3_i32_1254
  let c1_i32_1259 : BitVec 32 := 1#32
  let v1870 : BitVec 32 := Scalar.muli v1869 c1_i32_1259
  let v1871 : BitVec 32 := Scalar.addi c0_i32_1260 v1870
  v1871.toNat
def k0_mult101 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1253 : BitVec 32 := 0#32
  let v1867 : BitVec 1 := Scalar.cmpi .eq v5 c0_i32_1253
  let c0_i32_413 : BitVec 32 := 0#32
  let c1_i32_0 : BitVec 32 := 1#32
  let v3 : BitVec 32 := Scalar.andi v2 c1_i32_0
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  let v1868 : BitVec 32 := v1242
  let c256_i32_1263 : BitVec 32 := 256#32
  let v1878 : BitVec 32 := Scalar.addi v1868 c256_i32_1263
  let c256_i32_1264 : BitVec 32 := 256#32
  let v1879 : BitVec 32 := Scalar.subi v1868 c256_i32_1264
  let v1880 : BitVec 32 := Scalar.select v1867 v1878 v1879
  v1880
def k0_mult102 (d0 : Dev nD) : BitVec 32 :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  v1279
def k0_mult103 (d0 : Dev nD) : BitVec 32 :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  v1279
def k0_dev59 (d0 : Dev nD) : Nat :=
  let c0_i32_1285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1279 : BitVec 32 := 4#32
  let v1909 : BitVec 32 := Scalar.xori v2 c4_i32_1279
  let c1_i32_1284 : BitVec 32 := 1#32
  let v1910 : BitVec 32 := Scalar.muli v1909 c1_i32_1284
  let v1911 : BitVec 32 := Scalar.addi c0_i32_1285 v1910
  v1911.toNat
def k0_mult104 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1278 : BitVec 32 := 0#32
  let v1907 : BitVec 1 := Scalar.cmpi .eq v7 c0_i32_1278
  let c1024_i32_442 : BitVec 32 := 1024#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  let v1908 : BitVec 32 := v1279
  let c256_i32_1288 : BitVec 32 := 256#32
  let v1918 : BitVec 32 := Scalar.addi v1908 c256_i32_1288
  let c256_i32_1289 : BitVec 32 := 256#32
  let v1919 : BitVec 32 := Scalar.subi v1908 c256_i32_1289
  let v1920 : BitVec 32 := Scalar.select v1907 v1918 v1919
  v1920
def k0_mult105 (d0 : Dev nD) : BitVec 32 :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  v1316
def k0_mult106 (d0 : Dev nD) : BitVec 32 :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  v1316
def k0_dev60 (d0 : Dev nD) : Nat :=
  let c0_i32_1310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1304 : BitVec 32 := 4#32
  let v1949 : BitVec 32 := Scalar.xori v2 c4_i32_1304
  let c1_i32_1309 : BitVec 32 := 1#32
  let v1950 : BitVec 32 := Scalar.muli v1949 c1_i32_1309
  let v1951 : BitVec 32 := Scalar.addi c0_i32_1310 v1950
  v1951.toNat
def k0_mult107 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1303 : BitVec 32 := 0#32
  let v1947 : BitVec 1 := Scalar.cmpi .eq v7 c0_i32_1303
  let c0_i32_471 : BitVec 32 := 0#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  let v1948 : BitVec 32 := v1316
  let c256_i32_1313 : BitVec 32 := 256#32
  let v1958 : BitVec 32 := Scalar.addi v1948 c256_i32_1313
  let c256_i32_1314 : BitVec 32 := 256#32
  let v1959 : BitVec 32 := Scalar.subi v1948 c256_i32_1314
  let v1960 : BitVec 32 := Scalar.select v1947 v1958 v1959
  v1960
def k0_mult108 (d0 : Dev nD) : BitVec 32 :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  v1353
def k0_mult109 (d0 : Dev nD) : BitVec 32 :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  v1353
def k0_dev61 (d0 : Dev nD) : Nat :=
  let c0_i32_1335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1329 : BitVec 32 := 1#32
  let v1989 : BitVec 32 := Scalar.xori v2 c1_i32_1329
  let c1_i32_1334 : BitVec 32 := 1#32
  let v1990 : BitVec 32 := Scalar.muli v1989 c1_i32_1334
  let v1991 : BitVec 32 := Scalar.addi c0_i32_1335 v1990
  v1991.toNat
def k0_mult110 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1328 : BitVec 32 := 0#32
  let v1987 : BitVec 1 := Scalar.cmpi .eq v8 c0_i32_1328
  let c1024_i32_500 : BitVec 32 := 1024#32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  let v1988 : BitVec 32 := v1353
  let c256_i32_1338 : BitVec 32 := 256#32
  let v1998 : BitVec 32 := Scalar.addi v1988 c256_i32_1338
  let c256_i32_1339 : BitVec 32 := 256#32
  let v1999 : BitVec 32 := Scalar.subi v1988 c256_i32_1339
  let v2000 : BitVec 32 := Scalar.select v1987 v1998 v1999
  v2000
def k0_mult111 (d0 : Dev nD) : BitVec 32 :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  v1390
def k0_mult112 (d0 : Dev nD) : BitVec 32 :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  v1390
def k0_dev62 (d0 : Dev nD) : Nat :=
  let c0_i32_1360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1354 : BitVec 32 := 1#32
  let v2029 : BitVec 32 := Scalar.xori v2 c1_i32_1354
  let c1_i32_1359 : BitVec 32 := 1#32
  let v2030 : BitVec 32 := Scalar.muli v2029 c1_i32_1359
  let v2031 : BitVec 32 := Scalar.addi c0_i32_1360 v2030
  v2031.toNat
def k0_mult113 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1353 : BitVec 32 := 0#32
  let v2027 : BitVec 1 := Scalar.cmpi .eq v8 c0_i32_1353
  let c0_i32_529 : BitVec 32 := 0#32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  let v2028 : BitVec 32 := v1390
  let c256_i32_1363 : BitVec 32 := 256#32
  let v2038 : BitVec 32 := Scalar.addi v2028 c256_i32_1363
  let c256_i32_1364 : BitVec 32 := 256#32
  let v2039 : BitVec 32 := Scalar.subi v2028 c256_i32_1364
  let v2040 : BitVec 32 := Scalar.select v2027 v2038 v2039
  v2040
def k0_mult114 (d0 : Dev nD) : BitVec 32 :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  v1427
def k0_mult115 (d0 : Dev nD) : BitVec 32 :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  v1427
def k0_dev63 (d0 : Dev nD) : Nat :=
  let c0_i32_1385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1379 : BitVec 32 := 3#32
  let v2069 : BitVec 32 := Scalar.xori v2 c3_i32_1379
  let c1_i32_1384 : BitVec 32 := 1#32
  let v2070 : BitVec 32 := Scalar.muli v2069 c1_i32_1384
  let v2071 : BitVec 32 := Scalar.addi c0_i32_1385 v2070
  v2071.toNat
def k0_mult116 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1378 : BitVec 32 := 0#32
  let v2067 : BitVec 1 := Scalar.cmpi .eq v5 c0_i32_1378
  let c1024_i32_558 : BitVec 32 := 1024#32
  let c1_i32_0 : BitVec 32 := 1#32
  let v3 : BitVec 32 := Scalar.andi v2 c1_i32_0
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  let v2068 : BitVec 32 := v1427
  let c256_i32_1388 : BitVec 32 := 256#32
  let v2078 : BitVec 32 := Scalar.addi v2068 c256_i32_1388
  let c256_i32_1389 : BitVec 32 := 256#32
  let v2079 : BitVec 32 := Scalar.subi v2068 c256_i32_1389
  let v2080 : BitVec 32 := Scalar.select v2067 v2078 v2079
  v2080
def k0_mult117 (d0 : Dev nD) : BitVec 32 :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  v1464
def k0_mult118 (d0 : Dev nD) : BitVec 32 :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  v1464
def k0_dev64 (d0 : Dev nD) : Nat :=
  let c0_i32_1410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1404 : BitVec 32 := 3#32
  let v2109 : BitVec 32 := Scalar.xori v2 c3_i32_1404
  let c1_i32_1409 : BitVec 32 := 1#32
  let v2110 : BitVec 32 := Scalar.muli v2109 c1_i32_1409
  let v2111 : BitVec 32 := Scalar.addi c0_i32_1410 v2110
  v2111.toNat
def k0_mult119 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1403 : BitVec 32 := 0#32
  let v2107 : BitVec 1 := Scalar.cmpi .eq v5 c0_i32_1403
  let c0_i32_587 : BitVec 32 := 0#32
  let c1_i32_0 : BitVec 32 := 1#32
  let v3 : BitVec 32 := Scalar.andi v2 c1_i32_0
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  let v2108 : BitVec 32 := v1464
  let c256_i32_1413 : BitVec 32 := 256#32
  let v2118 : BitVec 32 := Scalar.addi v2108 c256_i32_1413
  let c256_i32_1414 : BitVec 32 := 256#32
  let v2119 : BitVec 32 := Scalar.subi v2108 c256_i32_1414
  let v2120 : BitVec 32 := Scalar.select v2107 v2118 v2119
  v2120
def k0_mult120 (d0 : Dev nD) : BitVec 32 :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  v1501
def k0_mult121 (d0 : Dev nD) : BitVec 32 :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  v1501
def k0_dev65 (d0 : Dev nD) : Nat :=
  let c0_i32_1435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1429 : BitVec 32 := 4#32
  let v2149 : BitVec 32 := Scalar.xori v2 c4_i32_1429
  let c1_i32_1434 : BitVec 32 := 1#32
  let v2150 : BitVec 32 := Scalar.muli v2149 c1_i32_1434
  let v2151 : BitVec 32 := Scalar.addi c0_i32_1435 v2150
  v2151.toNat
def k0_mult122 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1428 : BitVec 32 := 0#32
  let v2147 : BitVec 1 := Scalar.cmpi .eq v7 c0_i32_1428
  let c1024_i32_616 : BitVec 32 := 1024#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  let v2148 : BitVec 32 := v1501
  let c256_i32_1438 : BitVec 32 := 256#32
  let v2158 : BitVec 32 := Scalar.addi v2148 c256_i32_1438
  let c256_i32_1439 : BitVec 32 := 256#32
  let v2159 : BitVec 32 := Scalar.subi v2148 c256_i32_1439
  let v2160 : BitVec 32 := Scalar.select v2147 v2158 v2159
  v2160
def k0_mult123 (d0 : Dev nD) : BitVec 32 :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  v1538
def k0_mult124 (d0 : Dev nD) : BitVec 32 :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  v1538
def k0_dev66 (d0 : Dev nD) : Nat :=
  let c0_i32_1460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1454 : BitVec 32 := 4#32
  let v2189 : BitVec 32 := Scalar.xori v2 c4_i32_1454
  let c1_i32_1459 : BitVec 32 := 1#32
  let v2190 : BitVec 32 := Scalar.muli v2189 c1_i32_1459
  let v2191 : BitVec 32 := Scalar.addi c0_i32_1460 v2190
  v2191.toNat
def k0_mult125 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1453 : BitVec 32 := 0#32
  let v2187 : BitVec 1 := Scalar.cmpi .eq v7 c0_i32_1453
  let c0_i32_645 : BitVec 32 := 0#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  let v2188 : BitVec 32 := v1538
  let c256_i32_1463 : BitVec 32 := 256#32
  let v2198 : BitVec 32 := Scalar.addi v2188 c256_i32_1463
  let c256_i32_1464 : BitVec 32 := 256#32
  let v2199 : BitVec 32 := Scalar.subi v2188 c256_i32_1464
  let v2200 : BitVec 32 := Scalar.select v2187 v2198 v2199
  v2200
def k0_mult126 (d0 : Dev nD) : BitVec 32 :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  v1575
def k0_mult127 (d0 : Dev nD) : BitVec 32 :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  v1575
def k0_dev67 (d0 : Dev nD) : Nat :=
  let c0_i32_1485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1479 : BitVec 32 := 1#32
  let v2229 : BitVec 32 := Scalar.xori v2 c1_i32_1479
  let c1_i32_1484 : BitVec 32 := 1#32
  let v2230 : BitVec 32 := Scalar.muli v2229 c1_i32_1484
  let v2231 : BitVec 32 := Scalar.addi c0_i32_1485 v2230
  v2231.toNat
def k0_mult128 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1478 : BitVec 32 := 0#32
  let v2227 : BitVec 1 := Scalar.cmpi .eq v8 c0_i32_1478
  let c1024_i32_674 : BitVec 32 := 1024#32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  let v2228 : BitVec 32 := v1575
  let c256_i32_1488 : BitVec 32 := 256#32
  let v2238 : BitVec 32 := Scalar.addi v2228 c256_i32_1488
  let c256_i32_1489 : BitVec 32 := 256#32
  let v2239 : BitVec 32 := Scalar.subi v2228 c256_i32_1489
  let v2240 : BitVec 32 := Scalar.select v2227 v2238 v2239
  v2240
def k0_off91 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1103 : BitVec 32 := 0#32
  let v1627 : BitVec 1 := Scalar.cmpi .eq v5 c0_i32_1103
  let c0_i32_239 : BitVec 32 := 0#32
  let c1_i32_0 : BitVec 32 := 1#32
  let v3 : BitVec 32 := Scalar.andi v2 c1_i32_0
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  let v1628 : BitVec 32 := v1020
  let c256_i32_1113 : BitVec 32 := 256#32
  let v1638 : BitVec 32 := Scalar.addi v1628 c256_i32_1113
  let c256_i32_1114 : BitVec 32 := 256#32
  let v1639 : BitVec 32 := Scalar.subi v1628 c256_i32_1114
  let v1640 : BitVec 32 := Scalar.select v1627 v1638 v1639
  let v1641 : BitVec 32 := v1640
  let c0_i32_1497 : BitVec 32 := 0#32
  ![v1641.toNat, 0]
def k0_mult129 (d0 : Dev nD) : BitVec 32 :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  let c0_i32_1103 : BitVec 32 := 0#32
  let v1627 : BitVec 1 := Scalar.cmpi .eq v5 c0_i32_1103
  let v1628 : BitVec 32 := v1020
  let c256_i32_1113 : BitVec 32 := 256#32
  let v1638 : BitVec 32 := Scalar.addi v1628 c256_i32_1113
  let c256_i32_1114 : BitVec 32 := 256#32
  let v1639 : BitVec 32 := Scalar.subi v1628 c256_i32_1114
  let v1640 : BitVec 32 := Scalar.select v1627 v1638 v1639
  let v1641 : BitVec 32 := v1640
  let v2249 : BitVec 32 := Scalar.minsi v1020 v1641
  v2249
def k0_off92 (d0 : Dev nD) : Fin 2 → Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  let c0_i32_1103 : BitVec 32 := 0#32
  let v1627 : BitVec 1 := Scalar.cmpi .eq v5 c0_i32_1103
  let v1628 : BitVec 32 := v1020
  let c256_i32_1113 : BitVec 32 := 256#32
  let v1638 : BitVec 32 := Scalar.addi v1628 c256_i32_1113
  let c256_i32_1114 : BitVec 32 := 256#32
  let v1639 : BitVec 32 := Scalar.subi v1628 c256_i32_1114
  let v1640 : BitVec 32 := Scalar.select v1627 v1638 v1639
  let v1641 : BitVec 32 := v1640
  let v2249 : BitVec 32 := Scalar.minsi v1020 v1641
  let v2251 : BitVec 32 := v2249
  let c0_i32_1507 : BitVec 32 := 0#32
  ![v2251.toNat, 0]
def k0_dev68 (d0 : Dev nD) : Nat :=
  let c0_i32_1506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1500 : BitVec 32 := 1#32
  let v2252 : BitVec 32 := Scalar.xori v2 c1_i32_1500
  let c1_i32_1505 : BitVec 32 := 1#32
  let v2253 : BitVec 32 := Scalar.muli v2252 c1_i32_1505
  let v2254 : BitVec 32 := Scalar.addi c0_i32_1506 v2253
  v2254.toNat
def k0_mult130 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1499 : BitVec 32 := 0#32
  let v2250 : BitVec 1 := Scalar.cmpi .eq v8 c0_i32_1499
  let c0_i32_239 : BitVec 32 := 0#32
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  let c0_i32_1103 : BitVec 32 := 0#32
  let v1627 : BitVec 1 := Scalar.cmpi .eq v5 c0_i32_1103
  let v1628 : BitVec 32 := v1020
  let c256_i32_1113 : BitVec 32 := 256#32
  let v1638 : BitVec 32 := Scalar.addi v1628 c256_i32_1113
  let c256_i32_1114 : BitVec 32 := 256#32
  let v1639 : BitVec 32 := Scalar.subi v1628 c256_i32_1114
  let v1640 : BitVec 32 := Scalar.select v1627 v1638 v1639
  let v1641 : BitVec 32 := v1640
  let v2249 : BitVec 32 := Scalar.minsi v1020 v1641
  let v2251 : BitVec 32 := v2249
  let c512_i32_1509 : BitVec 32 := 512#32
  let v2261 : BitVec 32 := Scalar.addi v2251 c512_i32_1509
  let c512_i32_1510 : BitVec 32 := 512#32
  let v2262 : BitVec 32 := Scalar.subi v2251 c512_i32_1510
  let v2263 : BitVec 32 := Scalar.select v2250 v2261 v2262
  v2263
def k0_off93 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1128 : BitVec 32 := 0#32
  let v1667 : BitVec 1 := Scalar.cmpi .eq v7 c0_i32_1128
  let c1024_i32_268 : BitVec 32 := 1024#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  let v1668 : BitVec 32 := v1057
  let c256_i32_1138 : BitVec 32 := 256#32
  let v1678 : BitVec 32 := Scalar.addi v1668 c256_i32_1138
  let c256_i32_1139 : BitVec 32 := 256#32
  let v1679 : BitVec 32 := Scalar.subi v1668 c256_i32_1139
  let v1680 : BitVec 32 := Scalar.select v1667 v1678 v1679
  let v1681 : BitVec 32 := v1680
  let c0_i32_1518 : BitVec 32 := 0#32
  ![v1681.toNat, 0]
def k0_mult131 (d0 : Dev nD) : BitVec 32 :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  let c0_i32_1128 : BitVec 32 := 0#32
  let v1667 : BitVec 1 := Scalar.cmpi .eq v7 c0_i32_1128
  let v1668 : BitVec 32 := v1057
  let c256_i32_1138 : BitVec 32 := 256#32
  let v1678 : BitVec 32 := Scalar.addi v1668 c256_i32_1138
  let c256_i32_1139 : BitVec 32 := 256#32
  let v1679 : BitVec 32 := Scalar.subi v1668 c256_i32_1139
  let v1680 : BitVec 32 := Scalar.select v1667 v1678 v1679
  let v1681 : BitVec 32 := v1680
  let v2272 : BitVec 32 := Scalar.minsi v1057 v1681
  v2272
def k0_off94 (d0 : Dev nD) : Fin 2 → Nat :=
  let c1024_i32_268 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  let c0_i32_1128 : BitVec 32 := 0#32
  let v1667 : BitVec 1 := Scalar.cmpi .eq v7 c0_i32_1128
  let v1668 : BitVec 32 := v1057
  let c256_i32_1138 : BitVec 32 := 256#32
  let v1678 : BitVec 32 := Scalar.addi v1668 c256_i32_1138
  let c256_i32_1139 : BitVec 32 := 256#32
  let v1679 : BitVec 32 := Scalar.subi v1668 c256_i32_1139
  let v1680 : BitVec 32 := Scalar.select v1667 v1678 v1679
  let v1681 : BitVec 32 := v1680
  let v2272 : BitVec 32 := Scalar.minsi v1057 v1681
  let v2274 : BitVec 32 := v2272
  let c0_i32_1528 : BitVec 32 := 0#32
  ![v2274.toNat, 0]
def k0_dev69 (d0 : Dev nD) : Nat :=
  let c0_i32_1527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1521 : BitVec 32 := 3#32
  let v2275 : BitVec 32 := Scalar.xori v2 c3_i32_1521
  let c1_i32_1526 : BitVec 32 := 1#32
  let v2276 : BitVec 32 := Scalar.muli v2275 c1_i32_1526
  let v2277 : BitVec 32 := Scalar.addi c0_i32_1527 v2276
  v2277.toNat
def k0_mult132 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1520 : BitVec 32 := 0#32
  let v2273 : BitVec 1 := Scalar.cmpi .eq v5 c0_i32_1520
  let c1024_i32_268 : BitVec 32 := 1024#32
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  let c0_i32_1128 : BitVec 32 := 0#32
  let v1667 : BitVec 1 := Scalar.cmpi .eq v7 c0_i32_1128
  let v1668 : BitVec 32 := v1057
  let c256_i32_1138 : BitVec 32 := 256#32
  let v1678 : BitVec 32 := Scalar.addi v1668 c256_i32_1138
  let c256_i32_1139 : BitVec 32 := 256#32
  let v1679 : BitVec 32 := Scalar.subi v1668 c256_i32_1139
  let v1680 : BitVec 32 := Scalar.select v1667 v1678 v1679
  let v1681 : BitVec 32 := v1680
  let v2272 : BitVec 32 := Scalar.minsi v1057 v1681
  let v2274 : BitVec 32 := v2272
  let c512_i32_1530 : BitVec 32 := 512#32
  let v2284 : BitVec 32 := Scalar.addi v2274 c512_i32_1530
  let c512_i32_1531 : BitVec 32 := 512#32
  let v2285 : BitVec 32 := Scalar.subi v2274 c512_i32_1531
  let v2286 : BitVec 32 := Scalar.select v2273 v2284 v2285
  v2286
def k0_off95 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1153 : BitVec 32 := 0#32
  let v1707 : BitVec 1 := Scalar.cmpi .eq v7 c0_i32_1153
  let c0_i32_297 : BitVec 32 := 0#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  let v1708 : BitVec 32 := v1094
  let c256_i32_1163 : BitVec 32 := 256#32
  let v1718 : BitVec 32 := Scalar.addi v1708 c256_i32_1163
  let c256_i32_1164 : BitVec 32 := 256#32
  let v1719 : BitVec 32 := Scalar.subi v1708 c256_i32_1164
  let v1720 : BitVec 32 := Scalar.select v1707 v1718 v1719
  let v1721 : BitVec 32 := v1720
  let c128_i32_1539 : BitVec 32 := 128#32
  ![v1721.toNat, 128]
def k0_mult133 (d0 : Dev nD) : BitVec 32 :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  let c0_i32_1153 : BitVec 32 := 0#32
  let v1707 : BitVec 1 := Scalar.cmpi .eq v7 c0_i32_1153
  let v1708 : BitVec 32 := v1094
  let c256_i32_1163 : BitVec 32 := 256#32
  let v1718 : BitVec 32 := Scalar.addi v1708 c256_i32_1163
  let c256_i32_1164 : BitVec 32 := 256#32
  let v1719 : BitVec 32 := Scalar.subi v1708 c256_i32_1164
  let v1720 : BitVec 32 := Scalar.select v1707 v1718 v1719
  let v1721 : BitVec 32 := v1720
  let v2295 : BitVec 32 := Scalar.minsi v1094 v1721
  v2295
def k0_off96 (d0 : Dev nD) : Fin 2 → Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  let c0_i32_1153 : BitVec 32 := 0#32
  let v1707 : BitVec 1 := Scalar.cmpi .eq v7 c0_i32_1153
  let v1708 : BitVec 32 := v1094
  let c256_i32_1163 : BitVec 32 := 256#32
  let v1718 : BitVec 32 := Scalar.addi v1708 c256_i32_1163
  let c256_i32_1164 : BitVec 32 := 256#32
  let v1719 : BitVec 32 := Scalar.subi v1708 c256_i32_1164
  let v1720 : BitVec 32 := Scalar.select v1707 v1718 v1719
  let v1721 : BitVec 32 := v1720
  let v2295 : BitVec 32 := Scalar.minsi v1094 v1721
  let v2297 : BitVec 32 := v2295
  let c128_i32_1549 : BitVec 32 := 128#32
  ![v2297.toNat, 128]
def k0_dev70 (d0 : Dev nD) : Nat :=
  let c0_i32_1548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1542 : BitVec 32 := 3#32
  let v2298 : BitVec 32 := Scalar.xori v2 c3_i32_1542
  let c1_i32_1547 : BitVec 32 := 1#32
  let v2299 : BitVec 32 := Scalar.muli v2298 c1_i32_1547
  let v2300 : BitVec 32 := Scalar.addi c0_i32_1548 v2299
  v2300.toNat
def k0_mult134 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1541 : BitVec 32 := 0#32
  let v2296 : BitVec 1 := Scalar.cmpi .eq v5 c0_i32_1541
  let c0_i32_297 : BitVec 32 := 0#32
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  let c0_i32_1153 : BitVec 32 := 0#32
  let v1707 : BitVec 1 := Scalar.cmpi .eq v7 c0_i32_1153
  let v1708 : BitVec 32 := v1094
  let c256_i32_1163 : BitVec 32 := 256#32
  let v1718 : BitVec 32 := Scalar.addi v1708 c256_i32_1163
  let c256_i32_1164 : BitVec 32 := 256#32
  let v1719 : BitVec 32 := Scalar.subi v1708 c256_i32_1164
  let v1720 : BitVec 32 := Scalar.select v1707 v1718 v1719
  let v1721 : BitVec 32 := v1720
  let v2295 : BitVec 32 := Scalar.minsi v1094 v1721
  let v2297 : BitVec 32 := v2295
  let c512_i32_1551 : BitVec 32 := 512#32
  let v2307 : BitVec 32 := Scalar.addi v2297 c512_i32_1551
  let c512_i32_1552 : BitVec 32 := 512#32
  let v2308 : BitVec 32 := Scalar.subi v2297 c512_i32_1552
  let v2309 : BitVec 32 := Scalar.select v2296 v2307 v2308
  v2309
def k0_off97 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1178 : BitVec 32 := 0#32
  let v1747 : BitVec 1 := Scalar.cmpi .eq v8 c0_i32_1178
  let c1024_i32_326 : BitVec 32 := 1024#32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  let v1748 : BitVec 32 := v1131
  let c256_i32_1188 : BitVec 32 := 256#32
  let v1758 : BitVec 32 := Scalar.addi v1748 c256_i32_1188
  let c256_i32_1189 : BitVec 32 := 256#32
  let v1759 : BitVec 32 := Scalar.subi v1748 c256_i32_1189
  let v1760 : BitVec 32 := Scalar.select v1747 v1758 v1759
  let v1761 : BitVec 32 := v1760
  let c128_i32_1560 : BitVec 32 := 128#32
  ![v1761.toNat, 128]
def k0_mult135 (d0 : Dev nD) : BitVec 32 :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  let c0_i32_1178 : BitVec 32 := 0#32
  let v1747 : BitVec 1 := Scalar.cmpi .eq v8 c0_i32_1178
  let v1748 : BitVec 32 := v1131
  let c256_i32_1188 : BitVec 32 := 256#32
  let v1758 : BitVec 32 := Scalar.addi v1748 c256_i32_1188
  let c256_i32_1189 : BitVec 32 := 256#32
  let v1759 : BitVec 32 := Scalar.subi v1748 c256_i32_1189
  let v1760 : BitVec 32 := Scalar.select v1747 v1758 v1759
  let v1761 : BitVec 32 := v1760
  let v2318 : BitVec 32 := Scalar.minsi v1131 v1761
  v2318
def k0_off98 (d0 : Dev nD) : Fin 2 → Nat :=
  let c1024_i32_326 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  let c0_i32_1178 : BitVec 32 := 0#32
  let v1747 : BitVec 1 := Scalar.cmpi .eq v8 c0_i32_1178
  let v1748 : BitVec 32 := v1131
  let c256_i32_1188 : BitVec 32 := 256#32
  let v1758 : BitVec 32 := Scalar.addi v1748 c256_i32_1188
  let c256_i32_1189 : BitVec 32 := 256#32
  let v1759 : BitVec 32 := Scalar.subi v1748 c256_i32_1189
  let v1760 : BitVec 32 := Scalar.select v1747 v1758 v1759
  let v1761 : BitVec 32 := v1760
  let v2318 : BitVec 32 := Scalar.minsi v1131 v1761
  let v2320 : BitVec 32 := v2318
  let c128_i32_1570 : BitVec 32 := 128#32
  ![v2320.toNat, 128]
def k0_dev71 (d0 : Dev nD) : Nat :=
  let c0_i32_1569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1563 : BitVec 32 := 4#32
  let v2321 : BitVec 32 := Scalar.xori v2 c4_i32_1563
  let c1_i32_1568 : BitVec 32 := 1#32
  let v2322 : BitVec 32 := Scalar.muli v2321 c1_i32_1568
  let v2323 : BitVec 32 := Scalar.addi c0_i32_1569 v2322
  v2323.toNat
def k0_mult136 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1562 : BitVec 32 := 0#32
  let v2319 : BitVec 1 := Scalar.cmpi .eq v7 c0_i32_1562
  let c1024_i32_326 : BitVec 32 := 1024#32
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  let c0_i32_1178 : BitVec 32 := 0#32
  let v1747 : BitVec 1 := Scalar.cmpi .eq v8 c0_i32_1178
  let v1748 : BitVec 32 := v1131
  let c256_i32_1188 : BitVec 32 := 256#32
  let v1758 : BitVec 32 := Scalar.addi v1748 c256_i32_1188
  let c256_i32_1189 : BitVec 32 := 256#32
  let v1759 : BitVec 32 := Scalar.subi v1748 c256_i32_1189
  let v1760 : BitVec 32 := Scalar.select v1747 v1758 v1759
  let v1761 : BitVec 32 := v1760
  let v2318 : BitVec 32 := Scalar.minsi v1131 v1761
  let v2320 : BitVec 32 := v2318
  let c512_i32_1572 : BitVec 32 := 512#32
  let v2330 : BitVec 32 := Scalar.addi v2320 c512_i32_1572
  let c512_i32_1573 : BitVec 32 := 512#32
  let v2331 : BitVec 32 := Scalar.subi v2320 c512_i32_1573
  let v2332 : BitVec 32 := Scalar.select v2319 v2330 v2331
  v2332
def k0_off99 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1203 : BitVec 32 := 0#32
  let v1787 : BitVec 1 := Scalar.cmpi .eq v8 c0_i32_1203
  let c0_i32_355 : BitVec 32 := 0#32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  let v1788 : BitVec 32 := v1168
  let c256_i32_1213 : BitVec 32 := 256#32
  let v1798 : BitVec 32 := Scalar.addi v1788 c256_i32_1213
  let c256_i32_1214 : BitVec 32 := 256#32
  let v1799 : BitVec 32 := Scalar.subi v1788 c256_i32_1214
  let v1800 : BitVec 32 := Scalar.select v1787 v1798 v1799
  let v1801 : BitVec 32 := v1800
  let c256_i32_1581 : BitVec 32 := 256#32
  ![v1801.toNat, 256]
def k0_mult137 (d0 : Dev nD) : BitVec 32 :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  let c0_i32_1203 : BitVec 32 := 0#32
  let v1787 : BitVec 1 := Scalar.cmpi .eq v8 c0_i32_1203
  let v1788 : BitVec 32 := v1168
  let c256_i32_1213 : BitVec 32 := 256#32
  let v1798 : BitVec 32 := Scalar.addi v1788 c256_i32_1213
  let c256_i32_1214 : BitVec 32 := 256#32
  let v1799 : BitVec 32 := Scalar.subi v1788 c256_i32_1214
  let v1800 : BitVec 32 := Scalar.select v1787 v1798 v1799
  let v1801 : BitVec 32 := v1800
  let v2341 : BitVec 32 := Scalar.minsi v1168 v1801
  v2341
def k0_off100 (d0 : Dev nD) : Fin 2 → Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  let c0_i32_1203 : BitVec 32 := 0#32
  let v1787 : BitVec 1 := Scalar.cmpi .eq v8 c0_i32_1203
  let v1788 : BitVec 32 := v1168
  let c256_i32_1213 : BitVec 32 := 256#32
  let v1798 : BitVec 32 := Scalar.addi v1788 c256_i32_1213
  let c256_i32_1214 : BitVec 32 := 256#32
  let v1799 : BitVec 32 := Scalar.subi v1788 c256_i32_1214
  let v1800 : BitVec 32 := Scalar.select v1787 v1798 v1799
  let v1801 : BitVec 32 := v1800
  let v2341 : BitVec 32 := Scalar.minsi v1168 v1801
  let v2343 : BitVec 32 := v2341
  let c256_i32_1591 : BitVec 32 := 256#32
  ![v2343.toNat, 256]
def k0_dev72 (d0 : Dev nD) : Nat :=
  let c0_i32_1590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1584 : BitVec 32 := 4#32
  let v2344 : BitVec 32 := Scalar.xori v2 c4_i32_1584
  let c1_i32_1589 : BitVec 32 := 1#32
  let v2345 : BitVec 32 := Scalar.muli v2344 c1_i32_1589
  let v2346 : BitVec 32 := Scalar.addi c0_i32_1590 v2345
  v2346.toNat
def k0_mult138 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1583 : BitVec 32 := 0#32
  let v2342 : BitVec 1 := Scalar.cmpi .eq v7 c0_i32_1583
  let c0_i32_355 : BitVec 32 := 0#32
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  let c0_i32_1203 : BitVec 32 := 0#32
  let v1787 : BitVec 1 := Scalar.cmpi .eq v8 c0_i32_1203
  let v1788 : BitVec 32 := v1168
  let c256_i32_1213 : BitVec 32 := 256#32
  let v1798 : BitVec 32 := Scalar.addi v1788 c256_i32_1213
  let c256_i32_1214 : BitVec 32 := 256#32
  let v1799 : BitVec 32 := Scalar.subi v1788 c256_i32_1214
  let v1800 : BitVec 32 := Scalar.select v1787 v1798 v1799
  let v1801 : BitVec 32 := v1800
  let v2341 : BitVec 32 := Scalar.minsi v1168 v1801
  let v2343 : BitVec 32 := v2341
  let c512_i32_1593 : BitVec 32 := 512#32
  let v2353 : BitVec 32 := Scalar.addi v2343 c512_i32_1593
  let c512_i32_1594 : BitVec 32 := 512#32
  let v2354 : BitVec 32 := Scalar.subi v2343 c512_i32_1594
  let v2355 : BitVec 32 := Scalar.select v2342 v2353 v2354
  v2355
def k0_off101 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1228 : BitVec 32 := 0#32
  let v1827 : BitVec 1 := Scalar.cmpi .eq v5 c0_i32_1228
  let c1024_i32_384 : BitVec 32 := 1024#32
  let c1_i32_0 : BitVec 32 := 1#32
  let v3 : BitVec 32 := Scalar.andi v2 c1_i32_0
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  let v1828 : BitVec 32 := v1205
  let c256_i32_1238 : BitVec 32 := 256#32
  let v1838 : BitVec 32 := Scalar.addi v1828 c256_i32_1238
  let c256_i32_1239 : BitVec 32 := 256#32
  let v1839 : BitVec 32 := Scalar.subi v1828 c256_i32_1239
  let v1840 : BitVec 32 := Scalar.select v1827 v1838 v1839
  let v1841 : BitVec 32 := v1840
  let c256_i32_1602 : BitVec 32 := 256#32
  ![v1841.toNat, 256]
def k0_mult139 (d0 : Dev nD) : BitVec 32 :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  let c0_i32_1228 : BitVec 32 := 0#32
  let v1827 : BitVec 1 := Scalar.cmpi .eq v5 c0_i32_1228
  let v1828 : BitVec 32 := v1205
  let c256_i32_1238 : BitVec 32 := 256#32
  let v1838 : BitVec 32 := Scalar.addi v1828 c256_i32_1238
  let c256_i32_1239 : BitVec 32 := 256#32
  let v1839 : BitVec 32 := Scalar.subi v1828 c256_i32_1239
  let v1840 : BitVec 32 := Scalar.select v1827 v1838 v1839
  let v1841 : BitVec 32 := v1840
  let v2364 : BitVec 32 := Scalar.minsi v1205 v1841
  v2364
def k0_off102 (d0 : Dev nD) : Fin 2 → Nat :=
  let c1024_i32_384 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  let c0_i32_1228 : BitVec 32 := 0#32
  let v1827 : BitVec 1 := Scalar.cmpi .eq v5 c0_i32_1228
  let v1828 : BitVec 32 := v1205
  let c256_i32_1238 : BitVec 32 := 256#32
  let v1838 : BitVec 32 := Scalar.addi v1828 c256_i32_1238
  let c256_i32_1239 : BitVec 32 := 256#32
  let v1839 : BitVec 32 := Scalar.subi v1828 c256_i32_1239
  let v1840 : BitVec 32 := Scalar.select v1827 v1838 v1839
  let v1841 : BitVec 32 := v1840
  let v2364 : BitVec 32 := Scalar.minsi v1205 v1841
  let v2366 : BitVec 32 := v2364
  let c256_i32_1612 : BitVec 32 := 256#32
  ![v2366.toNat, 256]
def k0_dev73 (d0 : Dev nD) : Nat :=
  let c0_i32_1611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1605 : BitVec 32 := 1#32
  let v2367 : BitVec 32 := Scalar.xori v2 c1_i32_1605
  let c1_i32_1610 : BitVec 32 := 1#32
  let v2368 : BitVec 32 := Scalar.muli v2367 c1_i32_1610
  let v2369 : BitVec 32 := Scalar.addi c0_i32_1611 v2368
  v2369.toNat
def k0_mult140 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1604 : BitVec 32 := 0#32
  let v2365 : BitVec 1 := Scalar.cmpi .eq v8 c0_i32_1604
  let c1024_i32_384 : BitVec 32 := 1024#32
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  let c0_i32_1228 : BitVec 32 := 0#32
  let v1827 : BitVec 1 := Scalar.cmpi .eq v5 c0_i32_1228
  let v1828 : BitVec 32 := v1205
  let c256_i32_1238 : BitVec 32 := 256#32
  let v1838 : BitVec 32 := Scalar.addi v1828 c256_i32_1238
  let c256_i32_1239 : BitVec 32 := 256#32
  let v1839 : BitVec 32 := Scalar.subi v1828 c256_i32_1239
  let v1840 : BitVec 32 := Scalar.select v1827 v1838 v1839
  let v1841 : BitVec 32 := v1840
  let v2364 : BitVec 32 := Scalar.minsi v1205 v1841
  let v2366 : BitVec 32 := v2364
  let c512_i32_1614 : BitVec 32 := 512#32
  let v2376 : BitVec 32 := Scalar.addi v2366 c512_i32_1614
  let c512_i32_1615 : BitVec 32 := 512#32
  let v2377 : BitVec 32 := Scalar.subi v2366 c512_i32_1615
  let v2378 : BitVec 32 := Scalar.select v2365 v2376 v2377
  v2378
def k0_off103 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1253 : BitVec 32 := 0#32
  let v1867 : BitVec 1 := Scalar.cmpi .eq v5 c0_i32_1253
  let c0_i32_413 : BitVec 32 := 0#32
  let c1_i32_0 : BitVec 32 := 1#32
  let v3 : BitVec 32 := Scalar.andi v2 c1_i32_0
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  let v1868 : BitVec 32 := v1242
  let c256_i32_1263 : BitVec 32 := 256#32
  let v1878 : BitVec 32 := Scalar.addi v1868 c256_i32_1263
  let c256_i32_1264 : BitVec 32 := 256#32
  let v1879 : BitVec 32 := Scalar.subi v1868 c256_i32_1264
  let v1880 : BitVec 32 := Scalar.select v1867 v1878 v1879
  let v1881 : BitVec 32 := v1880
  let c384_i32_1623 : BitVec 32 := 384#32
  ![v1881.toNat, 384]
def k0_mult141 (d0 : Dev nD) : BitVec 32 :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  let c0_i32_1253 : BitVec 32 := 0#32
  let v1867 : BitVec 1 := Scalar.cmpi .eq v5 c0_i32_1253
  let v1868 : BitVec 32 := v1242
  let c256_i32_1263 : BitVec 32 := 256#32
  let v1878 : BitVec 32 := Scalar.addi v1868 c256_i32_1263
  let c256_i32_1264 : BitVec 32 := 256#32
  let v1879 : BitVec 32 := Scalar.subi v1868 c256_i32_1264
  let v1880 : BitVec 32 := Scalar.select v1867 v1878 v1879
  let v1881 : BitVec 32 := v1880
  let v2387 : BitVec 32 := Scalar.minsi v1242 v1881
  v2387
def k0_off104 (d0 : Dev nD) : Fin 2 → Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  let c0_i32_1253 : BitVec 32 := 0#32
  let v1867 : BitVec 1 := Scalar.cmpi .eq v5 c0_i32_1253
  let v1868 : BitVec 32 := v1242
  let c256_i32_1263 : BitVec 32 := 256#32
  let v1878 : BitVec 32 := Scalar.addi v1868 c256_i32_1263
  let c256_i32_1264 : BitVec 32 := 256#32
  let v1879 : BitVec 32 := Scalar.subi v1868 c256_i32_1264
  let v1880 : BitVec 32 := Scalar.select v1867 v1878 v1879
  let v1881 : BitVec 32 := v1880
  let v2387 : BitVec 32 := Scalar.minsi v1242 v1881
  let v2389 : BitVec 32 := v2387
  let c384_i32_1633 : BitVec 32 := 384#32
  ![v2389.toNat, 384]
def k0_dev74 (d0 : Dev nD) : Nat :=
  let c0_i32_1632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1626 : BitVec 32 := 1#32
  let v2390 : BitVec 32 := Scalar.xori v2 c1_i32_1626
  let c1_i32_1631 : BitVec 32 := 1#32
  let v2391 : BitVec 32 := Scalar.muli v2390 c1_i32_1631
  let v2392 : BitVec 32 := Scalar.addi c0_i32_1632 v2391
  v2392.toNat
def k0_mult142 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1625 : BitVec 32 := 0#32
  let v2388 : BitVec 1 := Scalar.cmpi .eq v8 c0_i32_1625
  let c0_i32_413 : BitVec 32 := 0#32
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  let c0_i32_1253 : BitVec 32 := 0#32
  let v1867 : BitVec 1 := Scalar.cmpi .eq v5 c0_i32_1253
  let v1868 : BitVec 32 := v1242
  let c256_i32_1263 : BitVec 32 := 256#32
  let v1878 : BitVec 32 := Scalar.addi v1868 c256_i32_1263
  let c256_i32_1264 : BitVec 32 := 256#32
  let v1879 : BitVec 32 := Scalar.subi v1868 c256_i32_1264
  let v1880 : BitVec 32 := Scalar.select v1867 v1878 v1879
  let v1881 : BitVec 32 := v1880
  let v2387 : BitVec 32 := Scalar.minsi v1242 v1881
  let v2389 : BitVec 32 := v2387
  let c512_i32_1635 : BitVec 32 := 512#32
  let v2399 : BitVec 32 := Scalar.addi v2389 c512_i32_1635
  let c512_i32_1636 : BitVec 32 := 512#32
  let v2400 : BitVec 32 := Scalar.subi v2389 c512_i32_1636
  let v2401 : BitVec 32 := Scalar.select v2388 v2399 v2400
  v2401
def k0_off105 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1278 : BitVec 32 := 0#32
  let v1907 : BitVec 1 := Scalar.cmpi .eq v7 c0_i32_1278
  let c1024_i32_442 : BitVec 32 := 1024#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  let v1908 : BitVec 32 := v1279
  let c256_i32_1288 : BitVec 32 := 256#32
  let v1918 : BitVec 32 := Scalar.addi v1908 c256_i32_1288
  let c256_i32_1289 : BitVec 32 := 256#32
  let v1919 : BitVec 32 := Scalar.subi v1908 c256_i32_1289
  let v1920 : BitVec 32 := Scalar.select v1907 v1918 v1919
  let v1921 : BitVec 32 := v1920
  let c384_i32_1644 : BitVec 32 := 384#32
  ![v1921.toNat, 384]
def k0_mult143 (d0 : Dev nD) : BitVec 32 :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  let c0_i32_1278 : BitVec 32 := 0#32
  let v1907 : BitVec 1 := Scalar.cmpi .eq v7 c0_i32_1278
  let v1908 : BitVec 32 := v1279
  let c256_i32_1288 : BitVec 32 := 256#32
  let v1918 : BitVec 32 := Scalar.addi v1908 c256_i32_1288
  let c256_i32_1289 : BitVec 32 := 256#32
  let v1919 : BitVec 32 := Scalar.subi v1908 c256_i32_1289
  let v1920 : BitVec 32 := Scalar.select v1907 v1918 v1919
  let v1921 : BitVec 32 := v1920
  let v2410 : BitVec 32 := Scalar.minsi v1279 v1921
  v2410
def k0_off106 (d0 : Dev nD) : Fin 2 → Nat :=
  let c1024_i32_442 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  let c0_i32_1278 : BitVec 32 := 0#32
  let v1907 : BitVec 1 := Scalar.cmpi .eq v7 c0_i32_1278
  let v1908 : BitVec 32 := v1279
  let c256_i32_1288 : BitVec 32 := 256#32
  let v1918 : BitVec 32 := Scalar.addi v1908 c256_i32_1288
  let c256_i32_1289 : BitVec 32 := 256#32
  let v1919 : BitVec 32 := Scalar.subi v1908 c256_i32_1289
  let v1920 : BitVec 32 := Scalar.select v1907 v1918 v1919
  let v1921 : BitVec 32 := v1920
  let v2410 : BitVec 32 := Scalar.minsi v1279 v1921
  let v2412 : BitVec 32 := v2410
  let c384_i32_1654 : BitVec 32 := 384#32
  ![v2412.toNat, 384]
def k0_dev75 (d0 : Dev nD) : Nat :=
  let c0_i32_1653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1647 : BitVec 32 := 3#32
  let v2413 : BitVec 32 := Scalar.xori v2 c3_i32_1647
  let c1_i32_1652 : BitVec 32 := 1#32
  let v2414 : BitVec 32 := Scalar.muli v2413 c1_i32_1652
  let v2415 : BitVec 32 := Scalar.addi c0_i32_1653 v2414
  v2415.toNat
def k0_mult144 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1646 : BitVec 32 := 0#32
  let v2411 : BitVec 1 := Scalar.cmpi .eq v5 c0_i32_1646
  let c1024_i32_442 : BitVec 32 := 1024#32
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  let c0_i32_1278 : BitVec 32 := 0#32
  let v1907 : BitVec 1 := Scalar.cmpi .eq v7 c0_i32_1278
  let v1908 : BitVec 32 := v1279
  let c256_i32_1288 : BitVec 32 := 256#32
  let v1918 : BitVec 32 := Scalar.addi v1908 c256_i32_1288
  let c256_i32_1289 : BitVec 32 := 256#32
  let v1919 : BitVec 32 := Scalar.subi v1908 c256_i32_1289
  let v1920 : BitVec 32 := Scalar.select v1907 v1918 v1919
  let v1921 : BitVec 32 := v1920
  let v2410 : BitVec 32 := Scalar.minsi v1279 v1921
  let v2412 : BitVec 32 := v2410
  let c512_i32_1656 : BitVec 32 := 512#32
  let v2422 : BitVec 32 := Scalar.addi v2412 c512_i32_1656
  let c512_i32_1657 : BitVec 32 := 512#32
  let v2423 : BitVec 32 := Scalar.subi v2412 c512_i32_1657
  let v2424 : BitVec 32 := Scalar.select v2411 v2422 v2423
  v2424
def k0_off107 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1303 : BitVec 32 := 0#32
  let v1947 : BitVec 1 := Scalar.cmpi .eq v7 c0_i32_1303
  let c0_i32_471 : BitVec 32 := 0#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  let v1948 : BitVec 32 := v1316
  let c256_i32_1313 : BitVec 32 := 256#32
  let v1958 : BitVec 32 := Scalar.addi v1948 c256_i32_1313
  let c256_i32_1314 : BitVec 32 := 256#32
  let v1959 : BitVec 32 := Scalar.subi v1948 c256_i32_1314
  let v1960 : BitVec 32 := Scalar.select v1947 v1958 v1959
  let v1961 : BitVec 32 := v1960
  let c512_i32_1665 : BitVec 32 := 512#32
  ![v1961.toNat, 512]
def k0_mult145 (d0 : Dev nD) : BitVec 32 :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  let c0_i32_1303 : BitVec 32 := 0#32
  let v1947 : BitVec 1 := Scalar.cmpi .eq v7 c0_i32_1303
  let v1948 : BitVec 32 := v1316
  let c256_i32_1313 : BitVec 32 := 256#32
  let v1958 : BitVec 32 := Scalar.addi v1948 c256_i32_1313
  let c256_i32_1314 : BitVec 32 := 256#32
  let v1959 : BitVec 32 := Scalar.subi v1948 c256_i32_1314
  let v1960 : BitVec 32 := Scalar.select v1947 v1958 v1959
  let v1961 : BitVec 32 := v1960
  let v2433 : BitVec 32 := Scalar.minsi v1316 v1961
  v2433
def k0_off108 (d0 : Dev nD) : Fin 2 → Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  let c0_i32_1303 : BitVec 32 := 0#32
  let v1947 : BitVec 1 := Scalar.cmpi .eq v7 c0_i32_1303
  let v1948 : BitVec 32 := v1316
  let c256_i32_1313 : BitVec 32 := 256#32
  let v1958 : BitVec 32 := Scalar.addi v1948 c256_i32_1313
  let c256_i32_1314 : BitVec 32 := 256#32
  let v1959 : BitVec 32 := Scalar.subi v1948 c256_i32_1314
  let v1960 : BitVec 32 := Scalar.select v1947 v1958 v1959
  let v1961 : BitVec 32 := v1960
  let v2433 : BitVec 32 := Scalar.minsi v1316 v1961
  let v2435 : BitVec 32 := v2433
  let c512_i32_1675 : BitVec 32 := 512#32
  ![v2435.toNat, 512]
def k0_dev76 (d0 : Dev nD) : Nat :=
  let c0_i32_1674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1668 : BitVec 32 := 3#32
  let v2436 : BitVec 32 := Scalar.xori v2 c3_i32_1668
  let c1_i32_1673 : BitVec 32 := 1#32
  let v2437 : BitVec 32 := Scalar.muli v2436 c1_i32_1673
  let v2438 : BitVec 32 := Scalar.addi c0_i32_1674 v2437
  v2438.toNat
def k0_mult146 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1667 : BitVec 32 := 0#32
  let v2434 : BitVec 1 := Scalar.cmpi .eq v5 c0_i32_1667
  let c0_i32_471 : BitVec 32 := 0#32
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  let c0_i32_1303 : BitVec 32 := 0#32
  let v1947 : BitVec 1 := Scalar.cmpi .eq v7 c0_i32_1303
  let v1948 : BitVec 32 := v1316
  let c256_i32_1313 : BitVec 32 := 256#32
  let v1958 : BitVec 32 := Scalar.addi v1948 c256_i32_1313
  let c256_i32_1314 : BitVec 32 := 256#32
  let v1959 : BitVec 32 := Scalar.subi v1948 c256_i32_1314
  let v1960 : BitVec 32 := Scalar.select v1947 v1958 v1959
  let v1961 : BitVec 32 := v1960
  let v2433 : BitVec 32 := Scalar.minsi v1316 v1961
  let v2435 : BitVec 32 := v2433
  let c512_i32_1677 : BitVec 32 := 512#32
  let v2445 : BitVec 32 := Scalar.addi v2435 c512_i32_1677
  let c512_i32_1678 : BitVec 32 := 512#32
  let v2446 : BitVec 32 := Scalar.subi v2435 c512_i32_1678
  let v2447 : BitVec 32 := Scalar.select v2434 v2445 v2446
  v2447
def k0_off109 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1328 : BitVec 32 := 0#32
  let v1987 : BitVec 1 := Scalar.cmpi .eq v8 c0_i32_1328
  let c1024_i32_500 : BitVec 32 := 1024#32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  let v1988 : BitVec 32 := v1353
  let c256_i32_1338 : BitVec 32 := 256#32
  let v1998 : BitVec 32 := Scalar.addi v1988 c256_i32_1338
  let c256_i32_1339 : BitVec 32 := 256#32
  let v1999 : BitVec 32 := Scalar.subi v1988 c256_i32_1339
  let v2000 : BitVec 32 := Scalar.select v1987 v1998 v1999
  let v2001 : BitVec 32 := v2000
  let c512_i32_1686 : BitVec 32 := 512#32
  ![v2001.toNat, 512]
def k0_mult147 (d0 : Dev nD) : BitVec 32 :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  let c0_i32_1328 : BitVec 32 := 0#32
  let v1987 : BitVec 1 := Scalar.cmpi .eq v8 c0_i32_1328
  let v1988 : BitVec 32 := v1353
  let c256_i32_1338 : BitVec 32 := 256#32
  let v1998 : BitVec 32 := Scalar.addi v1988 c256_i32_1338
  let c256_i32_1339 : BitVec 32 := 256#32
  let v1999 : BitVec 32 := Scalar.subi v1988 c256_i32_1339
  let v2000 : BitVec 32 := Scalar.select v1987 v1998 v1999
  let v2001 : BitVec 32 := v2000
  let v2456 : BitVec 32 := Scalar.minsi v1353 v2001
  v2456
def k0_off110 (d0 : Dev nD) : Fin 2 → Nat :=
  let c1024_i32_500 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  let c0_i32_1328 : BitVec 32 := 0#32
  let v1987 : BitVec 1 := Scalar.cmpi .eq v8 c0_i32_1328
  let v1988 : BitVec 32 := v1353
  let c256_i32_1338 : BitVec 32 := 256#32
  let v1998 : BitVec 32 := Scalar.addi v1988 c256_i32_1338
  let c256_i32_1339 : BitVec 32 := 256#32
  let v1999 : BitVec 32 := Scalar.subi v1988 c256_i32_1339
  let v2000 : BitVec 32 := Scalar.select v1987 v1998 v1999
  let v2001 : BitVec 32 := v2000
  let v2456 : BitVec 32 := Scalar.minsi v1353 v2001
  let v2458 : BitVec 32 := v2456
  let c512_i32_1696 : BitVec 32 := 512#32
  ![v2458.toNat, 512]
def k0_dev77 (d0 : Dev nD) : Nat :=
  let c0_i32_1695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1689 : BitVec 32 := 4#32
  let v2459 : BitVec 32 := Scalar.xori v2 c4_i32_1689
  let c1_i32_1694 : BitVec 32 := 1#32
  let v2460 : BitVec 32 := Scalar.muli v2459 c1_i32_1694
  let v2461 : BitVec 32 := Scalar.addi c0_i32_1695 v2460
  v2461.toNat
def k0_mult148 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1688 : BitVec 32 := 0#32
  let v2457 : BitVec 1 := Scalar.cmpi .eq v7 c0_i32_1688
  let c1024_i32_500 : BitVec 32 := 1024#32
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  let c0_i32_1328 : BitVec 32 := 0#32
  let v1987 : BitVec 1 := Scalar.cmpi .eq v8 c0_i32_1328
  let v1988 : BitVec 32 := v1353
  let c256_i32_1338 : BitVec 32 := 256#32
  let v1998 : BitVec 32 := Scalar.addi v1988 c256_i32_1338
  let c256_i32_1339 : BitVec 32 := 256#32
  let v1999 : BitVec 32 := Scalar.subi v1988 c256_i32_1339
  let v2000 : BitVec 32 := Scalar.select v1987 v1998 v1999
  let v2001 : BitVec 32 := v2000
  let v2456 : BitVec 32 := Scalar.minsi v1353 v2001
  let v2458 : BitVec 32 := v2456
  let c512_i32_1698 : BitVec 32 := 512#32
  let v2468 : BitVec 32 := Scalar.addi v2458 c512_i32_1698
  let c512_i32_1699 : BitVec 32 := 512#32
  let v2469 : BitVec 32 := Scalar.subi v2458 c512_i32_1699
  let v2470 : BitVec 32 := Scalar.select v2457 v2468 v2469
  v2470
def k0_off111 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1353 : BitVec 32 := 0#32
  let v2027 : BitVec 1 := Scalar.cmpi .eq v8 c0_i32_1353
  let c0_i32_529 : BitVec 32 := 0#32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  let v2028 : BitVec 32 := v1390
  let c256_i32_1363 : BitVec 32 := 256#32
  let v2038 : BitVec 32 := Scalar.addi v2028 c256_i32_1363
  let c256_i32_1364 : BitVec 32 := 256#32
  let v2039 : BitVec 32 := Scalar.subi v2028 c256_i32_1364
  let v2040 : BitVec 32 := Scalar.select v2027 v2038 v2039
  let v2041 : BitVec 32 := v2040
  let c640_i32_1707 : BitVec 32 := 640#32
  ![v2041.toNat, 640]
def k0_mult149 (d0 : Dev nD) : BitVec 32 :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  let c0_i32_1353 : BitVec 32 := 0#32
  let v2027 : BitVec 1 := Scalar.cmpi .eq v8 c0_i32_1353
  let v2028 : BitVec 32 := v1390
  let c256_i32_1363 : BitVec 32 := 256#32
  let v2038 : BitVec 32 := Scalar.addi v2028 c256_i32_1363
  let c256_i32_1364 : BitVec 32 := 256#32
  let v2039 : BitVec 32 := Scalar.subi v2028 c256_i32_1364
  let v2040 : BitVec 32 := Scalar.select v2027 v2038 v2039
  let v2041 : BitVec 32 := v2040
  let v2479 : BitVec 32 := Scalar.minsi v1390 v2041
  v2479
def k0_off112 (d0 : Dev nD) : Fin 2 → Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  let c0_i32_1353 : BitVec 32 := 0#32
  let v2027 : BitVec 1 := Scalar.cmpi .eq v8 c0_i32_1353
  let v2028 : BitVec 32 := v1390
  let c256_i32_1363 : BitVec 32 := 256#32
  let v2038 : BitVec 32 := Scalar.addi v2028 c256_i32_1363
  let c256_i32_1364 : BitVec 32 := 256#32
  let v2039 : BitVec 32 := Scalar.subi v2028 c256_i32_1364
  let v2040 : BitVec 32 := Scalar.select v2027 v2038 v2039
  let v2041 : BitVec 32 := v2040
  let v2479 : BitVec 32 := Scalar.minsi v1390 v2041
  let v2481 : BitVec 32 := v2479
  let c640_i32_1717 : BitVec 32 := 640#32
  ![v2481.toNat, 640]
def k0_dev78 (d0 : Dev nD) : Nat :=
  let c0_i32_1716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1710 : BitVec 32 := 4#32
  let v2482 : BitVec 32 := Scalar.xori v2 c4_i32_1710
  let c1_i32_1715 : BitVec 32 := 1#32
  let v2483 : BitVec 32 := Scalar.muli v2482 c1_i32_1715
  let v2484 : BitVec 32 := Scalar.addi c0_i32_1716 v2483
  v2484.toNat
def k0_mult150 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1709 : BitVec 32 := 0#32
  let v2480 : BitVec 1 := Scalar.cmpi .eq v7 c0_i32_1709
  let c0_i32_529 : BitVec 32 := 0#32
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  let c0_i32_1353 : BitVec 32 := 0#32
  let v2027 : BitVec 1 := Scalar.cmpi .eq v8 c0_i32_1353
  let v2028 : BitVec 32 := v1390
  let c256_i32_1363 : BitVec 32 := 256#32
  let v2038 : BitVec 32 := Scalar.addi v2028 c256_i32_1363
  let c256_i32_1364 : BitVec 32 := 256#32
  let v2039 : BitVec 32 := Scalar.subi v2028 c256_i32_1364
  let v2040 : BitVec 32 := Scalar.select v2027 v2038 v2039
  let v2041 : BitVec 32 := v2040
  let v2479 : BitVec 32 := Scalar.minsi v1390 v2041
  let v2481 : BitVec 32 := v2479
  let c512_i32_1719 : BitVec 32 := 512#32
  let v2491 : BitVec 32 := Scalar.addi v2481 c512_i32_1719
  let c512_i32_1720 : BitVec 32 := 512#32
  let v2492 : BitVec 32 := Scalar.subi v2481 c512_i32_1720
  let v2493 : BitVec 32 := Scalar.select v2480 v2491 v2492
  v2493
def k0_off113 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1378 : BitVec 32 := 0#32
  let v2067 : BitVec 1 := Scalar.cmpi .eq v5 c0_i32_1378
  let c1024_i32_558 : BitVec 32 := 1024#32
  let c1_i32_0 : BitVec 32 := 1#32
  let v3 : BitVec 32 := Scalar.andi v2 c1_i32_0
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  let v2068 : BitVec 32 := v1427
  let c256_i32_1388 : BitVec 32 := 256#32
  let v2078 : BitVec 32 := Scalar.addi v2068 c256_i32_1388
  let c256_i32_1389 : BitVec 32 := 256#32
  let v2079 : BitVec 32 := Scalar.subi v2068 c256_i32_1389
  let v2080 : BitVec 32 := Scalar.select v2067 v2078 v2079
  let v2081 : BitVec 32 := v2080
  let c640_i32_1728 : BitVec 32 := 640#32
  ![v2081.toNat, 640]
def k0_mult151 (d0 : Dev nD) : BitVec 32 :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  let c0_i32_1378 : BitVec 32 := 0#32
  let v2067 : BitVec 1 := Scalar.cmpi .eq v5 c0_i32_1378
  let v2068 : BitVec 32 := v1427
  let c256_i32_1388 : BitVec 32 := 256#32
  let v2078 : BitVec 32 := Scalar.addi v2068 c256_i32_1388
  let c256_i32_1389 : BitVec 32 := 256#32
  let v2079 : BitVec 32 := Scalar.subi v2068 c256_i32_1389
  let v2080 : BitVec 32 := Scalar.select v2067 v2078 v2079
  let v2081 : BitVec 32 := v2080
  let v2502 : BitVec 32 := Scalar.minsi v1427 v2081
  v2502
def k0_off114 (d0 : Dev nD) : Fin 2 → Nat :=
  let c1024_i32_558 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  let c0_i32_1378 : BitVec 32 := 0#32
  let v2067 : BitVec 1 := Scalar.cmpi .eq v5 c0_i32_1378
  let v2068 : BitVec 32 := v1427
  let c256_i32_1388 : BitVec 32 := 256#32
  let v2078 : BitVec 32 := Scalar.addi v2068 c256_i32_1388
  let c256_i32_1389 : BitVec 32 := 256#32
  let v2079 : BitVec 32 := Scalar.subi v2068 c256_i32_1389
  let v2080 : BitVec 32 := Scalar.select v2067 v2078 v2079
  let v2081 : BitVec 32 := v2080
  let v2502 : BitVec 32 := Scalar.minsi v1427 v2081
  let v2504 : BitVec 32 := v2502
  let c640_i32_1738 : BitVec 32 := 640#32
  ![v2504.toNat, 640]
def k0_dev79 (d0 : Dev nD) : Nat :=
  let c0_i32_1737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1731 : BitVec 32 := 1#32
  let v2505 : BitVec 32 := Scalar.xori v2 c1_i32_1731
  let c1_i32_1736 : BitVec 32 := 1#32
  let v2506 : BitVec 32 := Scalar.muli v2505 c1_i32_1736
  let v2507 : BitVec 32 := Scalar.addi c0_i32_1737 v2506
  v2507.toNat
def k0_mult152 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1730 : BitVec 32 := 0#32
  let v2503 : BitVec 1 := Scalar.cmpi .eq v8 c0_i32_1730
  let c1024_i32_558 : BitVec 32 := 1024#32
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  let c0_i32_1378 : BitVec 32 := 0#32
  let v2067 : BitVec 1 := Scalar.cmpi .eq v5 c0_i32_1378
  let v2068 : BitVec 32 := v1427
  let c256_i32_1388 : BitVec 32 := 256#32
  let v2078 : BitVec 32 := Scalar.addi v2068 c256_i32_1388
  let c256_i32_1389 : BitVec 32 := 256#32
  let v2079 : BitVec 32 := Scalar.subi v2068 c256_i32_1389
  let v2080 : BitVec 32 := Scalar.select v2067 v2078 v2079
  let v2081 : BitVec 32 := v2080
  let v2502 : BitVec 32 := Scalar.minsi v1427 v2081
  let v2504 : BitVec 32 := v2502
  let c512_i32_1740 : BitVec 32 := 512#32
  let v2514 : BitVec 32 := Scalar.addi v2504 c512_i32_1740
  let c512_i32_1741 : BitVec 32 := 512#32
  let v2515 : BitVec 32 := Scalar.subi v2504 c512_i32_1741
  let v2516 : BitVec 32 := Scalar.select v2503 v2514 v2515
  v2516
def k0_off115 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1403 : BitVec 32 := 0#32
  let v2107 : BitVec 1 := Scalar.cmpi .eq v5 c0_i32_1403
  let c0_i32_587 : BitVec 32 := 0#32
  let c1_i32_0 : BitVec 32 := 1#32
  let v3 : BitVec 32 := Scalar.andi v2 c1_i32_0
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  let v2108 : BitVec 32 := v1464
  let c256_i32_1413 : BitVec 32 := 256#32
  let v2118 : BitVec 32 := Scalar.addi v2108 c256_i32_1413
  let c256_i32_1414 : BitVec 32 := 256#32
  let v2119 : BitVec 32 := Scalar.subi v2108 c256_i32_1414
  let v2120 : BitVec 32 := Scalar.select v2107 v2118 v2119
  let v2121 : BitVec 32 := v2120
  let c768_i32_1749 : BitVec 32 := 768#32
  ![v2121.toNat, 768]
def k0_mult153 (d0 : Dev nD) : BitVec 32 :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  let c0_i32_1403 : BitVec 32 := 0#32
  let v2107 : BitVec 1 := Scalar.cmpi .eq v5 c0_i32_1403
  let v2108 : BitVec 32 := v1464
  let c256_i32_1413 : BitVec 32 := 256#32
  let v2118 : BitVec 32 := Scalar.addi v2108 c256_i32_1413
  let c256_i32_1414 : BitVec 32 := 256#32
  let v2119 : BitVec 32 := Scalar.subi v2108 c256_i32_1414
  let v2120 : BitVec 32 := Scalar.select v2107 v2118 v2119
  let v2121 : BitVec 32 := v2120
  let v2525 : BitVec 32 := Scalar.minsi v1464 v2121
  v2525
def k0_off116 (d0 : Dev nD) : Fin 2 → Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  let c0_i32_1403 : BitVec 32 := 0#32
  let v2107 : BitVec 1 := Scalar.cmpi .eq v5 c0_i32_1403
  let v2108 : BitVec 32 := v1464
  let c256_i32_1413 : BitVec 32 := 256#32
  let v2118 : BitVec 32 := Scalar.addi v2108 c256_i32_1413
  let c256_i32_1414 : BitVec 32 := 256#32
  let v2119 : BitVec 32 := Scalar.subi v2108 c256_i32_1414
  let v2120 : BitVec 32 := Scalar.select v2107 v2118 v2119
  let v2121 : BitVec 32 := v2120
  let v2525 : BitVec 32 := Scalar.minsi v1464 v2121
  let v2527 : BitVec 32 := v2525
  let c768_i32_1759 : BitVec 32 := 768#32
  ![v2527.toNat, 768]
def k0_dev80 (d0 : Dev nD) : Nat :=
  let c0_i32_1758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1752 : BitVec 32 := 1#32
  let v2528 : BitVec 32 := Scalar.xori v2 c1_i32_1752
  let c1_i32_1757 : BitVec 32 := 1#32
  let v2529 : BitVec 32 := Scalar.muli v2528 c1_i32_1757
  let v2530 : BitVec 32 := Scalar.addi c0_i32_1758 v2529
  v2530.toNat
def k0_mult154 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1751 : BitVec 32 := 0#32
  let v2526 : BitVec 1 := Scalar.cmpi .eq v8 c0_i32_1751
  let c0_i32_587 : BitVec 32 := 0#32
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  let c0_i32_1403 : BitVec 32 := 0#32
  let v2107 : BitVec 1 := Scalar.cmpi .eq v5 c0_i32_1403
  let v2108 : BitVec 32 := v1464
  let c256_i32_1413 : BitVec 32 := 256#32
  let v2118 : BitVec 32 := Scalar.addi v2108 c256_i32_1413
  let c256_i32_1414 : BitVec 32 := 256#32
  let v2119 : BitVec 32 := Scalar.subi v2108 c256_i32_1414
  let v2120 : BitVec 32 := Scalar.select v2107 v2118 v2119
  let v2121 : BitVec 32 := v2120
  let v2525 : BitVec 32 := Scalar.minsi v1464 v2121
  let v2527 : BitVec 32 := v2525
  let c512_i32_1761 : BitVec 32 := 512#32
  let v2537 : BitVec 32 := Scalar.addi v2527 c512_i32_1761
  let c512_i32_1762 : BitVec 32 := 512#32
  let v2538 : BitVec 32 := Scalar.subi v2527 c512_i32_1762
  let v2539 : BitVec 32 := Scalar.select v2526 v2537 v2538
  v2539
def k0_off117 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1428 : BitVec 32 := 0#32
  let v2147 : BitVec 1 := Scalar.cmpi .eq v7 c0_i32_1428
  let c1024_i32_616 : BitVec 32 := 1024#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  let v2148 : BitVec 32 := v1501
  let c256_i32_1438 : BitVec 32 := 256#32
  let v2158 : BitVec 32 := Scalar.addi v2148 c256_i32_1438
  let c256_i32_1439 : BitVec 32 := 256#32
  let v2159 : BitVec 32 := Scalar.subi v2148 c256_i32_1439
  let v2160 : BitVec 32 := Scalar.select v2147 v2158 v2159
  let v2161 : BitVec 32 := v2160
  let c768_i32_1770 : BitVec 32 := 768#32
  ![v2161.toNat, 768]
def k0_mult155 (d0 : Dev nD) : BitVec 32 :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  let c0_i32_1428 : BitVec 32 := 0#32
  let v2147 : BitVec 1 := Scalar.cmpi .eq v7 c0_i32_1428
  let v2148 : BitVec 32 := v1501
  let c256_i32_1438 : BitVec 32 := 256#32
  let v2158 : BitVec 32 := Scalar.addi v2148 c256_i32_1438
  let c256_i32_1439 : BitVec 32 := 256#32
  let v2159 : BitVec 32 := Scalar.subi v2148 c256_i32_1439
  let v2160 : BitVec 32 := Scalar.select v2147 v2158 v2159
  let v2161 : BitVec 32 := v2160
  let v2548 : BitVec 32 := Scalar.minsi v1501 v2161
  v2548
def k0_off118 (d0 : Dev nD) : Fin 2 → Nat :=
  let c1024_i32_616 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  let c0_i32_1428 : BitVec 32 := 0#32
  let v2147 : BitVec 1 := Scalar.cmpi .eq v7 c0_i32_1428
  let v2148 : BitVec 32 := v1501
  let c256_i32_1438 : BitVec 32 := 256#32
  let v2158 : BitVec 32 := Scalar.addi v2148 c256_i32_1438
  let c256_i32_1439 : BitVec 32 := 256#32
  let v2159 : BitVec 32 := Scalar.subi v2148 c256_i32_1439
  let v2160 : BitVec 32 := Scalar.select v2147 v2158 v2159
  let v2161 : BitVec 32 := v2160
  let v2548 : BitVec 32 := Scalar.minsi v1501 v2161
  let v2550 : BitVec 32 := v2548
  let c768_i32_1780 : BitVec 32 := 768#32
  ![v2550.toNat, 768]
def k0_dev81 (d0 : Dev nD) : Nat :=
  let c0_i32_1779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1773 : BitVec 32 := 3#32
  let v2551 : BitVec 32 := Scalar.xori v2 c3_i32_1773
  let c1_i32_1778 : BitVec 32 := 1#32
  let v2552 : BitVec 32 := Scalar.muli v2551 c1_i32_1778
  let v2553 : BitVec 32 := Scalar.addi c0_i32_1779 v2552
  v2553.toNat
def k0_mult156 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1772 : BitVec 32 := 0#32
  let v2549 : BitVec 1 := Scalar.cmpi .eq v5 c0_i32_1772
  let c1024_i32_616 : BitVec 32 := 1024#32
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  let c0_i32_1428 : BitVec 32 := 0#32
  let v2147 : BitVec 1 := Scalar.cmpi .eq v7 c0_i32_1428
  let v2148 : BitVec 32 := v1501
  let c256_i32_1438 : BitVec 32 := 256#32
  let v2158 : BitVec 32 := Scalar.addi v2148 c256_i32_1438
  let c256_i32_1439 : BitVec 32 := 256#32
  let v2159 : BitVec 32 := Scalar.subi v2148 c256_i32_1439
  let v2160 : BitVec 32 := Scalar.select v2147 v2158 v2159
  let v2161 : BitVec 32 := v2160
  let v2548 : BitVec 32 := Scalar.minsi v1501 v2161
  let v2550 : BitVec 32 := v2548
  let c512_i32_1782 : BitVec 32 := 512#32
  let v2560 : BitVec 32 := Scalar.addi v2550 c512_i32_1782
  let c512_i32_1783 : BitVec 32 := 512#32
  let v2561 : BitVec 32 := Scalar.subi v2550 c512_i32_1783
  let v2562 : BitVec 32 := Scalar.select v2549 v2560 v2561
  v2562
def k0_off119 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1453 : BitVec 32 := 0#32
  let v2187 : BitVec 1 := Scalar.cmpi .eq v7 c0_i32_1453
  let c0_i32_645 : BitVec 32 := 0#32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  let v2188 : BitVec 32 := v1538
  let c256_i32_1463 : BitVec 32 := 256#32
  let v2198 : BitVec 32 := Scalar.addi v2188 c256_i32_1463
  let c256_i32_1464 : BitVec 32 := 256#32
  let v2199 : BitVec 32 := Scalar.subi v2188 c256_i32_1464
  let v2200 : BitVec 32 := Scalar.select v2187 v2198 v2199
  let v2201 : BitVec 32 := v2200
  let c896_i32_1791 : BitVec 32 := 896#32
  ![v2201.toNat, 896]
def k0_mult157 (d0 : Dev nD) : BitVec 32 :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  let c0_i32_1453 : BitVec 32 := 0#32
  let v2187 : BitVec 1 := Scalar.cmpi .eq v7 c0_i32_1453
  let v2188 : BitVec 32 := v1538
  let c256_i32_1463 : BitVec 32 := 256#32
  let v2198 : BitVec 32 := Scalar.addi v2188 c256_i32_1463
  let c256_i32_1464 : BitVec 32 := 256#32
  let v2199 : BitVec 32 := Scalar.subi v2188 c256_i32_1464
  let v2200 : BitVec 32 := Scalar.select v2187 v2198 v2199
  let v2201 : BitVec 32 := v2200
  let v2571 : BitVec 32 := Scalar.minsi v1538 v2201
  v2571
def k0_off120 (d0 : Dev nD) : Fin 2 → Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  let c0_i32_1453 : BitVec 32 := 0#32
  let v2187 : BitVec 1 := Scalar.cmpi .eq v7 c0_i32_1453
  let v2188 : BitVec 32 := v1538
  let c256_i32_1463 : BitVec 32 := 256#32
  let v2198 : BitVec 32 := Scalar.addi v2188 c256_i32_1463
  let c256_i32_1464 : BitVec 32 := 256#32
  let v2199 : BitVec 32 := Scalar.subi v2188 c256_i32_1464
  let v2200 : BitVec 32 := Scalar.select v2187 v2198 v2199
  let v2201 : BitVec 32 := v2200
  let v2571 : BitVec 32 := Scalar.minsi v1538 v2201
  let v2573 : BitVec 32 := v2571
  let c896_i32_1801 : BitVec 32 := 896#32
  ![v2573.toNat, 896]
def k0_dev82 (d0 : Dev nD) : Nat :=
  let c0_i32_1800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1794 : BitVec 32 := 3#32
  let v2574 : BitVec 32 := Scalar.xori v2 c3_i32_1794
  let c1_i32_1799 : BitVec 32 := 1#32
  let v2575 : BitVec 32 := Scalar.muli v2574 c1_i32_1799
  let v2576 : BitVec 32 := Scalar.addi c0_i32_1800 v2575
  v2576.toNat
def k0_mult158 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1793 : BitVec 32 := 0#32
  let v2572 : BitVec 1 := Scalar.cmpi .eq v5 c0_i32_1793
  let c0_i32_645 : BitVec 32 := 0#32
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  let c0_i32_1453 : BitVec 32 := 0#32
  let v2187 : BitVec 1 := Scalar.cmpi .eq v7 c0_i32_1453
  let v2188 : BitVec 32 := v1538
  let c256_i32_1463 : BitVec 32 := 256#32
  let v2198 : BitVec 32 := Scalar.addi v2188 c256_i32_1463
  let c256_i32_1464 : BitVec 32 := 256#32
  let v2199 : BitVec 32 := Scalar.subi v2188 c256_i32_1464
  let v2200 : BitVec 32 := Scalar.select v2187 v2198 v2199
  let v2201 : BitVec 32 := v2200
  let v2571 : BitVec 32 := Scalar.minsi v1538 v2201
  let v2573 : BitVec 32 := v2571
  let c512_i32_1803 : BitVec 32 := 512#32
  let v2583 : BitVec 32 := Scalar.addi v2573 c512_i32_1803
  let c512_i32_1804 : BitVec 32 := 512#32
  let v2584 : BitVec 32 := Scalar.subi v2573 c512_i32_1804
  let v2585 : BitVec 32 := Scalar.select v2572 v2583 v2584
  v2585
def k0_off121 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1478 : BitVec 32 := 0#32
  let v2227 : BitVec 1 := Scalar.cmpi .eq v8 c0_i32_1478
  let c1024_i32_674 : BitVec 32 := 1024#32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  let v2228 : BitVec 32 := v1575
  let c256_i32_1488 : BitVec 32 := 256#32
  let v2238 : BitVec 32 := Scalar.addi v2228 c256_i32_1488
  let c256_i32_1489 : BitVec 32 := 256#32
  let v2239 : BitVec 32 := Scalar.subi v2228 c256_i32_1489
  let v2240 : BitVec 32 := Scalar.select v2227 v2238 v2239
  let v2241 : BitVec 32 := v2240
  let c896_i32_1812 : BitVec 32 := 896#32
  ![v2241.toNat, 896]
def k0_mult159 (d0 : Dev nD) : BitVec 32 :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  let c0_i32_1478 : BitVec 32 := 0#32
  let v2227 : BitVec 1 := Scalar.cmpi .eq v8 c0_i32_1478
  let v2228 : BitVec 32 := v1575
  let c256_i32_1488 : BitVec 32 := 256#32
  let v2238 : BitVec 32 := Scalar.addi v2228 c256_i32_1488
  let c256_i32_1489 : BitVec 32 := 256#32
  let v2239 : BitVec 32 := Scalar.subi v2228 c256_i32_1489
  let v2240 : BitVec 32 := Scalar.select v2227 v2238 v2239
  let v2241 : BitVec 32 := v2240
  let v2594 : BitVec 32 := Scalar.minsi v1575 v2241
  v2594
def k0_off122 (d0 : Dev nD) : Fin 2 → Nat :=
  let c1024_i32_674 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  let c0_i32_1478 : BitVec 32 := 0#32
  let v2227 : BitVec 1 := Scalar.cmpi .eq v8 c0_i32_1478
  let v2228 : BitVec 32 := v1575
  let c256_i32_1488 : BitVec 32 := 256#32
  let v2238 : BitVec 32 := Scalar.addi v2228 c256_i32_1488
  let c256_i32_1489 : BitVec 32 := 256#32
  let v2239 : BitVec 32 := Scalar.subi v2228 c256_i32_1489
  let v2240 : BitVec 32 := Scalar.select v2227 v2238 v2239
  let v2241 : BitVec 32 := v2240
  let v2594 : BitVec 32 := Scalar.minsi v1575 v2241
  let v2596 : BitVec 32 := v2594
  let c896_i32_1822 : BitVec 32 := 896#32
  ![v2596.toNat, 896]
def k0_dev83 (d0 : Dev nD) : Nat :=
  let c0_i32_1821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1815 : BitVec 32 := 4#32
  let v2597 : BitVec 32 := Scalar.xori v2 c4_i32_1815
  let c1_i32_1820 : BitVec 32 := 1#32
  let v2598 : BitVec 32 := Scalar.muli v2597 c1_i32_1820
  let v2599 : BitVec 32 := Scalar.addi c0_i32_1821 v2598
  v2599.toNat
def k0_mult160 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1814 : BitVec 32 := 0#32
  let v2595 : BitVec 1 := Scalar.cmpi .eq v7 c0_i32_1814
  let c1024_i32_674 : BitVec 32 := 1024#32
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  let c0_i32_1478 : BitVec 32 := 0#32
  let v2227 : BitVec 1 := Scalar.cmpi .eq v8 c0_i32_1478
  let v2228 : BitVec 32 := v1575
  let c256_i32_1488 : BitVec 32 := 256#32
  let v2238 : BitVec 32 := Scalar.addi v2228 c256_i32_1488
  let c256_i32_1489 : BitVec 32 := 256#32
  let v2239 : BitVec 32 := Scalar.subi v2228 c256_i32_1489
  let v2240 : BitVec 32 := Scalar.select v2227 v2238 v2239
  let v2241 : BitVec 32 := v2240
  let v2594 : BitVec 32 := Scalar.minsi v1575 v2241
  let v2596 : BitVec 32 := v2594
  let c512_i32_1824 : BitVec 32 := 512#32
  let v2606 : BitVec 32 := Scalar.addi v2596 c512_i32_1824
  let c512_i32_1825 : BitVec 32 := 512#32
  let v2607 : BitVec 32 := Scalar.subi v2596 c512_i32_1825
  let v2608 : BitVec 32 := Scalar.select v2595 v2606 v2607
  v2608
def k0_off123 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1499 : BitVec 32 := 0#32
  let v2250 : BitVec 1 := Scalar.cmpi .eq v8 c0_i32_1499
  let c0_i32_239 : BitVec 32 := 0#32
  let c0_i32_236 : BitVec 32 := 0#32
  let v345 : BitVec 1 := Scalar.cmpi .eq v8 c0_i32_236
  let c0_i32_237 : BitVec 32 := 0#32
  let c512_i32_238 : BitVec 32 := 512#32
  let v346 : BitVec 32 := Scalar.select v345 c0_i32_237 c512_i32_238
  let v347 : BitVec 32 := Scalar.addi c0_i32_239 v346
  let v348 : BitVec 32 := v347
  let c0_i32_700 : BitVec 32 := 0#32
  let v1017 : BitVec 1 := Scalar.cmpi .eq v5 c0_i32_700
  let c0_i32_701 : BitVec 32 := 0#32
  let c256_i32_702 : BitVec 32 := 256#32
  let v1018 : BitVec 32 := Scalar.select v1017 c0_i32_701 c256_i32_702
  let v1019 : BitVec 32 := Scalar.addi v348 v1018
  let v1020 : BitVec 32 := v1019
  let c0_i32_1103 : BitVec 32 := 0#32
  let v1627 : BitVec 1 := Scalar.cmpi .eq v5 c0_i32_1103
  let v1628 : BitVec 32 := v1020
  let c256_i32_1113 : BitVec 32 := 256#32
  let v1638 : BitVec 32 := Scalar.addi v1628 c256_i32_1113
  let c256_i32_1114 : BitVec 32 := 256#32
  let v1639 : BitVec 32 := Scalar.subi v1628 c256_i32_1114
  let v1640 : BitVec 32 := Scalar.select v1627 v1638 v1639
  let v1641 : BitVec 32 := v1640
  let v2249 : BitVec 32 := Scalar.minsi v1020 v1641
  let v2251 : BitVec 32 := v2249
  let c512_i32_1509 : BitVec 32 := 512#32
  let v2261 : BitVec 32 := Scalar.addi v2251 c512_i32_1509
  let c512_i32_1510 : BitVec 32 := 512#32
  let v2262 : BitVec 32 := Scalar.subi v2251 c512_i32_1510
  let v2263 : BitVec 32 := Scalar.select v2250 v2261 v2262
  let v2264 : BitVec 32 := v2263
  let c0_i32_1833 : BitVec 32 := 0#32
  ![v2264.toNat, 0]
def k0_off124 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1520 : BitVec 32 := 0#32
  let v2273 : BitVec 1 := Scalar.cmpi .eq v5 c0_i32_1520
  let c1024_i32_268 : BitVec 32 := 1024#32
  let c0_i32_265 : BitVec 32 := 0#32
  let v387 : BitVec 1 := Scalar.cmpi .eq v5 c0_i32_265
  let c0_i32_266 : BitVec 32 := 0#32
  let c512_i32_267 : BitVec 32 := 512#32
  let v388 : BitVec 32 := Scalar.select v387 c0_i32_266 c512_i32_267
  let v389 : BitVec 32 := Scalar.addi c1024_i32_268 v388
  let v390 : BitVec 32 := v389
  let c2_i32 : BitVec 32 := 2#32
  let v6 : BitVec 32 := Scalar.shrsi v2 c2_i32
  let c1_i32_3 : BitVec 32 := 1#32
  let v7 : BitVec 32 := Scalar.andi v6 c1_i32_3
  let c0_i32_725 : BitVec 32 := 0#32
  let v1054 : BitVec 1 := Scalar.cmpi .eq v7 c0_i32_725
  let c0_i32_726 : BitVec 32 := 0#32
  let c256_i32_727 : BitVec 32 := 256#32
  let v1055 : BitVec 32 := Scalar.select v1054 c0_i32_726 c256_i32_727
  let v1056 : BitVec 32 := Scalar.addi v390 v1055
  let v1057 : BitVec 32 := v1056
  let c0_i32_1128 : BitVec 32 := 0#32
  let v1667 : BitVec 1 := Scalar.cmpi .eq v7 c0_i32_1128
  let v1668 : BitVec 32 := v1057
  let c256_i32_1138 : BitVec 32 := 256#32
  let v1678 : BitVec 32 := Scalar.addi v1668 c256_i32_1138
  let c256_i32_1139 : BitVec 32 := 256#32
  let v1679 : BitVec 32 := Scalar.subi v1668 c256_i32_1139
  let v1680 : BitVec 32 := Scalar.select v1667 v1678 v1679
  let v1681 : BitVec 32 := v1680
  let v2272 : BitVec 32 := Scalar.minsi v1057 v1681
  let v2274 : BitVec 32 := v2272
  let c512_i32_1530 : BitVec 32 := 512#32
  let v2284 : BitVec 32 := Scalar.addi v2274 c512_i32_1530
  let c512_i32_1531 : BitVec 32 := 512#32
  let v2285 : BitVec 32 := Scalar.subi v2274 c512_i32_1531
  let v2286 : BitVec 32 := Scalar.select v2273 v2284 v2285
  let v2287 : BitVec 32 := v2286
  let c0_i32_1841 : BitVec 32 := 0#32
  ![v2287.toNat, 0]
def k0_off125 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1541 : BitVec 32 := 0#32
  let v2296 : BitVec 1 := Scalar.cmpi .eq v5 c0_i32_1541
  let c0_i32_297 : BitVec 32 := 0#32
  let c0_i32_294 : BitVec 32 := 0#32
  let v429 : BitVec 1 := Scalar.cmpi .eq v5 c0_i32_294
  let c0_i32_295 : BitVec 32 := 0#32
  let c512_i32_296 : BitVec 32 := 512#32
  let v430 : BitVec 32 := Scalar.select v429 c0_i32_295 c512_i32_296
  let v431 : BitVec 32 := Scalar.addi c0_i32_297 v430
  let v432 : BitVec 32 := v431
  let c2_i32 : BitVec 32 := 2#32
  let v6 : BitVec 32 := Scalar.shrsi v2 c2_i32
  let c1_i32_3 : BitVec 32 := 1#32
  let v7 : BitVec 32 := Scalar.andi v6 c1_i32_3
  let c0_i32_750 : BitVec 32 := 0#32
  let v1091 : BitVec 1 := Scalar.cmpi .eq v7 c0_i32_750
  let c0_i32_751 : BitVec 32 := 0#32
  let c256_i32_752 : BitVec 32 := 256#32
  let v1092 : BitVec 32 := Scalar.select v1091 c0_i32_751 c256_i32_752
  let v1093 : BitVec 32 := Scalar.addi v432 v1092
  let v1094 : BitVec 32 := v1093
  let c0_i32_1153 : BitVec 32 := 0#32
  let v1707 : BitVec 1 := Scalar.cmpi .eq v7 c0_i32_1153
  let v1708 : BitVec 32 := v1094
  let c256_i32_1163 : BitVec 32 := 256#32
  let v1718 : BitVec 32 := Scalar.addi v1708 c256_i32_1163
  let c256_i32_1164 : BitVec 32 := 256#32
  let v1719 : BitVec 32 := Scalar.subi v1708 c256_i32_1164
  let v1720 : BitVec 32 := Scalar.select v1707 v1718 v1719
  let v1721 : BitVec 32 := v1720
  let v2295 : BitVec 32 := Scalar.minsi v1094 v1721
  let v2297 : BitVec 32 := v2295
  let c512_i32_1551 : BitVec 32 := 512#32
  let v2307 : BitVec 32 := Scalar.addi v2297 c512_i32_1551
  let c512_i32_1552 : BitVec 32 := 512#32
  let v2308 : BitVec 32 := Scalar.subi v2297 c512_i32_1552
  let v2309 : BitVec 32 := Scalar.select v2296 v2307 v2308
  let v2310 : BitVec 32 := v2309
  let c128_i32_1849 : BitVec 32 := 128#32
  ![v2310.toNat, 128]
def k0_off126 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1562 : BitVec 32 := 0#32
  let v2319 : BitVec 1 := Scalar.cmpi .eq v7 c0_i32_1562
  let c1024_i32_326 : BitVec 32 := 1024#32
  let c0_i32_323 : BitVec 32 := 0#32
  let v471 : BitVec 1 := Scalar.cmpi .eq v7 c0_i32_323
  let c0_i32_324 : BitVec 32 := 0#32
  let c512_i32_325 : BitVec 32 := 512#32
  let v472 : BitVec 32 := Scalar.select v471 c0_i32_324 c512_i32_325
  let v473 : BitVec 32 := Scalar.addi c1024_i32_326 v472
  let v474 : BitVec 32 := v473
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_775 : BitVec 32 := 0#32
  let v1128 : BitVec 1 := Scalar.cmpi .eq v8 c0_i32_775
  let c0_i32_776 : BitVec 32 := 0#32
  let c256_i32_777 : BitVec 32 := 256#32
  let v1129 : BitVec 32 := Scalar.select v1128 c0_i32_776 c256_i32_777
  let v1130 : BitVec 32 := Scalar.addi v474 v1129
  let v1131 : BitVec 32 := v1130
  let c0_i32_1178 : BitVec 32 := 0#32
  let v1747 : BitVec 1 := Scalar.cmpi .eq v8 c0_i32_1178
  let v1748 : BitVec 32 := v1131
  let c256_i32_1188 : BitVec 32 := 256#32
  let v1758 : BitVec 32 := Scalar.addi v1748 c256_i32_1188
  let c256_i32_1189 : BitVec 32 := 256#32
  let v1759 : BitVec 32 := Scalar.subi v1748 c256_i32_1189
  let v1760 : BitVec 32 := Scalar.select v1747 v1758 v1759
  let v1761 : BitVec 32 := v1760
  let v2318 : BitVec 32 := Scalar.minsi v1131 v1761
  let v2320 : BitVec 32 := v2318
  let c512_i32_1572 : BitVec 32 := 512#32
  let v2330 : BitVec 32 := Scalar.addi v2320 c512_i32_1572
  let c512_i32_1573 : BitVec 32 := 512#32
  let v2331 : BitVec 32 := Scalar.subi v2320 c512_i32_1573
  let v2332 : BitVec 32 := Scalar.select v2319 v2330 v2331
  let v2333 : BitVec 32 := v2332
  let c128_i32_1857 : BitVec 32 := 128#32
  ![v2333.toNat, 128]
def k0_off127 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1583 : BitVec 32 := 0#32
  let v2342 : BitVec 1 := Scalar.cmpi .eq v7 c0_i32_1583
  let c0_i32_355 : BitVec 32 := 0#32
  let c0_i32_352 : BitVec 32 := 0#32
  let v513 : BitVec 1 := Scalar.cmpi .eq v7 c0_i32_352
  let c0_i32_353 : BitVec 32 := 0#32
  let c512_i32_354 : BitVec 32 := 512#32
  let v514 : BitVec 32 := Scalar.select v513 c0_i32_353 c512_i32_354
  let v515 : BitVec 32 := Scalar.addi c0_i32_355 v514
  let v516 : BitVec 32 := v515
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_800 : BitVec 32 := 0#32
  let v1165 : BitVec 1 := Scalar.cmpi .eq v8 c0_i32_800
  let c0_i32_801 : BitVec 32 := 0#32
  let c256_i32_802 : BitVec 32 := 256#32
  let v1166 : BitVec 32 := Scalar.select v1165 c0_i32_801 c256_i32_802
  let v1167 : BitVec 32 := Scalar.addi v516 v1166
  let v1168 : BitVec 32 := v1167
  let c0_i32_1203 : BitVec 32 := 0#32
  let v1787 : BitVec 1 := Scalar.cmpi .eq v8 c0_i32_1203
  let v1788 : BitVec 32 := v1168
  let c256_i32_1213 : BitVec 32 := 256#32
  let v1798 : BitVec 32 := Scalar.addi v1788 c256_i32_1213
  let c256_i32_1214 : BitVec 32 := 256#32
  let v1799 : BitVec 32 := Scalar.subi v1788 c256_i32_1214
  let v1800 : BitVec 32 := Scalar.select v1787 v1798 v1799
  let v1801 : BitVec 32 := v1800
  let v2341 : BitVec 32 := Scalar.minsi v1168 v1801
  let v2343 : BitVec 32 := v2341
  let c512_i32_1593 : BitVec 32 := 512#32
  let v2353 : BitVec 32 := Scalar.addi v2343 c512_i32_1593
  let c512_i32_1594 : BitVec 32 := 512#32
  let v2354 : BitVec 32 := Scalar.subi v2343 c512_i32_1594
  let v2355 : BitVec 32 := Scalar.select v2342 v2353 v2354
  let v2356 : BitVec 32 := v2355
  let c256_i32_1865 : BitVec 32 := 256#32
  ![v2356.toNat, 256]
def k0_off128 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1604 : BitVec 32 := 0#32
  let v2365 : BitVec 1 := Scalar.cmpi .eq v8 c0_i32_1604
  let c1024_i32_384 : BitVec 32 := 1024#32
  let c0_i32_381 : BitVec 32 := 0#32
  let v555 : BitVec 1 := Scalar.cmpi .eq v8 c0_i32_381
  let c0_i32_382 : BitVec 32 := 0#32
  let c512_i32_383 : BitVec 32 := 512#32
  let v556 : BitVec 32 := Scalar.select v555 c0_i32_382 c512_i32_383
  let v557 : BitVec 32 := Scalar.addi c1024_i32_384 v556
  let v558 : BitVec 32 := v557
  let c0_i32_825 : BitVec 32 := 0#32
  let v1202 : BitVec 1 := Scalar.cmpi .eq v5 c0_i32_825
  let c0_i32_826 : BitVec 32 := 0#32
  let c256_i32_827 : BitVec 32 := 256#32
  let v1203 : BitVec 32 := Scalar.select v1202 c0_i32_826 c256_i32_827
  let v1204 : BitVec 32 := Scalar.addi v558 v1203
  let v1205 : BitVec 32 := v1204
  let c0_i32_1228 : BitVec 32 := 0#32
  let v1827 : BitVec 1 := Scalar.cmpi .eq v5 c0_i32_1228
  let v1828 : BitVec 32 := v1205
  let c256_i32_1238 : BitVec 32 := 256#32
  let v1838 : BitVec 32 := Scalar.addi v1828 c256_i32_1238
  let c256_i32_1239 : BitVec 32 := 256#32
  let v1839 : BitVec 32 := Scalar.subi v1828 c256_i32_1239
  let v1840 : BitVec 32 := Scalar.select v1827 v1838 v1839
  let v1841 : BitVec 32 := v1840
  let v2364 : BitVec 32 := Scalar.minsi v1205 v1841
  let v2366 : BitVec 32 := v2364
  let c512_i32_1614 : BitVec 32 := 512#32
  let v2376 : BitVec 32 := Scalar.addi v2366 c512_i32_1614
  let c512_i32_1615 : BitVec 32 := 512#32
  let v2377 : BitVec 32 := Scalar.subi v2366 c512_i32_1615
  let v2378 : BitVec 32 := Scalar.select v2365 v2376 v2377
  let v2379 : BitVec 32 := v2378
  let c256_i32_1873 : BitVec 32 := 256#32
  ![v2379.toNat, 256]
def k0_off129 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1625 : BitVec 32 := 0#32
  let v2388 : BitVec 1 := Scalar.cmpi .eq v8 c0_i32_1625
  let c0_i32_413 : BitVec 32 := 0#32
  let c0_i32_410 : BitVec 32 := 0#32
  let v597 : BitVec 1 := Scalar.cmpi .eq v8 c0_i32_410
  let c0_i32_411 : BitVec 32 := 0#32
  let c512_i32_412 : BitVec 32 := 512#32
  let v598 : BitVec 32 := Scalar.select v597 c0_i32_411 c512_i32_412
  let v599 : BitVec 32 := Scalar.addi c0_i32_413 v598
  let v600 : BitVec 32 := v599
  let c0_i32_850 : BitVec 32 := 0#32
  let v1239 : BitVec 1 := Scalar.cmpi .eq v5 c0_i32_850
  let c0_i32_851 : BitVec 32 := 0#32
  let c256_i32_852 : BitVec 32 := 256#32
  let v1240 : BitVec 32 := Scalar.select v1239 c0_i32_851 c256_i32_852
  let v1241 : BitVec 32 := Scalar.addi v600 v1240
  let v1242 : BitVec 32 := v1241
  let c0_i32_1253 : BitVec 32 := 0#32
  let v1867 : BitVec 1 := Scalar.cmpi .eq v5 c0_i32_1253
  let v1868 : BitVec 32 := v1242
  let c256_i32_1263 : BitVec 32 := 256#32
  let v1878 : BitVec 32 := Scalar.addi v1868 c256_i32_1263
  let c256_i32_1264 : BitVec 32 := 256#32
  let v1879 : BitVec 32 := Scalar.subi v1868 c256_i32_1264
  let v1880 : BitVec 32 := Scalar.select v1867 v1878 v1879
  let v1881 : BitVec 32 := v1880
  let v2387 : BitVec 32 := Scalar.minsi v1242 v1881
  let v2389 : BitVec 32 := v2387
  let c512_i32_1635 : BitVec 32 := 512#32
  let v2399 : BitVec 32 := Scalar.addi v2389 c512_i32_1635
  let c512_i32_1636 : BitVec 32 := 512#32
  let v2400 : BitVec 32 := Scalar.subi v2389 c512_i32_1636
  let v2401 : BitVec 32 := Scalar.select v2388 v2399 v2400
  let v2402 : BitVec 32 := v2401
  let c384_i32_1881 : BitVec 32 := 384#32
  ![v2402.toNat, 384]
def k0_off130 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1646 : BitVec 32 := 0#32
  let v2411 : BitVec 1 := Scalar.cmpi .eq v5 c0_i32_1646
  let c1024_i32_442 : BitVec 32 := 1024#32
  let c0_i32_439 : BitVec 32 := 0#32
  let v639 : BitVec 1 := Scalar.cmpi .eq v5 c0_i32_439
  let c0_i32_440 : BitVec 32 := 0#32
  let c512_i32_441 : BitVec 32 := 512#32
  let v640 : BitVec 32 := Scalar.select v639 c0_i32_440 c512_i32_441
  let v641 : BitVec 32 := Scalar.addi c1024_i32_442 v640
  let v642 : BitVec 32 := v641
  let c2_i32 : BitVec 32 := 2#32
  let v6 : BitVec 32 := Scalar.shrsi v2 c2_i32
  let c1_i32_3 : BitVec 32 := 1#32
  let v7 : BitVec 32 := Scalar.andi v6 c1_i32_3
  let c0_i32_875 : BitVec 32 := 0#32
  let v1276 : BitVec 1 := Scalar.cmpi .eq v7 c0_i32_875
  let c0_i32_876 : BitVec 32 := 0#32
  let c256_i32_877 : BitVec 32 := 256#32
  let v1277 : BitVec 32 := Scalar.select v1276 c0_i32_876 c256_i32_877
  let v1278 : BitVec 32 := Scalar.addi v642 v1277
  let v1279 : BitVec 32 := v1278
  let c0_i32_1278 : BitVec 32 := 0#32
  let v1907 : BitVec 1 := Scalar.cmpi .eq v7 c0_i32_1278
  let v1908 : BitVec 32 := v1279
  let c256_i32_1288 : BitVec 32 := 256#32
  let v1918 : BitVec 32 := Scalar.addi v1908 c256_i32_1288
  let c256_i32_1289 : BitVec 32 := 256#32
  let v1919 : BitVec 32 := Scalar.subi v1908 c256_i32_1289
  let v1920 : BitVec 32 := Scalar.select v1907 v1918 v1919
  let v1921 : BitVec 32 := v1920
  let v2410 : BitVec 32 := Scalar.minsi v1279 v1921
  let v2412 : BitVec 32 := v2410
  let c512_i32_1656 : BitVec 32 := 512#32
  let v2422 : BitVec 32 := Scalar.addi v2412 c512_i32_1656
  let c512_i32_1657 : BitVec 32 := 512#32
  let v2423 : BitVec 32 := Scalar.subi v2412 c512_i32_1657
  let v2424 : BitVec 32 := Scalar.select v2411 v2422 v2423
  let v2425 : BitVec 32 := v2424
  let c384_i32_1889 : BitVec 32 := 384#32
  ![v2425.toNat, 384]
def k0_off131 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1667 : BitVec 32 := 0#32
  let v2434 : BitVec 1 := Scalar.cmpi .eq v5 c0_i32_1667
  let c0_i32_471 : BitVec 32 := 0#32
  let c0_i32_468 : BitVec 32 := 0#32
  let v681 : BitVec 1 := Scalar.cmpi .eq v5 c0_i32_468
  let c0_i32_469 : BitVec 32 := 0#32
  let c512_i32_470 : BitVec 32 := 512#32
  let v682 : BitVec 32 := Scalar.select v681 c0_i32_469 c512_i32_470
  let v683 : BitVec 32 := Scalar.addi c0_i32_471 v682
  let v684 : BitVec 32 := v683
  let c2_i32 : BitVec 32 := 2#32
  let v6 : BitVec 32 := Scalar.shrsi v2 c2_i32
  let c1_i32_3 : BitVec 32 := 1#32
  let v7 : BitVec 32 := Scalar.andi v6 c1_i32_3
  let c0_i32_900 : BitVec 32 := 0#32
  let v1313 : BitVec 1 := Scalar.cmpi .eq v7 c0_i32_900
  let c0_i32_901 : BitVec 32 := 0#32
  let c256_i32_902 : BitVec 32 := 256#32
  let v1314 : BitVec 32 := Scalar.select v1313 c0_i32_901 c256_i32_902
  let v1315 : BitVec 32 := Scalar.addi v684 v1314
  let v1316 : BitVec 32 := v1315
  let c0_i32_1303 : BitVec 32 := 0#32
  let v1947 : BitVec 1 := Scalar.cmpi .eq v7 c0_i32_1303
  let v1948 : BitVec 32 := v1316
  let c256_i32_1313 : BitVec 32 := 256#32
  let v1958 : BitVec 32 := Scalar.addi v1948 c256_i32_1313
  let c256_i32_1314 : BitVec 32 := 256#32
  let v1959 : BitVec 32 := Scalar.subi v1948 c256_i32_1314
  let v1960 : BitVec 32 := Scalar.select v1947 v1958 v1959
  let v1961 : BitVec 32 := v1960
  let v2433 : BitVec 32 := Scalar.minsi v1316 v1961
  let v2435 : BitVec 32 := v2433
  let c512_i32_1677 : BitVec 32 := 512#32
  let v2445 : BitVec 32 := Scalar.addi v2435 c512_i32_1677
  let c512_i32_1678 : BitVec 32 := 512#32
  let v2446 : BitVec 32 := Scalar.subi v2435 c512_i32_1678
  let v2447 : BitVec 32 := Scalar.select v2434 v2445 v2446
  let v2448 : BitVec 32 := v2447
  let c512_i32_1897 : BitVec 32 := 512#32
  ![v2448.toNat, 512]
def k0_off132 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1688 : BitVec 32 := 0#32
  let v2457 : BitVec 1 := Scalar.cmpi .eq v7 c0_i32_1688
  let c1024_i32_500 : BitVec 32 := 1024#32
  let c0_i32_497 : BitVec 32 := 0#32
  let v723 : BitVec 1 := Scalar.cmpi .eq v7 c0_i32_497
  let c0_i32_498 : BitVec 32 := 0#32
  let c512_i32_499 : BitVec 32 := 512#32
  let v724 : BitVec 32 := Scalar.select v723 c0_i32_498 c512_i32_499
  let v725 : BitVec 32 := Scalar.addi c1024_i32_500 v724
  let v726 : BitVec 32 := v725
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_925 : BitVec 32 := 0#32
  let v1350 : BitVec 1 := Scalar.cmpi .eq v8 c0_i32_925
  let c0_i32_926 : BitVec 32 := 0#32
  let c256_i32_927 : BitVec 32 := 256#32
  let v1351 : BitVec 32 := Scalar.select v1350 c0_i32_926 c256_i32_927
  let v1352 : BitVec 32 := Scalar.addi v726 v1351
  let v1353 : BitVec 32 := v1352
  let c0_i32_1328 : BitVec 32 := 0#32
  let v1987 : BitVec 1 := Scalar.cmpi .eq v8 c0_i32_1328
  let v1988 : BitVec 32 := v1353
  let c256_i32_1338 : BitVec 32 := 256#32
  let v1998 : BitVec 32 := Scalar.addi v1988 c256_i32_1338
  let c256_i32_1339 : BitVec 32 := 256#32
  let v1999 : BitVec 32 := Scalar.subi v1988 c256_i32_1339
  let v2000 : BitVec 32 := Scalar.select v1987 v1998 v1999
  let v2001 : BitVec 32 := v2000
  let v2456 : BitVec 32 := Scalar.minsi v1353 v2001
  let v2458 : BitVec 32 := v2456
  let c512_i32_1698 : BitVec 32 := 512#32
  let v2468 : BitVec 32 := Scalar.addi v2458 c512_i32_1698
  let c512_i32_1699 : BitVec 32 := 512#32
  let v2469 : BitVec 32 := Scalar.subi v2458 c512_i32_1699
  let v2470 : BitVec 32 := Scalar.select v2457 v2468 v2469
  let v2471 : BitVec 32 := v2470
  let c512_i32_1905 : BitVec 32 := 512#32
  ![v2471.toNat, 512]
def k0_off133 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1709 : BitVec 32 := 0#32
  let v2480 : BitVec 1 := Scalar.cmpi .eq v7 c0_i32_1709
  let c0_i32_529 : BitVec 32 := 0#32
  let c0_i32_526 : BitVec 32 := 0#32
  let v765 : BitVec 1 := Scalar.cmpi .eq v7 c0_i32_526
  let c0_i32_527 : BitVec 32 := 0#32
  let c512_i32_528 : BitVec 32 := 512#32
  let v766 : BitVec 32 := Scalar.select v765 c0_i32_527 c512_i32_528
  let v767 : BitVec 32 := Scalar.addi c0_i32_529 v766
  let v768 : BitVec 32 := v767
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_950 : BitVec 32 := 0#32
  let v1387 : BitVec 1 := Scalar.cmpi .eq v8 c0_i32_950
  let c0_i32_951 : BitVec 32 := 0#32
  let c256_i32_952 : BitVec 32 := 256#32
  let v1388 : BitVec 32 := Scalar.select v1387 c0_i32_951 c256_i32_952
  let v1389 : BitVec 32 := Scalar.addi v768 v1388
  let v1390 : BitVec 32 := v1389
  let c0_i32_1353 : BitVec 32 := 0#32
  let v2027 : BitVec 1 := Scalar.cmpi .eq v8 c0_i32_1353
  let v2028 : BitVec 32 := v1390
  let c256_i32_1363 : BitVec 32 := 256#32
  let v2038 : BitVec 32 := Scalar.addi v2028 c256_i32_1363
  let c256_i32_1364 : BitVec 32 := 256#32
  let v2039 : BitVec 32 := Scalar.subi v2028 c256_i32_1364
  let v2040 : BitVec 32 := Scalar.select v2027 v2038 v2039
  let v2041 : BitVec 32 := v2040
  let v2479 : BitVec 32 := Scalar.minsi v1390 v2041
  let v2481 : BitVec 32 := v2479
  let c512_i32_1719 : BitVec 32 := 512#32
  let v2491 : BitVec 32 := Scalar.addi v2481 c512_i32_1719
  let c512_i32_1720 : BitVec 32 := 512#32
  let v2492 : BitVec 32 := Scalar.subi v2481 c512_i32_1720
  let v2493 : BitVec 32 := Scalar.select v2480 v2491 v2492
  let v2494 : BitVec 32 := v2493
  let c640_i32_1913 : BitVec 32 := 640#32
  ![v2494.toNat, 640]
def k0_off134 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1730 : BitVec 32 := 0#32
  let v2503 : BitVec 1 := Scalar.cmpi .eq v8 c0_i32_1730
  let c1024_i32_558 : BitVec 32 := 1024#32
  let c0_i32_555 : BitVec 32 := 0#32
  let v807 : BitVec 1 := Scalar.cmpi .eq v8 c0_i32_555
  let c0_i32_556 : BitVec 32 := 0#32
  let c512_i32_557 : BitVec 32 := 512#32
  let v808 : BitVec 32 := Scalar.select v807 c0_i32_556 c512_i32_557
  let v809 : BitVec 32 := Scalar.addi c1024_i32_558 v808
  let v810 : BitVec 32 := v809
  let c0_i32_975 : BitVec 32 := 0#32
  let v1424 : BitVec 1 := Scalar.cmpi .eq v5 c0_i32_975
  let c0_i32_976 : BitVec 32 := 0#32
  let c256_i32_977 : BitVec 32 := 256#32
  let v1425 : BitVec 32 := Scalar.select v1424 c0_i32_976 c256_i32_977
  let v1426 : BitVec 32 := Scalar.addi v810 v1425
  let v1427 : BitVec 32 := v1426
  let c0_i32_1378 : BitVec 32 := 0#32
  let v2067 : BitVec 1 := Scalar.cmpi .eq v5 c0_i32_1378
  let v2068 : BitVec 32 := v1427
  let c256_i32_1388 : BitVec 32 := 256#32
  let v2078 : BitVec 32 := Scalar.addi v2068 c256_i32_1388
  let c256_i32_1389 : BitVec 32 := 256#32
  let v2079 : BitVec 32 := Scalar.subi v2068 c256_i32_1389
  let v2080 : BitVec 32 := Scalar.select v2067 v2078 v2079
  let v2081 : BitVec 32 := v2080
  let v2502 : BitVec 32 := Scalar.minsi v1427 v2081
  let v2504 : BitVec 32 := v2502
  let c512_i32_1740 : BitVec 32 := 512#32
  let v2514 : BitVec 32 := Scalar.addi v2504 c512_i32_1740
  let c512_i32_1741 : BitVec 32 := 512#32
  let v2515 : BitVec 32 := Scalar.subi v2504 c512_i32_1741
  let v2516 : BitVec 32 := Scalar.select v2503 v2514 v2515
  let v2517 : BitVec 32 := v2516
  let c640_i32_1921 : BitVec 32 := 640#32
  ![v2517.toNat, 640]
def k0_off135 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1751 : BitVec 32 := 0#32
  let v2526 : BitVec 1 := Scalar.cmpi .eq v8 c0_i32_1751
  let c0_i32_587 : BitVec 32 := 0#32
  let c0_i32_584 : BitVec 32 := 0#32
  let v849 : BitVec 1 := Scalar.cmpi .eq v8 c0_i32_584
  let c0_i32_585 : BitVec 32 := 0#32
  let c512_i32_586 : BitVec 32 := 512#32
  let v850 : BitVec 32 := Scalar.select v849 c0_i32_585 c512_i32_586
  let v851 : BitVec 32 := Scalar.addi c0_i32_587 v850
  let v852 : BitVec 32 := v851
  let c0_i32_1000 : BitVec 32 := 0#32
  let v1461 : BitVec 1 := Scalar.cmpi .eq v5 c0_i32_1000
  let c0_i32_1001 : BitVec 32 := 0#32
  let c256_i32_1002 : BitVec 32 := 256#32
  let v1462 : BitVec 32 := Scalar.select v1461 c0_i32_1001 c256_i32_1002
  let v1463 : BitVec 32 := Scalar.addi v852 v1462
  let v1464 : BitVec 32 := v1463
  let c0_i32_1403 : BitVec 32 := 0#32
  let v2107 : BitVec 1 := Scalar.cmpi .eq v5 c0_i32_1403
  let v2108 : BitVec 32 := v1464
  let c256_i32_1413 : BitVec 32 := 256#32
  let v2118 : BitVec 32 := Scalar.addi v2108 c256_i32_1413
  let c256_i32_1414 : BitVec 32 := 256#32
  let v2119 : BitVec 32 := Scalar.subi v2108 c256_i32_1414
  let v2120 : BitVec 32 := Scalar.select v2107 v2118 v2119
  let v2121 : BitVec 32 := v2120
  let v2525 : BitVec 32 := Scalar.minsi v1464 v2121
  let v2527 : BitVec 32 := v2525
  let c512_i32_1761 : BitVec 32 := 512#32
  let v2537 : BitVec 32 := Scalar.addi v2527 c512_i32_1761
  let c512_i32_1762 : BitVec 32 := 512#32
  let v2538 : BitVec 32 := Scalar.subi v2527 c512_i32_1762
  let v2539 : BitVec 32 := Scalar.select v2526 v2537 v2538
  let v2540 : BitVec 32 := v2539
  let c768_i32_1929 : BitVec 32 := 768#32
  ![v2540.toNat, 768]
def k0_off136 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1772 : BitVec 32 := 0#32
  let v2549 : BitVec 1 := Scalar.cmpi .eq v5 c0_i32_1772
  let c1024_i32_616 : BitVec 32 := 1024#32
  let c0_i32_613 : BitVec 32 := 0#32
  let v891 : BitVec 1 := Scalar.cmpi .eq v5 c0_i32_613
  let c0_i32_614 : BitVec 32 := 0#32
  let c512_i32_615 : BitVec 32 := 512#32
  let v892 : BitVec 32 := Scalar.select v891 c0_i32_614 c512_i32_615
  let v893 : BitVec 32 := Scalar.addi c1024_i32_616 v892
  let v894 : BitVec 32 := v893
  let c2_i32 : BitVec 32 := 2#32
  let v6 : BitVec 32 := Scalar.shrsi v2 c2_i32
  let c1_i32_3 : BitVec 32 := 1#32
  let v7 : BitVec 32 := Scalar.andi v6 c1_i32_3
  let c0_i32_1025 : BitVec 32 := 0#32
  let v1498 : BitVec 1 := Scalar.cmpi .eq v7 c0_i32_1025
  let c0_i32_1026 : BitVec 32 := 0#32
  let c256_i32_1027 : BitVec 32 := 256#32
  let v1499 : BitVec 32 := Scalar.select v1498 c0_i32_1026 c256_i32_1027
  let v1500 : BitVec 32 := Scalar.addi v894 v1499
  let v1501 : BitVec 32 := v1500
  let c0_i32_1428 : BitVec 32 := 0#32
  let v2147 : BitVec 1 := Scalar.cmpi .eq v7 c0_i32_1428
  let v2148 : BitVec 32 := v1501
  let c256_i32_1438 : BitVec 32 := 256#32
  let v2158 : BitVec 32 := Scalar.addi v2148 c256_i32_1438
  let c256_i32_1439 : BitVec 32 := 256#32
  let v2159 : BitVec 32 := Scalar.subi v2148 c256_i32_1439
  let v2160 : BitVec 32 := Scalar.select v2147 v2158 v2159
  let v2161 : BitVec 32 := v2160
  let v2548 : BitVec 32 := Scalar.minsi v1501 v2161
  let v2550 : BitVec 32 := v2548
  let c512_i32_1782 : BitVec 32 := 512#32
  let v2560 : BitVec 32 := Scalar.addi v2550 c512_i32_1782
  let c512_i32_1783 : BitVec 32 := 512#32
  let v2561 : BitVec 32 := Scalar.subi v2550 c512_i32_1783
  let v2562 : BitVec 32 := Scalar.select v2549 v2560 v2561
  let v2563 : BitVec 32 := v2562
  let c768_i32_1937 : BitVec 32 := 768#32
  ![v2563.toNat, 768]
def k0_off137 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c0_i32_1793 : BitVec 32 := 0#32
  let v2572 : BitVec 1 := Scalar.cmpi .eq v5 c0_i32_1793
  let c0_i32_645 : BitVec 32 := 0#32
  let c0_i32_642 : BitVec 32 := 0#32
  let v933 : BitVec 1 := Scalar.cmpi .eq v5 c0_i32_642
  let c0_i32_643 : BitVec 32 := 0#32
  let c512_i32_644 : BitVec 32 := 512#32
  let v934 : BitVec 32 := Scalar.select v933 c0_i32_643 c512_i32_644
  let v935 : BitVec 32 := Scalar.addi c0_i32_645 v934
  let v936 : BitVec 32 := v935
  let c2_i32 : BitVec 32 := 2#32
  let v6 : BitVec 32 := Scalar.shrsi v2 c2_i32
  let c1_i32_3 : BitVec 32 := 1#32
  let v7 : BitVec 32 := Scalar.andi v6 c1_i32_3
  let c0_i32_1050 : BitVec 32 := 0#32
  let v1535 : BitVec 1 := Scalar.cmpi .eq v7 c0_i32_1050
  let c0_i32_1051 : BitVec 32 := 0#32
  let c256_i32_1052 : BitVec 32 := 256#32
  let v1536 : BitVec 32 := Scalar.select v1535 c0_i32_1051 c256_i32_1052
  let v1537 : BitVec 32 := Scalar.addi v936 v1536
  let v1538 : BitVec 32 := v1537
  let c0_i32_1453 : BitVec 32 := 0#32
  let v2187 : BitVec 1 := Scalar.cmpi .eq v7 c0_i32_1453
  let v2188 : BitVec 32 := v1538
  let c256_i32_1463 : BitVec 32 := 256#32
  let v2198 : BitVec 32 := Scalar.addi v2188 c256_i32_1463
  let c256_i32_1464 : BitVec 32 := 256#32
  let v2199 : BitVec 32 := Scalar.subi v2188 c256_i32_1464
  let v2200 : BitVec 32 := Scalar.select v2187 v2198 v2199
  let v2201 : BitVec 32 := v2200
  let v2571 : BitVec 32 := Scalar.minsi v1538 v2201
  let v2573 : BitVec 32 := v2571
  let c512_i32_1803 : BitVec 32 := 512#32
  let v2583 : BitVec 32 := Scalar.addi v2573 c512_i32_1803
  let c512_i32_1804 : BitVec 32 := 512#32
  let v2584 : BitVec 32 := Scalar.subi v2573 c512_i32_1804
  let v2585 : BitVec 32 := Scalar.select v2572 v2583 v2584
  let v2586 : BitVec 32 := v2585
  let c896_i32_1945 : BitVec 32 := 896#32
  ![v2586.toNat, 896]
def k0_off138 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c0_i32_1814 : BitVec 32 := 0#32
  let v2595 : BitVec 1 := Scalar.cmpi .eq v7 c0_i32_1814
  let c1024_i32_674 : BitVec 32 := 1024#32
  let c0_i32_671 : BitVec 32 := 0#32
  let v975 : BitVec 1 := Scalar.cmpi .eq v7 c0_i32_671
  let c0_i32_672 : BitVec 32 := 0#32
  let c512_i32_673 : BitVec 32 := 512#32
  let v976 : BitVec 32 := Scalar.select v975 c0_i32_672 c512_i32_673
  let v977 : BitVec 32 := Scalar.addi c1024_i32_674 v976
  let v978 : BitVec 32 := v977
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c0_i32_1075 : BitVec 32 := 0#32
  let v1572 : BitVec 1 := Scalar.cmpi .eq v8 c0_i32_1075
  let c0_i32_1076 : BitVec 32 := 0#32
  let c256_i32_1077 : BitVec 32 := 256#32
  let v1573 : BitVec 32 := Scalar.select v1572 c0_i32_1076 c256_i32_1077
  let v1574 : BitVec 32 := Scalar.addi v978 v1573
  let v1575 : BitVec 32 := v1574
  let c0_i32_1478 : BitVec 32 := 0#32
  let v2227 : BitVec 1 := Scalar.cmpi .eq v8 c0_i32_1478
  let v2228 : BitVec 32 := v1575
  let c256_i32_1488 : BitVec 32 := 256#32
  let v2238 : BitVec 32 := Scalar.addi v2228 c256_i32_1488
  let c256_i32_1489 : BitVec 32 := 256#32
  let v2239 : BitVec 32 := Scalar.subi v2228 c256_i32_1489
  let v2240 : BitVec 32 := Scalar.select v2227 v2238 v2239
  let v2241 : BitVec 32 := v2240
  let v2594 : BitVec 32 := Scalar.minsi v1575 v2241
  let v2596 : BitVec 32 := v2594
  let c512_i32_1824 : BitVec 32 := 512#32
  let v2606 : BitVec 32 := Scalar.addi v2596 c512_i32_1824
  let c512_i32_1825 : BitVec 32 := 512#32
  let v2607 : BitVec 32 := Scalar.subi v2596 c512_i32_1825
  let v2608 : BitVec 32 := Scalar.select v2595 v2606 v2607
  let v2609 : BitVec 32 := v2608
  let c896_i32_1953 : BitVec 32 := 896#32
  ![v2609.toNat, 896]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S8x2048x1024 : Shape := ⟨3, ![8, 2048, 1024]⟩
abbrev S_ : Shape := ⟨0, ![]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S8x2048x1024, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Canon.lean ====
/-
  The program of one device, written as sixteen groups running through seven phases.

  Group `g` is the block of 128 columns number `g / 2` crossed with the half `g % 2` of the rows. Inside a
  group the eight devices halve the rows twice (stages 0 and 1), exchange the remaining quarter (stage 2), and
  then double back up (stages 3 and 4), the partner at each stage differing in the bits of a mask.
  `body_canon` states that the printed kernel is this program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Halving

open Cert.KernelIdeal Cert.KernelIdeal.Gen
open Idealize.ShloMosaic Idealize.SL.Sem
open Idealize.ShloMosaic.Pipeline

variable {F : FTy → Type} [FloatOps F]

/-! ## Partners and rows -/

/-- The number of the mask a group uses at a stage (the masks are 1, 3 and 4). -/
def mi (g : Fin 16) (s : ℕ) : Fin 3 := ⟨(g.val / 2 + g.val % 2 + s) % 3, Nat.mod_lt _ (by decide)⟩

/-- The masks. -/
def mask (j : Fin 3) : ℕ := match j with | 0 => 1 | 1 => 3 | 2 => 4

theorem xor_lt (c : Fin 8) (j : Fin 3) : c.val ^^^ mask j < 8 := by revert c j; decide

/-- The device that differs from `c` in the bits of mask `j`. -/
def peer (j : Fin 3) (c : Dev nD) : Dev nD := ⟨c.val ^^^ mask j, xor_lt c j⟩

/-- The bit of device `c` that mask `j` flips, as the kernel reads it: 0 keeps the lower part, 1 the upper. -/
def bt (j : Fin 3) (c : Dev nD) : ℕ := match j with | 0 => (c.val + c.val / 2) % 2 | 1 => c.val / 2 % 2 | 2 => c.val / 4 % 2

theorem bt_lt (j : Fin 3) (c : Dev nD) : bt j c < 2 := by revert c j; decide

/-- The number of the block of 512 rows device `c` keeps in group `g` after stage 0. -/
def K0 (c : Dev nD) (g : Fin 16) : Fin 4 := ⟨2 * (g.val % 2) + bt (mi g 0) c, by have := bt_lt (mi g 0) c; omega⟩
/-- The one it sends away at stage 0. -/
def S0 (c : Dev nD) (g : Fin 16) : Fin 4 := ⟨2 * (g.val % 2) + (1 - bt (mi g 0) c), by omega⟩
/-- The number of the block of 256 rows it keeps after stage 1. -/
def K1 (c : Dev nD) (g : Fin 16) : Fin 8 := ⟨2 * (K0 c g).val + bt (mi g 1) c, by have := bt_lt (mi g 1) c; omega⟩
/-- The one it sends away at stage 1. -/
def S1 (c : Dev nD) (g : Fin 16) : Fin 8 := ⟨2 * (K0 c g).val + (1 - bt (mi g 1) c), by omega⟩

/-- The partner of device `c` in group `g` at stage `s`. -/
abbrev pr (g : Fin 16) (s : ℕ) (c : Dev nD) : Dev nD := peer (mi g s) c

/-! ## The rectangles -/

theorem inb5 (q : Fin 4) (g : Fin 16) : ∀ a, (![512 * q.val, 128 * (g.val / 2)] : Fin 2 → ℕ) a + S512x128.size a ≤ S2048x1024.size a := by
  revert q g; decide +kernel
theorem inb2 (q : Fin 8) (g : Fin 16) : ∀ a, (![256 * q.val, 128 * (g.val / 2)] : Fin 2 → ℕ) a + S256x128.size a ≤ S2048x1024.size a := by
  revert q g; decide +kernel

/-- Block `q` of 512 rows of group `g`'s columns. -/
abbrev r5 (q : Fin 4) (g : Fin 16) : Rect S2048x1024 := Rect.unit (s := S2048x1024) ![512 * q.val, 128 * (g.val / 2)] S512x128.size (inb5 q g)
/-- Block `q` of 256 rows of group `g`'s columns. -/
abbrev r2 (q : Fin 8) (g : Fin 16) : Rect S2048x1024 := Rect.unit (s := S2048x1024) ![256 * q.val, 128 * (g.val / 2)] S256x128.size (inb2 q g)

theorem words5 (q : Fin 4) (g : Fin 16) : (r5 q g).WholeWords (EltTy.packing .bf16) := by revert q g; decide +kernel
theorem words2 (q : Fin 8) (g : Fin 16) : (r2 q g).WholeWords (EltTy.packing .bf16) := by revert q g; decide +kernel
theorem packed5 (q : Fin 4) (g : Fin 16) : (r5 q g).PackedRows (EltTy.packing .bf16) := by revert q g; decide +kernel
theorem packed2 (q : Fin 8) (g : Fin 16) : (r2 q g).PackedRows (EltTy.packing .bf16) := by revert q g; decide +kernel

/-! ## Buffers and semaphores -/

abbrev mX : Memref sig .tc .vmem S2048x1024 .bf16 := Memref.whole cc0_stg0_0
abbrev mO : Memref sig .tc .vmem S2048x1024 .bf16 := Memref.whole cc0_stg1_0
abbrev mA : Memref sig .tc .vmem S2048x1024 .f32 := Memref.whole cc0_scratch0
abbrev mS : Memref sig .tc .vmem S2048x1024 .bf16 := Memref.whole cc0_scratch1
abbrev mC1 : Memref sig .tc .vmem S2048x1024 .bf16 := Memref.whole cc0_scratch2
abbrev mC2 : Memref sig .tc .vmem S2048x1024 .bf16 := Memref.whole cc0_scratch3
abbrev mC3 : Memref sig .tc .vmem S2048x1024 .bf16 := Memref.whole cc0_scratch4

/-- A block of 512 rows of a buffer. -/
abbrev sl5 (m : Memref sig .tc .vmem S2048x1024 .bf16) (q : Fin 4) (g : Fin 16) : Memref sig .tc .vmem S512x128 .bf16 :=
  m.slice (r5 q g) (fun _ => rfl)
/-- A block of 256 rows of a buffer. -/
abbrev sl2 (m : Memref sig .tc .vmem S2048x1024 .bf16) (q : Fin 8) (g : Fin 16) : Memref sig .tc .vmem S256x128 .bf16 :=
  m.slice (r2 q g) (fun _ => rfl)

/-- The completion counters: array `a` (0 and 1 count departures, 2 and 3 arrivals), group `g`, column `s`. -/
def dsem (a : Fin 4) (g : Fin 16) (s : Fin 3) : DmaSem sig := ⟨2 + 48 * a.val + 3 * g.val + s.val, by show _ < 194; omega⟩

/-- The runtime's barrier semaphore. -/
abbrev barS : Sem sig := (SemArray.scalar (sig.barrier 0 rfl) : Sems sig S_).sem

/-! ## One operation, then the rest -/

abbrev PK (F : FTy → Type) [FloatOps F] : Type 1 := Prog (TpuEff nD τ sig (Elt F) Λ₀ .tc) PUnit

/-- Read a block of 512 rows. -/
def ld5 {e : EltTy} (m : Memref sig .tc .vmem S2048x1024 e) (q : Fin 4) (g : Fin 16) (k : Vec F S512x128 e → PK F) : PK F :=
  .op (.load m (r5 q g).toLoadRect (View.loadsAt_vmem h_S512x128)) k
/-- Read a block of 256 rows. -/
def ld2 {e : EltTy} (m : Memref sig .tc .vmem S2048x1024 e) (q : Fin 8) (g : Fin 16) (k : Vec F S256x128 e → PK F) : PK F :=
  .op (.load m (r2 q g).toLoadRect (View.loadsAt_vmem h_S256x128)) k
/-- Write a block of 512 rows of a 16-bit buffer. -/
def st5 (m : Memref sig .tc .vmem S2048x1024 .bf16) (hm : m.IsWhole) (q : Fin 4) (g : Fin 16) (v : Vec F S512x128 .bf16) (k : PK F) : PK F :=
  .op (.store m (r5 q g) v Finset.univ (View.stores_vmem h_S512x128 (hm.storeExact_slice rfl _ (packed5 q g)) (fun _ => rfl)) (.inl rfl)) fun _ => k
/-- Write a block of 256 rows of a 16-bit buffer. -/
def st2 (m : Memref sig .tc .vmem S2048x1024 .bf16) (hm : m.IsWhole) (q : Fin 8) (g : Fin 16) (v : Vec F S256x128 .bf16) (k : PK F) : PK F :=
  .op (.store m (r2 q g) v Finset.univ (View.stores_vmem h_S256x128 (hm.storeExact_slice rfl _ (packed2 q g)) (fun _ => rfl)) (.inl rfl)) fun _ => k
/-- Write a block of 512 rows of the 32-bit accumulator. -/
def sa5 (q : Fin 4) (g : Fin 16) (v : Vec F S512x128 .f32) (k : PK F) : PK F :=
  .op (.store mA (r5 q g) v Finset.univ (View.stores_vmem_bits_univ h_S512x128 rfl) (.inl rfl)) fun _ => k
/-- Write a block of 256 rows of the accumulator. -/
def sa2 (q : Fin 8) (g : Fin 16) (v : Vec F S256x128 .f32) (k : PK F) : PK F :=
  .op (.store mA (r2 q g) v Finset.univ (View.stores_vmem_bits_univ h_S256x128 rfl) (.inl rfl)) fun _ => k
/-- Send a block of 512 rows of one buffer to the same block of another buffer on device `p`, counted on `ss` here and on `rs` there. -/
def sd5 (m m' : Memref sig .tc .vmem S2048x1024 .bf16) (hm : m.IsWhole) (hm' : m'.IsWhole) (q : Fin 4) (g : Fin 16) (p : Dev nD) (ss rs : DmaSem sig)
    (hsc : (sl5 m' q g).view.ref.isScScratch = false) (k : PK F) : PK F :=
  .op (.enqueueDma (sl5 m q g) (.remote (Dev.tc p) (sl5 m' q g) (.dma ss) hsc) (.dma rs) (hm.wordExact_slice rfl _ (words5 q g)) (hm'.wordExact_slice rfl _ (words5 q g))
    ⟨⟨rfl, Or.inl rfl⟩, trivial⟩) fun _ => k
/-- Send a block of 256 rows likewise. -/
def sd2 (m m' : Memref sig .tc .vmem S2048x1024 .bf16) (hm : m.IsWhole) (hm' : m'.IsWhole) (q : Fin 8) (g : Fin 16) (p : Dev nD) (ss rs : DmaSem sig)
    (hsc : (sl2 m' q g).view.ref.isScScratch = false) (k : PK F) : PK F :=
  .op (.enqueueDma (sl2 m q g) (.remote (Dev.tc p) (sl2 m' q g) (.dma ss) hsc) (.dma rs) (hm.wordExact_slice rfl _ (words2 q g)) (hm'.wordExact_slice rfl _ (words2 q g))
    ⟨⟨rfl, Or.inl rfl⟩, trivial⟩) fun _ => k
/-- Wait for a transfer of a block of 512 rows. -/
def wt5 (sm : DmaSem sig) (m m' : Memref sig .tc .vmem S2048x1024 .bf16) (hm : m.IsWhole) (hm' : m'.IsWhole) (q : Fin 4) (g : Fin 16) (k : PK F) : PK F :=
  .op (.waitDma2 sm (sl5 m q g) (sl5 m' q g) (hm.wordExact_slice rfl _ (words5 q g)) (hm'.wordExact_slice rfl _ (words5 q g))) fun _ => k
/-- Wait for a transfer of a block of 256 rows. -/
def wt2 (sm : DmaSem sig) (m m' : Memref sig .tc .vmem S2048x1024 .bf16) (hm : m.IsWhole) (hm' : m'.IsWhole) (q : Fin 8) (g : Fin 16) (k : PK F) : PK F :=
  .op (.waitDma2 sm (sl2 m q g) (sl2 m' q g) (hm.wordExact_slice rfl _ (words2 q g)) (hm'.wordExact_slice rfl _ (words2 q g))) fun _ => k

abbrev wX : (mX : Memref sig .tc .vmem S2048x1024 .bf16).IsWhole := Memref.isWhole_whole _
abbrev wO : (mO : Memref sig .tc .vmem S2048x1024 .bf16).IsWhole := Memref.isWhole_whole _
abbrev wS : (mS : Memref sig .tc .vmem S2048x1024 .bf16).IsWhole := Memref.isWhole_whole _
abbrev w1 : (mC1 : Memref sig .tc .vmem S2048x1024 .bf16).IsWhole := Memref.isWhole_whole _
abbrev w2 : (mC2 : Memref sig .tc .vmem S2048x1024 .bf16).IsWhole := Memref.isWhole_whole _
abbrev w3 : (mC3 : Memref sig .tc .vmem S2048x1024 .bf16).IsWhole := Memref.isWhole_whole _

/-! ## The seven phases of a group -/

section Blocks
variable (c : Dev nD) (g : Fin 16) (k : PK F)

/-- Phase 0: stage the half to give away and send it. -/
def ph0 : PK F :=
  ld5 mX (S0 c g) g fun x => ld5 mS (S0 c g) g fun _ =>
  st5 mS wS (S0 c g) g (k0_pay3 x) <|
  sd5 mS mC1 wS w1 (S0 c g) g (pr g 0 c) (dsem 0 g 0) (dsem 2 g 0) rfl k

/-- Phase 1: add the half received, stage and send a quarter of the sum. -/
def ph1 : PK F :=
  wt5 (dsem 2 g 0) mS mC1 wS w1 (S0 c g) g <|
  ld5 mX (K0 c g) g fun x => ld5 mC1 (K0 c g) g fun y => ld5 mA (K0 c g) g fun _ =>
  sa5 (K0 c g) g (k0_pay19 x y) <|
  ld2 mA (S1 c g) g fun a => ld2 mS (S1 c g) g fun _ =>
  st2 mS wS (S1 c g) g (k0_pay20 a) <|
  sd2 mS mC2 wS w2 (S1 c g) g (pr g 1 c) (dsem 0 g 1) (dsem 2 g 1) rfl k

/-- Phase 2: add the quarter received, stage the sum and send it. -/
def ph2 : PK F :=
  wt2 (dsem 2 g 1) mS mC2 wS w2 (S1 c g) g <|
  ld2 mA (K1 c g) g fun a => ld2 mC2 (K1 c g) g fun y => ld2 mA (K1 c g) g fun _ =>
  sa2 (K1 c g) g (k0_pay55 a y) <|
  ld2 mA (K1 c g) g fun a => ld2 mS (K1 c g) g fun _ =>
  st2 mS wS (K1 c g) g (k0_pay56 a) <|
  sd2 mS mC3 wS w3 (K1 c g) g (pr g 2 c) (dsem 0 g 2) (dsem 2 g 2) rfl k

/-- Phase 3: the whole sum of the quarter, the function of it, and the quarter of the result sent. -/
def ph3 : PK F :=
  wt2 (dsem 2 g 2) mS mC3 wS w3 (K1 c g) g <|
  ld2 mA (K1 c g) g fun a => ld2 mC3 (K1 c g) g fun y => ld2 mO (K1 c g) g fun _ =>
  st2 mO wO (K1 c g) g (k0_pay89 a y) <|
  sd2 mO mO wO wO (K1 c g) g (pr g 1 c) (dsem 1 g 1) (dsem 3 g 1) rfl k

/-- Phase 4: the other quarter of the result arrives and the half is sent. -/
def ph4 : PK F :=
  wt2 (dsem 3 g 1) mO mO wO wO (S1 c g) g <|
  sd5 mO mO wO wO (K0 c g) g (pr g 0 c) (dsem 1 g 2) (dsem 3 g 2) rfl k

/-- Phase 5: the other half of the result arrives. -/
def ph5 : PK F := wt5 (dsem 3 g 2) mO mO wO wO (S0 c g) g k

/-- Phase 6: the group's five transfers have left. -/
def ph6 : PK F :=
  wt5 (dsem 0 g 0) mC1 mS w1 wS (S0 c g) g <|
  wt2 (dsem 0 g 1) mC2 mS w2 wS (S1 c g) g <|
  wt2 (dsem 0 g 2) mC3 mS w3 wS (K1 c g) g <|
  wt2 (dsem 1 g 1) mO mO wO wO (K1 c g) g <|
  wt5 (dsem 1 g 2) mO mO wO wO (K0 c g) g k

end Blocks

/-- A phase over a list of groups, then the rest. -/
def each (b : Fin 16 → PK F → PK F) : List (Fin 16) → PK F → PK F
  | [], k => k
  | g :: gs, k => b g (each b gs k)

/-- The sixteen groups in order. -/
abbrev gs16 : List (Fin 16) := [0, 1, 2, 3, 4, 5, 6, 7, 8, 9, 10, 11, 12, 13, 14, 15]

/-- What a device does after reading its number: meet its three partners, then the phases. -/
def canon (c : Dev nD) : PK F :=
  .op (.semSignal (peer 0 c, (.tc : Proc τ)) barS (1#32).toInt) fun _ =>
  .op (.semSignal (peer 1 c, (.tc : Proc τ)) barS (1#32).toInt) fun _ =>
  .op (.semSignal (peer 2 c, (.tc : Proc τ)) barS (1#32).toInt) fun _ =>
  .op (.semWait barS (3#32).toInt) fun _ =>
  each (ph0 c) gs16 <| each (ph1 c) gs16 <| each (ph2 c) gs16 <| each (ph3 c) gs16 <|
  each (ph4 c) gs16 <| each (ph5 c) gs16 <| each (ph6 c) gs16 <| .ret ⟨⟩

/-- The printed kernel on the launch's buffers. -/
abbrev bodyP (F : FTy → Type) [FloatOps F] : PK F :=
  cc0_body (Memref.whole cc0_stg0_0) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8

end Cert.Halving

end
-- ==== Proof.Contents.lean ====
/-
  The blocks as sets of positions, and what the buffers hold.

  `x c` is the block of the input on device `c`. In group `g`, `A1`, `A2`, `A3` are the partial sums after the
  three exchanges (over two, four and eight devices) and `Y c` is the result as device `c` ends up with it: at
  each position the function of the sum computed by the device that owned the position (`owner`).
-/
module

public import proofs.«01_k».proof.Proof.Canon
public import Idealize.ShloMosaic.Lib.Pipeline.Value

@[expose] public section

noncomputable section

namespace Cert.Halving

open Cert.KernelIdeal Cert.KernelIdeal.Gen
open Idealize.ShloMosaic Idealize.SL.Sem

variable {F : FTy → Type} [FloatOps F]

/-! ## Partners and block numbers -/

theorem peer_peer : ∀ (j : Fin 3) (c : Dev nD), peer j (peer j c) = c := by decide
theorem K0_pr0 : ∀ (c : Dev nD) (g : Fin 16), K0 (pr g 0 c) g = S0 c g := by decide +kernel
theorem S0_pr0 : ∀ (c : Dev nD) (g : Fin 16), S0 (pr g 0 c) g = K0 c g := by decide +kernel
theorem K0_pr1 : ∀ (c : Dev nD) (g : Fin 16), K0 (pr g 1 c) g = K0 c g := by decide +kernel
theorem K1_pr1 : ∀ (c : Dev nD) (g : Fin 16), K1 (pr g 1 c) g = S1 c g := by decide +kernel
theorem S1_pr1 : ∀ (c : Dev nD) (g : Fin 16), S1 (pr g 1 c) g = K1 c g := by decide +kernel
theorem K1_pr2 : ∀ (c : Dev nD) (g : Fin 16), K1 (pr g 2 c) g = K1 c g := by decide +kernel
theorem K1_S1 : ∀ (c : Dev nD) (g : Fin 16), K1 c g ≠ S1 c g ∧ (K1 c g).val / 2 = (K0 c g).val ∧ (S1 c g).val / 2 = (K0 c g).val := by decide +kernel
theorem K0_S0 : ∀ (c : Dev nD) (g : Fin 16), K0 c g ≠ S0 c g ∧ (K0 c g).val / 2 = g.val % 2 ∧ (S0 c g).val / 2 = g.val % 2 := by decide +kernel

/-! ## Blocks as sets of positions -/

/-- Block `q` of 512 rows. -/
abbrev b5 (q : Fin 4) (g : Fin 16) : Finset S2048x1024.Idx := (r5 q g).set
/-- Block `q` of 256 rows. -/
abbrev b2 (q : Fin 8) (g : Fin 16) : Finset S2048x1024.Idx := (r2 q g).set
/-- The row and the column of a position. -/
abbrev rowOf (i : S2048x1024.Idx) : ℕ := (i 0).val
abbrev colOf (i : S2048x1024.Idx) : ℕ := (i 1).val
theorem rowOf_lt (i : S2048x1024.Idx) : rowOf i < 2048 := (i 0).isLt
theorem colOf_lt (i : S2048x1024.Idx) : colOf i < 1024 := (i 1).isLt

theorem mem_b5 (q : Fin 4) (g : Fin 16) (i : S2048x1024.Idx) : i ∈ b5 q g ↔ rowOf i / 512 = q.val ∧ colOf i / 128 = g.val / 2 := by
  rw [b5, Rect.mem_set_unit]
  constructor
  · intro h
    have h0 : 512 * q.val ≤ rowOf i ∧ rowOf i < 512 * q.val + 512 := h 0
    have h1 : 128 * (g.val / 2) ≤ colOf i ∧ colOf i < 128 * (g.val / 2) + 128 := h 1
    omega
  · intro h a
    match a with
    | 0 => show 512 * q.val ≤ rowOf i ∧ rowOf i < 512 * q.val + 512; omega
    | 1 => show 128 * (g.val / 2) ≤ colOf i ∧ colOf i < 128 * (g.val / 2) + 128; omega

theorem mem_b2 (q : Fin 8) (g : Fin 16) (i : S2048x1024.Idx) : i ∈ b2 q g ↔ rowOf i / 256 = q.val ∧ colOf i / 128 = g.val / 2 := by
  rw [b2, Rect.mem_set_unit]
  constructor
  · intro h
    have h0 : 256 * q.val ≤ rowOf i ∧ rowOf i < 256 * q.val + 256 := h 0
    have h1 : 128 * (g.val / 2) ≤ colOf i ∧ colOf i < 128 * (g.val / 2) + 128 := h 1
    omega
  · intro h a
    match a with
    | 0 => show 256 * q.val ≤ rowOf i ∧ rowOf i < 256 * q.val + 256; omega
    | 1 => show 128 * (g.val / 2) ≤ colOf i ∧ colOf i < 128 * (g.val / 2) + 128; omega

/-- The half kept at stage 0 is the quarter kept at stage 1 and the quarter sent. -/
theorem half_eq (c : Dev nD) (g : Fin 16) : b5 (K0 c g) g = b2 (K1 c g) g ∪ b2 (S1 c g) g := by
  ext i
  rw [Finset.mem_union, mem_b5, mem_b2, mem_b2]
  obtain ⟨h, h1, h2⟩ := K1_S1 c g
  have h := Fin.val_ne_of_ne h
  omega
theorem quarters_disjoint (c : Dev nD) (g : Fin 16) : Disjoint (b2 (K1 c g) g) (b2 (S1 c g) g) := by
  rw [Finset.disjoint_left]
  intro i h h'
  rw [mem_b2] at h h'
  exact (K1_S1 c g).1 (Fin.ext (h.1.symm.trans h'.1))
theorem halves_disjoint (c : Dev nD) (g : Fin 16) : Disjoint (b5 (K0 c g) g) (b5 (S0 c g) g) := by
  rw [Finset.disjoint_left]
  intro i h h'
  rw [mem_b5] at h h'
  exact (K0_S0 c g).1 (Fin.ext (h.1.symm.trans h'.1))

/-- The group a position lies in. -/
def grp (i : S2048x1024.Idx) : Fin 16 := ⟨2 * (colOf i / 128) + rowOf i / 1024, by have := rowOf_lt i; have := colOf_lt i; omega⟩
/-- The positions of a group. -/
def gbox (g : Fin 16) : Finset S2048x1024.Idx := Finset.univ.filter fun i => grp i = g

theorem mem_gbox (g : Fin 16) (i : S2048x1024.Idx) : i ∈ gbox g ↔ grp i = g := by simp [gbox]
theorem grp_eq_iff (g : Fin 16) (i : S2048x1024.Idx) : grp i = g ↔ colOf i / 128 = g.val / 2 ∧ rowOf i / 1024 = g.val % 2 := by
  have := rowOf_lt i
  rw [← Fin.val_inj]
  show 2 * (colOf i / 128) + rowOf i / 1024 = g.val ↔ _
  omega
theorem gbox_eq (c : Dev nD) (g : Fin 16) : gbox g = b5 (K0 c g) g ∪ b5 (S0 c g) g := by
  ext i
  rw [Finset.mem_union, mem_b5, mem_b5, mem_gbox, grp_eq_iff]
  obtain ⟨h, h1, h2⟩ := K0_S0 c g
  have h := Fin.val_ne_of_ne h
  have := rowOf_lt i
  omega
theorem gbox_disjoint : ∀ g ∈ (Finset.univ : Finset (Fin 16)), ∀ g' ∈ (Finset.univ : Finset (Fin 16)), g ≠ g' → Disjoint (gbox g) (gbox g') := by
  intro g _ g' _ hne
  rw [Finset.disjoint_left]
  intro i h h'
  exact hne (((mem_gbox g i).mp h).symm.trans ((mem_gbox g' i).mp h'))
theorem gbox_union : (Finset.univ : Finset (Fin 16)).biUnion gbox = Finset.univ := by
  ext i; simp [gbox]
theorem grp_b5 {c : Dev nD} {g : Fin 16} {i : S2048x1024.Idx} (h : i ∈ b5 (K0 c g) g ∨ i ∈ b5 (S0 c g) g) : grp i = g := by
  rw [← mem_gbox, gbox_eq c, Finset.mem_union]; exact h
theorem grp_b2 {c : Dev nD} {g : Fin 16} {i : S2048x1024.Idx} (h : i ∈ b2 (K1 c g) g ∨ i ∈ b2 (S1 c g) g) : grp i = g :=
  grp_b5 (c := c) (.inl (by rw [half_eq, Finset.mem_union]; exact h))

/-! ## Contents -/

/-- A 16-bit value read into 32 bits, and a 32-bit value rounded to 16. -/
def up (v : Elt F .bf16) : Elt F .f32 := FloatOps.extf (φ := .bf16) .f32 (by decide) v
def dn (v : Elt F .f32) : Elt F .bf16 := FloatOps.truncf (φ := .f32) .bf16 (by decide) v
def plus (a b : Elt F .f32) : Elt F .f32 := FloatOps.addf (φ := .f32) a b
def mult (a b : Elt F .f32) : Elt F .f32 := FloatOps.mulf (φ := .f32) a b
/-- The larger of a value and zero. -/
def relu (s : Elt F .f32) : Elt F .f32 := FloatOps.maximumf (φ := .f32) s (FloatOps.ofBits .f32 0#32)
/-- The function the kernel applies to the sum: `tanh(s) * s * s + max(s, 0)³`, in 32 bits. -/
def act (s : Elt F .f32) : Elt F .f32 :=
  plus (mult (mult (FloatOps.tanh (φ := .f32) s) s) s) (mult (mult (relu s) (relu s)) (relu s))

section Sums
variable (x : Dev nD → S2048x1024.Idx → Elt F .bf16)

def A1 (g : Fin 16) (c : Dev nD) (i : S2048x1024.Idx) : Elt F .f32 := plus (up (x c i)) (up (x (pr g 0 c) i))
def B1 (g : Fin 16) (c : Dev nD) (i : S2048x1024.Idx) : Elt F .bf16 := dn (A1 x g c i)
def A2 (g : Fin 16) (c : Dev nD) (i : S2048x1024.Idx) : Elt F .f32 := plus (A1 x g c i) (up (B1 x g (pr g 1 c) i))
def B2 (g : Fin 16) (c : Dev nD) (i : S2048x1024.Idx) : Elt F .bf16 := dn (A2 x g c i)
def A3 (g : Fin 16) (c : Dev nD) (i : S2048x1024.Idx) : Elt F .f32 := plus (A2 x g c i) (up (B2 x g (pr g 2 c) i))

/-- The device whose sum gives device `c`'s result at a position of group `g`. -/
def owner (g : Fin 16) (c : Dev nD) (i : S2048x1024.Idx) : Dev nD :=
  let d := if rowOf i / 512 = (K0 c g).val then c else pr g 0 c
  if rowOf i / 256 = (K1 d g).val then d else pr g 1 d

/-- The result on device `c`. -/
def Y (c : Dev nD) (i : S2048x1024.Idx) : Elt F .bf16 := dn (act (A3 x (grp i) (owner (grp i) c i) i))

/-- On the quarter a device keeps, the result is the function of its own sum. -/
theorem Y_quarter (c : Dev nD) (g : Fin 16) {i : S2048x1024.Idx} (h : i ∈ b2 (K1 c g) g) : Y x c i = dn (act (A3 x g c i)) := by
  have hg := grp_b2 (.inl h)
  rw [mem_b2] at h
  have hh := (K1_S1 c g).2.1
  unfold Y owner
  rw [hg]
  dsimp only
  rw [if_pos (by omega : rowOf i / 512 = (K0 c g).val), if_pos h.1]

/-- On the quarter it receives, the result is the partner's. -/
theorem Y_pr1 (c : Dev nD) (g : Fin 16) {i : S2048x1024.Idx} (h : i ∈ b2 (S1 c g) g) : Y x (pr g 1 c) i = Y x c i := by
  rw [Y_quarter x (pr g 1 c) g (by rw [K1_pr1]; exact h)]
  have hg := grp_b2 (.inr h)
  rw [mem_b2] at h
  obtain ⟨hn, -, hh⟩ := K1_S1 c g
  have hn := Fin.val_ne_of_ne hn
  unfold Y owner
  rw [hg]
  dsimp only
  rw [if_pos (by omega : rowOf i / 512 = (K0 c g).val), if_neg (by omega)]

/-- On the half it receives, the result is the other partner's. -/
theorem Y_pr0 (c : Dev nD) (g : Fin 16) {i : S2048x1024.Idx} (h : i ∈ b5 (S0 c g) g) : Y x (pr g 0 c) i = Y x c i := by
  have hg := grp_b5 (.inr h)
  rw [mem_b5] at h
  have hn := Fin.val_ne_of_ne (K0_S0 c g).1
  unfold Y owner
  rw [hg]
  dsimp only
  have h' : rowOf i / 512 = (K0 (pr g 0 c) g).val := by rw [K0_pr0]; exact h.1
  rw [if_pos h', if_neg (by omega : ¬ rowOf i / 512 = (K0 c g).val)]

end Sums

/-! ## What the printed payloads compute -/

theorem pay3_eq (v : Vec F S512x128 .bf16) : k0_pay3 v = v := by
  unfold k0_pay3; simp only [shapeCast_self]
theorem pay19_apply (v w : Vec F S512x128 .bf16) (j : S512x128.Idx) : k0_pay19 v w j = plus (up (v j)) (up (w j)) := by
  unfold k0_pay19; simp only [shapeCast_self]; rfl
theorem pay20_apply (a : Vec F S256x128 .f32) (j : S256x128.Idx) : k0_pay20 a j = dn (a j) := by
  unfold k0_pay20; simp only [shapeCast_self]; rfl
theorem pay55_apply (a : Vec F S256x128 .f32) (w : Vec F S256x128 .bf16) (j : S256x128.Idx) : k0_pay55 a w j = plus (a j) (up (w j)) := by
  unfold k0_pay55; simp only [shapeCast_self]; rfl
theorem pay56_apply (a : Vec F S256x128 .f32) (j : S256x128.Idx) : k0_pay56 a j = dn (a j) := by
  unfold k0_pay56; simp only [shapeCast_self]; rfl
theorem pay89_apply (a : Vec F S256x128 .f32) (w : Vec F S256x128 .bf16) (j : S256x128.Idx) : k0_pay89 a w j = dn (act (plus (a j) (up (w j)))) := by
  rfl

end Cert.Halving

end
-- ==== Proof.Regions.lean ====
/-
  Ownership of a part of a buffer, stated by what the buffer reads there.

  `own m c R q G`: device `c` holds share `q` of the positions `R` of buffer `m`, which read as `G` there.
  `hold m c R`: it holds them whole, at some contents. The rules for a load, a store and the joins and splits of
  these two assertions follow.
-/
module

public import proofs.«01_k».proof.Proof.Canon
public import Idealize.ShloMosaic.Lib.Pipeline.Launch
public import Idealize.ShloMosaic.Lib.Pipeline.Kit
public import Idealize.ShloMosaic.Lib.Tactic

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds and the kernel's, duties named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a device's program. -/
abbrev wpD (c : Dev nD) (p : PK F) (Q : PUnit → sProp 𝕄) : sProp 𝕄 :=
  wp frame (wpE (defs₀ (F := F)) 𝒱₀ (c : Thread nD τ) none) Set.univ p Q

variable {e : EltTy} (m : Memref sig .tc .vmem S2048x1024 e) (c : Dev nD)

/-- Share `q` of the positions `R` of a buffer of device `c`, reading as `G` there. -/
def own (R : Finset S2048x1024.Idx) (q : PosShare TreeShare) (G : S2048x1024.Idx → Elt F e) : sProp 𝕄 :=
  iprop(∃ f : Buf (Elt F) (m.view.loc (c : Thread nD τ)), ⌜∀ i ∈ R, m.view.read (Elt F) f i = G i⌝
    ∗ (m.view.loc (c : Thread nD τ) ↦[m.view.setOn R]{q} f))

/-- The positions `R` of a buffer of device `c`, at some contents. -/
def hold (R : Finset S2048x1024.Idx) : sProp 𝕄 :=
  iprop(∃ f : Buf (Elt F) (m.view.loc (c : Thread nD τ)), (m.view.loc (c : Thread nD τ) ↦[m.view.setOn R]{fullShare} f))

instance own_storable (R : Finset S2048x1024.Idx) (q) (G : S2048x1024.Idx → Elt F e) : BI.Storable (upEmb : UEmb _ 𝕄) (own m c R q G) := by
  unfold own; infer_instance
instance hold_storable (R : Finset S2048x1024.Idx) : BI.Storable (upEmb : UEmb _ 𝕄) (hold (F := F) m c R) := by
  unfold hold; infer_instance

theorem hold_of_pts (R : Finset S2048x1024.Idx) (f : Buf (Elt F) (m.view.loc (c : Thread nD τ))) :
    (m.view.loc (c : Thread nD τ) ↦[m.view.setOn R]{fullShare} f) ⊢ (hold m c R : sProp 𝕄) := by
  unfold hold; iintro H; iexists f; iexact H

/-- Contents are forgotten. -/
theorem own_hold (R : Finset S2048x1024.Idx) (G : S2048x1024.Idx → Elt F e) : own m c R fullShare G ⊢ (hold m c R : sProp 𝕄) := by
  unfold own hold; iintro ⟨%f, -, H⟩; iexists f; iexact H

/-- Only the contents at the positions matter. -/
theorem own_congr {R : Finset S2048x1024.Idx} {q} {G G' : S2048x1024.Idx → Elt F e} (h : ∀ i ∈ R, G i = G' i) :
    own m c R q G ⊢ (own m c R q G' : sProp 𝕄) := by
  unfold own; iintro ⟨%f, %hf, H⟩; iexists f
  isplitr; · ipureintro; exact fun i hi => (hf i hi).trans (h i hi)
  iexact H

theorem setOn_union (A B : Finset S2048x1024.Idx) : m.view.setOn (A ∪ B) = m.view.setOn A ∪ m.view.setOn B := Finset.map_union ..
theorem setOn_disjoint {A B : Finset S2048x1024.Idx} (h : Disjoint A B) : Disjoint (m.view.setOn A) (m.view.setOn B) :=
  (Finset.disjoint_map _).mpr h

/-- A part at some contents is two disjoint parts at some contents. -/
theorem hold_split {A B : Finset S2048x1024.Idx} (h : Disjoint A B) : hold m c (A ∪ B) ⊢ (iprop(hold m c A ∗ hold m c B) : sProp 𝕄) := by
  unfold hold; rw [setOn_union]
  iintro ⟨%f, H⟩
  ihave H := (pointsTo_union (setOn_disjoint m h)).1 $$ H
  icases H with ⟨H1, H2⟩
  isplitl [H1]
  · iexists f; iexact H1
  · iexists f; iexact H2

theorem hold_join {A B : Finset S2048x1024.Idx} (h : Disjoint A B) : (iprop(hold m c A ∗ hold m c B) : sProp 𝕄) ⊢ hold m c (A ∪ B) := by
  unfold hold; rw [setOn_union]
  iintro ⟨⟨%f, H1⟩, ⟨%f', H2⟩⟩
  iexists _
  iapply (pointsTo_join (setOn_disjoint m h))
  isplitl [H1]; · iexact H1
  iexact H2

/-- Two disjoint parts reading as `G` are one. -/
theorem own_split {A B : Finset S2048x1024.Idx} (h : Disjoint A B) (q) (G : S2048x1024.Idx → Elt F e) :
    own m c (A ∪ B) q G ⊢ (iprop(own m c A q G ∗ own m c B q G) : sProp 𝕄) := by
  unfold own; rw [setOn_union]
  iintro ⟨%f, %hf, H⟩
  ihave H := (pointsTo_union (setOn_disjoint m h)).1 $$ H
  icases H with ⟨H1, H2⟩
  isplitl [H1]
  · iexists f; isplitr; · ipureintro; exact fun i hi => hf i (Finset.mem_union_left _ hi)
    iexact H1
  · iexists f; isplitr; · ipureintro; exact fun i hi => hf i (Finset.mem_union_right _ hi)
    iexact H2

theorem own_join {A B : Finset S2048x1024.Idx} (h : Disjoint A B) (q) (G : S2048x1024.Idx → Elt F e) :
    (iprop(own m c A q G ∗ own m c B q G) : sProp 𝕄) ⊢ own m c (A ∪ B) q G := by
  unfold own; rw [setOn_union]
  iintro ⟨⟨%f, %hf, H1⟩, ⟨%f', %hf', H2⟩⟩
  iexists (m.view.setOn B).piecewise f' f
  isplitr
  · ipureintro
    intro i hi
    by_cases hB : i ∈ B
    · rw [View.read_apply, Finset.piecewise_eq_of_mem _ _ _ ((m.view.mem_setOn).mpr hB), ← View.read_apply]; exact hf' i hB
    · rw [View.read_apply, Finset.piecewise_eq_of_notMem _ _ _ (fun hh => hB ((m.view.mem_setOn).mp hh)), ← View.read_apply]
      exact hf i ((Finset.mem_union.mp hi).resolve_right hB)
  iapply (pointsTo_join (setOn_disjoint m h))
  isplitl [H1]; · iexact H1
  iexact H2

/-- The two halves of the whole share. -/
abbrev qL : PosShare TreeShare := PosShare.left fullShare
abbrev qR : PosShare TreeShare := PosShare.right fullShare

theorem own_halves (R : Finset S2048x1024.Idx) (G : S2048x1024.Idx → Elt F e) :
    own m c R fullShare G ⊢ (iprop(own m c R qL G ∗ own m c R qR G) : sProp 𝕄) := by
  unfold own; iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

theorem own_whole (R : Finset S2048x1024.Idx) (G : S2048x1024.Idx → Elt F e) :
    (iprop(own m c R qL G ∗ own m c R qR G) : sProp 𝕄) ⊢ own m c R fullShare G := by
  unfold own; iintro ⟨⟨%f, %hf, H1⟩, ⟨%f', %hf', H2⟩⟩
  iexists f
  isplitr; · ipureintro; exact hf
  iapply (pointsTo_share (PosShare.mem_left_op_right fullShare)).2
  isplitl [H1]; · iexact H1
  have hc : ∀ i ∈ m.view.setOn R, f' i = f i := by
    intro i hi
    obtain ⟨x, hx, rfl⟩ := Finset.mem_map.mp hi
    have := (hf x hx).trans (hf' x hx).symm
    rw [View.read_apply, View.read_apply] at this
    exact ((cast_bijective _).1 this).symm
  rw [pointsTo_congr (f := f) (g := f') fun i hi => (hc i hi).symm]; iexact H2

/-! ## Loads and stores -/

theorem map_emb (r : Rect S2048x1024) : (m.view.slice r).set = m.view.setOn r.set := View.set_slice ..

theorem emb_mem (r : Rect S2048x1024) (j : r.shape.Idx) : r.emb j ∈ r.set := by
  rw [← Rect.map_emb_univ]; exact Finset.mem_map_of_mem _ (Finset.mem_univ j)

/-- A load of a rectangle whose positions are owned continues at what they read. -/
theorem wp_ld (r : Rect S2048x1024) {hl : m.view.LoadsAt r.toLoadRect} {k : (r.shape.Idx → Elt F e) → PK F} {Φ : PUnit → sProp 𝕄}
    {R : Finset S2048x1024.Idx} {q} {G : S2048x1024.Idx → Elt F e} (hR : r.set ⊆ R) :
    own m c R q G ⊢ iprop((own m c R q G -∗ wpD c (k fun j => G (r.emb j)) Φ) -∗ wpD c (.op (.load m r.toLoadRect hl) k) Φ) := by
  unfold own
  iintro ⟨%f, %hf, H⟩ HK
  iapply (wp_load 𝒱₀ (c : Thread nD τ) none Set.univ (m := m) (S := m.view.setOn R) (Finset.map_subset_map.mpr (by exact hR))) $$ H
  iintro H
  rw [show m.view.readAt (Elt F) r.toLoadRect f = fun j => G (r.emb j) from funext fun j => hf _ (hR (emb_mem r j))]
  iapply HK
  iexists f; isplitr; · ipureintro; exact hf
  iexact H

/-- A load whose value the program does not use. -/
theorem wp_ld_any (r : Rect S2048x1024) {hl : m.view.LoadsAt r.toLoadRect} {k : (r.shape.Idx → Elt F e) → PK F} {Φ : PUnit → sProp 𝕄}
    {R : Finset S2048x1024.Idx} (hR : r.set ⊆ R) :
    (hold m c R : sProp 𝕄) ⊢ iprop((∀ v, hold m c R -∗ wpD c (k v) Φ) -∗ wpD c (.op (.load m r.toLoadRect hl) k) Φ) := by
  unfold hold
  iintro ⟨%f, H⟩ HK
  iapply (wp_load 𝒱₀ (c : Thread nD τ) none Set.univ (m := m) (S := m.view.setOn R) (Finset.map_subset_map.mpr (by exact hR))) $$ H
  iintro H
  iapply HK
  iexists f; iexact H

/-- A store into a rectangle whose positions are held leaves them owned, reading as stored. -/
theorem wp_st (r : Rect S2048x1024) {w : r.shape.Idx → Elt F e} {hx : (m.access r).Stores Finset.univ} {hm : (Finset.univ : Finset r.shape.Idx) = Finset.univ ∨ ∀ a, r.stride a = 1}
    {k : PUnit → PK F} {Φ : PUnit → sProp 𝕄} (G : S2048x1024.Idx → Elt F e) (hG : ∀ j, w j = G (r.emb j)) :
    (hold m c r.set : sProp 𝕄) ⊢ iprop((own m c r.set fullShare G -∗ wpD c (k ⟨⟩) Φ) -∗ wpD c (.op (.store m r w Finset.univ hx hm) k) Φ) := by
  unfold hold
  iintro ⟨%f, H⟩ HK
  iapply (wp_store 𝒱₀ (c : Thread nD τ) none Set.univ (m := m) (r := r) (Mk := Finset.univ) (S := m.view.setOn r.set) (by rw [View.setOn_univ, map_emb])) $$ H
  iintro H
  iapply HK
  unfold own
  iexists _; isplitr
  on_goal 2 => iexact H
  ipureintro
  intro i hi
  rw [← Rect.map_emb_univ] at hi
  obtain ⟨j, -, rfl⟩ := Finset.mem_map.mp hi
  exact (View.read_slice_write_emb (v := m.view) r f w (Finset.mem_univ j)).trans (hG j)

/-- What a transfer writes from one rectangle of a buffer to the same rectangle of another, both in terms of what the buffers read. -/
theorem own_of_copy {m' : Memref sig .tc .vmem S2048x1024 e} {c' : Dev nD} (r : Rect S2048x1024) {G : S2048x1024.Idx → Elt F e}
    (f : Buf (Elt F) (m.view.loc (c : Thread nD τ))) (hf : ∀ i ∈ r.set, m.view.read (Elt F) f i = G i) (fd : Buf (Elt F) (m'.view.loc (c' : Thread nD τ))) :
    (m'.view.loc (c' : Thread nD τ) ↦[(m'.view.slice r).set]{fullShare} ((m'.view.slice r).write (Elt F) fd ((m.view.slice r).read (Elt F) f) Finset.univ))
      ⊢ (own m' c' r.set fullShare G : sProp 𝕄) := by
  unfold own; rw [map_emb]
  iintro H
  iexists _; isplitr
  on_goal 2 => iexact H
  ipureintro
  intro i hi
  rw [← Rect.map_emb_univ] at hi
  obtain ⟨j, -, rfl⟩ := Finset.mem_map.mp hi
  exact (View.read_slice_write_emb (v := m'.view) r fd _ (Finset.mem_univ j)).trans (hf _ (emb_mem r j))

end Cert.Halving

end
-- ==== Proof.Schedule.lean ====
/-
  The protocol of the kernel, as a schedule of rounds.

  Group `g` makes five transfers `t`: 0, 1, 2 gather the sums, 3 and 4 spread the result. Each has a counter of
  departures on the sender and one of arrivals on the receiver (the counters named by `t = 5` are never used), and
  before the first transfer the three partners of a device each raise its barrier by one unit, handing over the
  parts of their buffers that the device's transfers will write.
-/
module

public import proofs.«01_k».proof.Proof.Contents
public import proofs.«01_k».proof.Proof.Regions

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Transfers, counters, amounts -/

/-- The exchange a transfer belongs to: the spreading transfers undo the gathering ones in reverse order. -/
def stageOf (t : Fin 6) : ℕ := match t with | 0 => 0 | 1 => 1 | 2 => 2 | 3 => 1 | 4 => 0 | 5 => 0
/-- The mask of a transfer and its partner. -/
def mj (t : Fin 6) (g : Fin 16) : Fin 3 := mi g (stageOf t)
def pt (t : Fin 6) (g : Fin 16) (c : Dev nD) : Dev nD := peer (mj t g) c
theorem pt_pt (t : Fin 6) (g : Fin 16) (c : Dev nD) : pt t g (pt t g c) = c := peer_peer _ _

/-- The counter of a transfer's departures (`false`) or arrivals (`true`). -/
def dsm (b : Bool) (t : Fin 6) (g : Fin 16) : DmaSem sig := match b, t with
  | false, 0 => dsem 0 g 0 | false, 1 => dsem 0 g 1 | false, 2 => dsem 0 g 2 | false, 3 => dsem 1 g 1 | false, 4 => dsem 1 g 2 | false, 5 => dsem 1 g 0
  | true, 0 => dsem 2 g 0 | true, 1 => dsem 2 g 1 | true, 2 => dsem 2 g 2 | true, 3 => dsem 3 g 1 | true, 4 => dsem 3 g 2 | true, 5 => dsem 3 g 0

/-- Which transfer a counter counts. -/
def dec (q : DmaSem sig) : Option (Bool × Fin 6 × Fin 16) :=
  if 2 ≤ q.val then
    some (decide (96 ≤ q.val - 2),
      (if (q.val - 2) % 96 < 48 then ⟨(q.val - 2) % 3, by omega⟩ else ⟨((q.val - 2) % 3 + 2) % 3 + 3, by omega⟩),
      ⟨(q.val - 2) % 48 / 3, by omega⟩)
  else none
theorem dec_dsm : ∀ (b : Bool) (t : Fin 6) (g : Fin 16), dec (dsm b t g) = some (b, t, g) := by decide +kernel

/-- The units a transfer of 512 rows moves, and one of 256. -/
def N5 : ℕ := (sl5 mS 0 0).view.dmaCredit
def N2 : ℕ := (sl2 mS 0 0).view.dmaCredit
theorem N5_pos : 0 < N5 := View.dmaCredit_pos _ (by decide)
theorem N2_pos : 0 < N2 := View.dmaCredit_pos _ (by decide)
def Nt (t : Fin 6) : ℕ := match t with | 0 => N5 | 1 => N2 | 2 => N2 | 3 => N2 | 4 => N5 | 5 => N2
theorem Nt_pos (t : Fin 6) : 0 < Nt t := by fin_cases t <;> first | exact N5_pos | exact N2_pos

/-! ## Cells -/

abbrev Cid : Type := Option (Bool × Fin 6 × Fin 16)
/-- The counter a cell number names: the barrier or a transfer's. -/
def csem (k : Cid) : SemLoc sig := match k with | none => .reg barS | some (b, t, g) => .dma (dsm b t g)
/-- The cells of a device: its barrier, and the departures and arrivals of transfer `t` of group `g`. -/
abbrev kcell (ck : Dev nD × Cid) : GSem nD τ sig := ((ck.1 : Thread nD τ), csem ck.2)
abbrev bcell (c : Dev nD) : GSem nD τ sig := ((c : Thread nD τ), .reg barS)
abbrev dcell (b : Bool) (t : Fin 6) (g : Fin 16) (c : Dev nD) : GSem nD τ sig := ((c : Thread nD τ), .dma (dsm b t g))

variable (x : Dev nD → S2048x1024.Idx → Elt F .bf16)

/-! ## What changes hands -/

/-- What the departure of a transfer gives back to the sender: the part of the buffer it was sent from. -/
def sendPay (t : Fin 6) (g : Fin 16) (c : Dev nD) : sProp 𝕄 := match t with
  | 0 => hold mS c (b5 (S0 c g) g)
  | 1 => hold mS c (b2 (S1 c g) g)
  | 2 => hold mS c (b2 (K1 c g) g)
  | 3 => own mO c (b2 (K1 c g) g) qL (Y x c)
  | 4 => own mO c (b5 (K0 c g) g) qR (Y x c)
  | 5 => iprop(emp)

/-- What an arrival gives the receiver: the part written, with the sender's values. -/
def recvPay (t : Fin 6) (g : Fin 16) (c : Dev nD) : sProp 𝕄 := match t with
  | 0 => own mC1 c (b5 (K0 c g) g) fullShare (x (pr g 0 c))
  | 1 => own mC2 c (b2 (K1 c g) g) fullShare (B1 x g (pr g 1 c))
  | 2 => own mC3 c (b2 (K1 c g) g) fullShare (B2 x g (pr g 2 c))
  | 3 => own mO c (b2 (S1 c g) g) fullShare (Y x c)
  | 4 => own mO c (b5 (S0 c g) g) fullShare (Y x c)
  | 5 => iprop(emp)

/-- The part of device `c`'s buffers that transfer `t` of its partner writes. -/
def land (t : Fin 6) (g : Fin 16) (c : Dev nD) : sProp 𝕄 := match t with
  | 0 => hold mC1 c (b5 (K0 c g) g)
  | 1 => hold mC2 c (b2 (K1 c g) g)
  | 2 => hold mC3 c (b2 (K1 c g) g)
  | 3 => hold mO c (b2 (S1 c g) g)
  | 4 => hold mO c (b5 (S0 c g) g)
  | 5 => iprop(emp)

/-- The part of device `c`'s buffers transfer `t` of group `g` writes, if the transfer comes from the partner by mask `j`. -/
def landIf (j : Fin 3) (t : Fin 6) (g : Fin 16) (c : Dev nD) : sProp 𝕄 := if mj t g = j then land t g c else iprop(emp)

/-- What the partner by mask `j` hands device `c` at the barrier. -/
def barPay (j : Fin 3) (c : Dev nD) : sProp 𝕄 := bigSep Finset.univ fun tg : Fin 6 × Fin 16 => landIf j tg.1 tg.2 (peer j c)

instance sendPay_storable (t g c) : BI.Storable (upEmb : UEmb _ 𝕄) (sendPay x t g c) := by unfold sendPay; split <;> infer_instance
instance recvPay_storable (t g c) : BI.Storable (upEmb : UEmb _ 𝕄) (recvPay x t g c) := by unfold recvPay; split <;> infer_instance
instance land_storable (t g c) : BI.Storable (upEmb : UEmb _ 𝕄) (land (F := F) t g c) := by unfold land; split <;> infer_instance
instance landIf_storable (j t g c) : BI.Storable (upEmb : UEmb _ 𝕄) (landIf (F := F) j t g c) := by unfold landIf; split <;> infer_instance
instance barPay_storable (j c) : BI.Storable (upEmb : UEmb _ 𝕄) (barPay (F := F) j c) := by unfold barPay; infer_instance

/-! ## The schedule -/

/-- The duties of a counter: three at the barrier, one of a transfer's counters, none of the unused ones. -/
def dutiesAt (s : SemLoc sig) : Finset (Fin 3) := match s with
  | .reg _ => Finset.univ
  | .dma q => match dec q with | some (_, t, _) => if t = 5 then ∅ else {0} | none => ∅
def amountAt (s : SemLoc sig) : ℕ := match s with
  | .reg _ => 1
  | .dma q => match dec q with | some (_, t, _) => Nt t | none => 1
def payAt (c : Dev nD) (s : SemLoc sig) (d : Fin 3) : sProp 𝕄 := match s with
  | .reg _ => barPay d c
  | .dma q => match dec q with
    | some (false, t, g) => sendPay x t g c
    | some (true, t, g) => recvPay x t g c
    | none => iprop(emp)

def Rd : Rounds.Schedule (GSem nD τ sig) (Fin 3) 𝕄 where
  duties γ r := if r = 0 ∧ γ.1.2 = .tc then dutiesAt γ.2 else ∅
  unitless _ := False
  amount γ _ _ := amountAt γ.2
  payload γ _ d := payAt x γ.1.1 γ.2 d
  amount_pos γ _ _ _ := by
    show 0 < amountAt γ.2
    unfold amountAt
    split
    · exact Nat.one_pos
    · split
      · exact Nt_pos _
      · exact Nat.one_pos

instance Rd_storable (γ : GSem nD τ sig) (r : ℕ) (d : Fin 3) : BI.Storable (upEmb : UEmb _ 𝕄) ((Rd x).payload γ r d) := by
  show BI.Storable upEmb (payAt x γ.1.1 γ.2 d)
  unfold payAt
  (repeat' split) <;> infer_instance

section Cells
variable (c : Dev nD) (b : Bool) {t : Fin 6} (g : Fin 16)

theorem duties_bar : (Rd x).duties (bcell c) 0 = Finset.univ := by dsimp only [Rd]; exact if_pos ⟨rfl, rfl⟩
theorem duties_dma (ht : t ≠ 5) : (Rd x).duties (dcell b t g c) 0 = {0} := by
  dsimp only [Rd]; rw [if_pos ⟨rfl, rfl⟩]; unfold dutiesAt; dsimp only; rw [dec_dsm]; exact if_neg ht
theorem duties_unused (r : ℕ) : (Rd x).duties (dcell b 5 g c) r = ∅ := by
  dsimp only [Rd]; split
  · unfold dutiesAt; dsimp only; rw [dec_dsm]; exact if_pos rfl
  · rfl
theorem duties_later (γ : GSem nD τ sig) : ∀ r, 1 ≤ r → (Rd x).duties γ r = ∅ :=
  fun r hr => by dsimp only [Rd]; rw [if_neg fun h => by omega]
theorem amount_bar (d : Fin 3) : (Rd x).amount (bcell c) 0 d = 1 := rfl
theorem amount_dma (d : Fin 3) : (Rd x).amount (dcell b t g c) 0 d = Nt t := by
  dsimp only [Rd]; unfold amountAt; dsimp only; rw [dec_dsm]
theorem expect_bar : (Rd x).expect (bcell c) 0 = 3 := by
  unfold Schedule.expect Schedule.amountOf
  rw [duties_bar, Finset.sum_congr rfl fun d _ => amount_bar x c d, Finset.sum_const, Finset.card_univ, Fintype.card_fin, smul_eq_mul]
theorem expect_dma (ht : t ≠ 5) : (Rd x).expect (dcell b t g c) 0 = Nt t := by
  unfold Schedule.expect Schedule.amountOf; rw [duties_dma x c b g ht, Finset.sum_singleton, amount_dma]
theorem payload_bar (d : Fin 3) : (Rd x).payload (bcell c) 0 d = barPay d c := rfl
theorem payload_send (d : Fin 3) : (Rd x).payload (dcell false t g c) 0 d = sendPay x t g c := by
  dsimp only [Rd]; unfold payAt; dsimp only; rw [dec_dsm]
theorem payload_recv (d : Fin 3) : (Rd x).payload (dcell true t g c) 0 d = recvPay x t g c := by
  dsimp only [Rd]; unfold payAt; dsimp only; rw [dec_dsm]

theorem rest_bar : bigSep ((Rd x).duties (bcell c) 0 \ ∅) (fun d => (Rd x).payload (bcell c) 0 d) = bigSep Finset.univ fun j : Fin 3 => barPay (F := F) j c := by
  rw [Finset.sdiff_empty, duties_bar]; rfl
theorem rest_send (ht : t ≠ 5) : bigSep ((Rd x).duties (dcell false t g c) 0 \ ∅) (fun d => (Rd x).payload (dcell false t g c) 0 d) = sendPay x t g c := by
  rw [Finset.sdiff_empty, duties_dma x c false g ht, bigSep_singleton, payload_send]
theorem rest_recv (ht : t ≠ 5) : bigSep ((Rd x).duties (dcell true t g c) 0 \ ∅) (fun d => (Rd x).payload (dcell true t g c) 0 d) = recvPay x t g c := by
  rw [Finset.sdiff_empty, duties_dma x c true g ht, bigSep_singleton, payload_recv]

end Cells

/-! ## Levels, and what a device still owes -/

def L (γ : GSem nD τ sig) : Finset Unit := if γ.1.2 = .tc then {()} else ∅
/-- Barriers at 1, the arrivals of transfer `t` at `2 + t`, everything else at 0. -/
def lv (γ : GSem nD τ sig) (_ : Unit) : ℕ := match γ.2 with
  | .reg _ => 1
  | .dma q => match dec q with | some (true, t, _) => 2 + t.val | _ => 0

theorem L_of_ne (γ : GSem nD τ sig) (h : γ.1.2 ≠ .tc) : L γ = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_send (c : Dev nD) (t : Fin 6) (g : Fin 16) : lv (dcell false t g c) () = 0 := by unfold lv; dsimp only; rw [dec_dsm]
theorem lv_recv (c : Dev nD) (t : Fin 6) (g : Fin 16) : lv (dcell true t g c) () = 2 + t.val := by unfold lv; dsimp only; rw [dec_dsm]

theorem lv_dma (c : Dev nD) (b : Bool) (t : Fin 6) (g : Fin 16) : lv (dcell b t g c) () ≤ 2 + t.val := by
  cases b
  · rw [lv_send]; exact Nat.zero_le _
  · rw [lv_recv]

/-- The arrival a transfer of device `c` owes its partner. -/
def tal (c : Dev nD) (p : Fin 6 × Fin 16) : CellTallies nD τ sig Unit := tallyAt (dcell true p.1 p.2 (pt p.1 p.2 c)) () (Nt p.1)
/-- What device `c` owes while the transfers `l` are still to be made. -/
def owedL (c : Dev nD) : List (Fin 6 × Fin 16) → CellTallies nD τ sig Unit
  | [] => 0
  | p :: l => owedL c l + tal c p

theorem owedL_pos {c : Dev nD} {l : List (Fin 6 × Fin 16)} {γ : GSem nD τ sig} {u : Unit} (h : 0 < owedL c l γ u) :
    ∃ p ∈ l, γ = dcell true p.1 p.2 (pt p.1 p.2 c) := by
  induction l with
  | nil => exact absurd h (Nat.lt_irrefl 0)
  | cons p l ih =>
    rcases Pipeline.add_pos_cases h with h | h
    · obtain ⟨p', hp, he⟩ := ih h; exact ⟨p', List.mem_cons_of_mem _ hp, he⟩
    · exact ⟨p, List.mem_cons_self, (Pipeline.tallyAt_pos h).1⟩

/-- A device may wait on a counter below every arrival it still owes. -/
theorem mayWait_owed (c : Dev nD) (sm : SemLoc sig) (l : List (Fin 6 × Fin 16)) (n : ℕ) (hs : lv ((c : Thread nD τ), sm) () ≤ n) (hl : ∀ p ∈ l, n < 2 + p.1.val) :
    (levAts L lv : sProp 𝕄) ⊢ MayWait (c : Thread nD τ) sm () (owedL c l) :=
  MayOwe.of_cut (L := L) (lev := lv) n (fun p hp => by rw [Finset.mem_singleton.mp hp]; exact mem_L _ _ _)
    (fun γ u hg => by obtain ⟨p, -, rfl⟩ := owedL_pos hg; exact mem_L _ _ _)
    (fun p hp => by rw [Finset.mem_singleton.mp hp]; exact hs)
    (fun γ u hg => by obtain ⟨p, hp, rfl⟩ := owedL_pos hg; rw [show u = () from rfl, lv_recv]; exact hl p hp)

/-- Device `c` owes the arrivals of the transfers `l`. -/
def Ow (c : Dev nD) (l : List (Fin 6 × Fin 16)) : sProp 𝕄 := iprop(∃ W : Waits sig Unit, owes (c : Thread nD τ) (owedL c l) W)

end Cert.Halving

end
-- ==== Proof.Steps.lean ====
/-
  One transfer and one wait of the kernel, under the protocol.
-/
module

public import proofs.«01_k».proof.Proof.Schedule

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x1024.Idx → Elt F .bf16) (K : Dev nD × Cid → ℕ)

/-- The invariant of every cell, and that each has reached its round 0: nothing of it is used up. -/
def records : sProp 𝕄 :=
  bigSep Finset.univ fun ck : Dev nD × Cid => iprop(cellInv ER (Rd x) (K ck) (kcell ck) ∗ reached ER (kcell ck) 0)
instance records_persistent : BI.Persistent (records x K) := by unfold records; infer_instance
theorem records_at (c : Dev nD) (k : Cid) : records x K ⊢ (iprop(cellInv ER (Rd x) (K (c, k)) (kcell (c, k)) ∗ reached ER (kcell (c, k)) 0) : sProp 𝕄) := by
  unfold records; exact bigSep_elim (Finset.mem_univ (c, k))

/-- The records and the levels. -/
def ctx : sProp 𝕄 := iprop(records x K ∗ levAts L lv)
instance ctx_persistent : BI.Persistent (ctx x K) := by unfold ctx; infer_instance

/-- The two payments a transfer makes: its departure at home and its arrival at the partner. -/
def toks (t : Fin 6) (g : Fin 16) (c : Dev nD) : sProp 𝕄 :=
  iprop(dutyTok ER (dcell false t g c) 0 (0 : Fin 3) ∗ dutyTok ER (dcell true t g (pt t g c)) 0 (0 : Fin 3))
/-- What lets device `c` wait for a departure or an arrival: its place at the counter, and the credit for it. -/
def place (b : Bool) (t : Fin 6) (g : Fin 16) (c : Dev nD) : sProp 𝕄 := atPos ER (dcell b t g c) 0 (∅ : Finset (Fin 3)) 0
def cr (b : Bool) (t : Fin 6) (g : Fin 16) (c : Dev nD) : sProp 𝕄 := cred (tallyAt (dcell b t g c) () (Nt t))
/-- The counter is at zero and no longer shared. -/
def done (b : Bool) (t : Fin 6) (g : Fin 16) (c : Dev nD) : sProp 𝕄 := semVal (dcell b t g c) 0

theorem own_elim {e : EltTy} (m : Memref sig .tc .vmem S2048x1024 e) (c : Dev nD) (R : Finset S2048x1024.Idx) (q : PosShare TreeShare) (G : S2048x1024.Idx → Elt F e) :
    own m c R q G ⊢ (iprop(∃ f : Buf (Elt F) (m.view.loc (c : Thread nD τ)), ⌜∀ i ∈ R, m.view.read (Elt F) f i = G i⌝
      ∗ (m.view.loc (c : Thread nD τ) ↦[m.view.setOn R]{q} f)) : sProp 𝕄) := BI.Entails.refl _

theorem own_intro {e : EltTy} (m : Memref sig .tc .vmem S2048x1024 e) (c : Dev nD) (R : Finset S2048x1024.Idx) (q : PosShare TreeShare) (G : S2048x1024.Idx → Elt F e)
    (f : Buf (Elt F) (m.view.loc (c : Thread nD τ))) (hf : ∀ i ∈ R, m.view.read (Elt F) f i = G i) :
    (m.view.loc (c : Thread nD τ) ↦[m.view.setOn R]{q} f : sProp 𝕄) ⊢ own m c R q G := by
  unfold own; iintro H; iexists f; isplitr; · ipureintro; exact hf
  iexact H

theorem pts_slice {e : EltTy} (m : Memref sig .tc .vmem S2048x1024 e) (c : Dev nD) (r : Rect S2048x1024) (hr : ∀ a, r.stride a = 1) (q : PosShare TreeShare)
    (f : Buf (Elt F) (m.view.loc (c : Thread nD τ))) :
    (m.view.loc (c : Thread nD τ) ↦[m.view.setOn r.set]{q} f : sProp 𝕄) = ((m.slice r hr).view.loc (c : Thread nD τ) ↦[(m.slice r hr).view.set]{q} f) := by
  show _ = (m.view.loc (c : Thread nD τ) ↦[(m.view.slice r).set]{q} f)
  rw [map_emb]

/-- Transfer `t` of group `g`: the sender gives up the share of the source it sends from and the destination's
    positions, and from then owes one arrival less. -/
theorem wp_sd (c : Dev nD) (t : Fin 6) (g : Fin 16) (ht : t ≠ 5) {p : Dev nD} {ss rs : DmaSem sig} (hp : p = pt t g c) (hss : ss = dsm false t g) (hrs : rs = dsm true t g) {m m' : Memref sig .tc .vmem S2048x1024 .bf16} (r : Rect S2048x1024)
    {hr hr' : ∀ a, r.stride a = 1} {hsc : (m'.slice r hr').view.ref.isScScratch = false} {h1 : (m.slice r hr).view.WordExact} {h2 : (m'.slice r hr').view.WordExact}
    {h3 : DmaTarget.Typed .vmem (.dma rs) (.remote (Dev.tc p : Thread nD τ) (m'.slice r hr') (.dma ss) hsc)}
    {k : PUnit → PK F} {Φ : PUnit → sProp 𝕄} {q : PosShare TreeShare} {G : S2048x1024.Idx → Elt F .bf16} (l : List (Fin 6 × Fin 16))
    (hN : (m'.slice r hr').view.dmaCredit = Nt t)
    (hs : own m c r.set q G ⊢ sendPay x t g c) (hv : own m' (pt t g c) r.set fullShare G ⊢ recvPay x t g (pt t g c)) :
    iprop(ctx x K ∗ own m c r.set q G ∗ hold m' (pt t g c) r.set ∗ toks t g c ∗ Ow c ((t, g) :: l))
      ⊢ iprop(((cr false t g c ∗ Ow c l) -∗ wpD c (k ⟨⟩) Φ)
          -∗ wpD c (.op (.enqueueDma (m.slice r hr) (.remote (Dev.tc p : Thread nD τ) (m'.slice r hr') (.dma ss) hsc) (.dma rs) h1 h2 h3) k) Φ) := by
  subst hp hss hrs
  unfold ctx toks Ow cr
  iintro ⟨⟨#HR, -⟩, Hsrc, Hdst, ⟨Ht1, Ht2⟩, ⟨%W, HO⟩⟩ HK
  unfold hold
  icases Hdst with ⟨%fd, Hdst⟩
  ihave Hsrc := (own_elim m c r.set q G) $$ Hsrc
  icases Hsrc with ⟨%fs, %hfs, Hsrc⟩
  ihave H1 := (records_at x K c (some (false, t, g))) $$ HR
  ihave H2 := (records_at x K (pt t g c) (some (true, t, g))) $$ HR
  icases H1 with ⟨HI1, Hr1⟩
  icases H2 with ⟨HI2, Hr2⟩
  iapply (Rounds.wp_send_pointsTo 𝒱₀ ER (Rd x) (c : Thread nD τ) none (c' := (Dev.tc (pt t g c) : Thread nD τ)) (src := m.slice r hr) (dst := m'.slice r hr')
    (κ₁ := K (c, some (false, t, g))) (κ₂ := K (pt t g c, some (true, t, g))) (q := q) (fs := fs) (fd := fd)
    (r₁ := 0) (r₂ := 0) (d₁ := (0 : Fin 3)) (d₂ := (0 : Fin 3))
    (by rw [duties_dma x c false g ht]; exact Finset.mem_singleton_self _) (by rw [duties_dma x (pt t g c) true g ht]; exact Finset.mem_singleton_self _)
    (sS := .dma (dsm false t g)) (sem := .dma (dsm true t g)) () () (Nt t) hN (amount_dma x c false g 0) (amount_dma x (pt t g c) true g 0) (owedL c l) rfl (W := W)
    (by rw [payload_send, ← pts_slice]; exact (own_intro m c r.set q G fs hfs).trans hs)
    (by rw [payload_recv]; exact (own_of_copy m c r fs hfs fd).trans hv)) $$ [HI1 HI2 Hsrc Hdst HO Ht1 Ht2 Hr1 Hr2]
  · isplitl [HI1]; · iexact HI1
    isplitl [HI2]; · iexact HI2
    isplitl [Hsrc]; · rw [← pts_slice]; iexact Hsrc
    isplitl [Hdst]; · rw [← pts_slice]; iexact Hdst
    isplitl [HO]; · iexact HO
    isplitl [Ht1]; · iexact Ht1
    isplitl [Hr1]; · iexact Hr1
    isplitl [Ht2]; · iexact Ht2
    iexact Hr2
  iintro ⟨HC, HO⟩
  iapply HK
  isplitl [HC]; · iexact HC
  iexists W; iexact HO

/-- What a counter hands over when waited for. -/
def payOf (b : Bool) (t : Fin 6) (g : Fin 16) (c : Dev nD) : sProp 𝕄 := match b with | false => sendPay x t g c | true => recvPay x t g c

/-- A wait for a whole transfer: what the counter hands over, and the counter back at zero. -/
theorem wp_wt (c : Dev nD) (b : Bool) (t : Fin 6) (g : Fin 16) (ht : t ≠ 5) {sm : DmaSem sig} (hsm : sm = dsm b t g) {s : Shape} {m m' : Memref sig .tc .vmem s .bf16} {h1 : m.view.WordExact} {h2 : m'.view.WordExact}
    {k : PUnit → PK F} {Φ : PUnit → sProp 𝕄} (l : List (Fin 6 × Fin 16)) (hN : m'.view.dmaCredit = Nt t)
    (hl : ∀ p ∈ l, 2 + t.val < 2 + p.1.val) :
    iprop(ctx x K ∗ place b t g c ∗ cr b t g c ∗ Ow c l)
      ⊢ iprop(((payOf x b t g c ∗ done b t g c ∗ Ow c l) -∗ wpD c (k ⟨⟩) Φ) -∗ wpD c (.op (.waitDma2 sm m m' h1 h2) k) Φ) := by
  subst hsm
  unfold ctx place cr Ow done
  iintro ⟨⟨#HR, #Hlev⟩, Hat, Hcr, ⟨%W, HO⟩⟩ HK
  ihave H1 := (records_at x K c (some (b, t, g))) $$ HR
  icases H1 with ⟨#HI, -⟩
  iapply (Rounds.wp_wait_rest_token 𝒱₀ ER (Rd x) (c : Thread nD τ) none (κ := K (c, some (b, t, g)))
      (wpE_waitDma2_eq 𝒱₀ (c : Thread nD τ) none Set.univ) (Set.mem_univ _) () (O := owedL c l) (W := W) (R := 0) (m := 0) (T := ∅)
      (by rw [Nat.zero_add, expect_dma x c b g ht, hN])) $$ [Hcr HO Hat]
  · isplitr; · iexact HI
    isplitl [Hcr]; · rw [hN]; iexact Hcr
    isplitl [HO]; · iexact HO
    isplitr
    · iapply (mayWait_owed c (.dma (dsm b t g)) l (2 + t.val) (lv_dma c b t g) hl)
      iexact Hlev
    iexact Hat
  iintro ⟨HO, Hat, -, Hpay⟩
  imod (Rounds.cell_close ER (Rd x) (Set.mem_univ (K (c, some (b, t, g)))) (fun h => h) (R := 0 + 1) (duties_later x (dcell b t g c))) $$ [Hat] with Hz
  · isplitr; · iexact HI
    iexact Hat
  iapply HK
  isplitl [Hpay]
  · cases b
    · unfold payOf; iapply (Entails.of_eq (rest_send x c g ht)) $$ Hpay
    · unfold payOf; iapply (Entails.of_eq (rest_recv x c g ht)) $$ Hpay
  isplitl [Hz]; · iexact Hz
  iexists _; iexact HO

end Cert.Halving

end
-- ==== Proof.Phases.lean ====
/-
  The seven phases of a group: what each takes and what it leaves.
-/
module

public import proofs.«01_k».proof.Proof.Steps
public import Idealize.ShloMosaic.Lib.Pipeline.BigSepL

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x1024.Idx → Elt F .bf16) (K : Dev nD × Cid → ℕ) (c : Dev nD)

/-! ## A phase over a list of groups -/

/-- If each group's block takes `P g` and what is owed before it, and leaves `Q g` and what is owed after it, so does
    the phase over a list of groups. -/
theorem each_ind (b : Fin 16 → PK F → PK F) (X : sProp 𝕄) (P Q : Fin 16 → sProp 𝕄) (o : List (Fin 16) → List (Fin 6 × Fin 16)) (Φ : PUnit → sProp 𝕄)
    (hb : ∀ g gs k, iprop(ctx x K ∗ X ∗ P g ∗ Ow c (o (g :: gs))) ⊢ iprop((X ∗ Q g ∗ Ow c (o gs) -∗ wpD c k Φ) -∗ wpD c (b g k) Φ)) (k : PK F) :
    ∀ gs : List (Fin 16), iprop(ctx x K ∗ X ∗ bigSepL gs P ∗ Ow c (o gs))
      ⊢ iprop((X ∗ bigSepL gs Q ∗ Ow c (o []) -∗ wpD c k Φ) -∗ wpD c (each b gs k) Φ)
  | [] => by
    rw [bigSepL_nil, bigSepL_nil, each]
    iintro ⟨-, HX, He, HO⟩ HK
    iapply HK
    isplitl [HX]; · iexact HX
    isplitl [He]; · iexact He
    iexact HO
  | g :: gs => by
    rw [bigSepL_cons', bigSepL_cons', each]
    iintro ⟨#HC, HX, ⟨HP, HPs⟩, HO⟩ HK
    iapply (hb g gs (each b gs k)) $$ [HX HP HO]
    · isplitr; · iexact HC
      isplitl [HX]; · iexact HX
      isplitl [HP]; · iexact HP
      iexact HO
    iintro ⟨HX, HQ, HO⟩
    iapply (each_ind b X P Q o Φ hb k gs) $$ [HX HPs HO]
    · isplitr; · iexact HC
      isplitl [HX]; · iexact HX
      isplitl [HPs]; · iexact HPs
      iexact HO
    iintro ⟨HX, HQs, HO⟩
    iapply HK
    isplitl [HX]; · iexact HX
    isplitl [HQ HQs]
    · isplitl [HQ] <;> iassumption
    iexact HO

/-! ## What passes between a device and its partners, in the device's own block numbers -/

variable (g : Fin 16)

theorem land_0 : (land 0 g (pt 0 g c) : sProp 𝕄) = hold mC1 (pt 0 g c) (b5 (S0 c g) g) := by
  show hold mC1 _ (b5 (K0 (pr g 0 c) g) g) = _; rw [K0_pr0]
theorem land_1 : (land 1 g (pt 1 g c) : sProp 𝕄) = hold mC2 (pt 1 g c) (b2 (S1 c g) g) := by
  show hold mC2 _ (b2 (K1 (pr g 1 c) g) g) = _; rw [K1_pr1]
theorem land_2 : (land 2 g (pt 2 g c) : sProp 𝕄) = hold mC3 (pt 2 g c) (b2 (K1 c g) g) := by
  show hold mC3 _ (b2 (K1 (pr g 2 c) g) g) = _; rw [K1_pr2]
theorem land_3 : (land 3 g (pt 3 g c) : sProp 𝕄) = hold mO (pt 3 g c) (b2 (K1 c g) g) := by
  show hold mO _ (b2 (S1 (pr g 1 c) g) g) = _; rw [S1_pr1]
theorem land_4 : (land 4 g (pt 4 g c) : sProp 𝕄) = hold mO (pt 4 g c) (b5 (K0 c g) g) := by
  show hold mO _ (b5 (S0 (pr g 0 c) g) g) = _; rw [S0_pr0]
theorem recv_0 : (recvPay x 0 g (pt 0 g c) : sProp 𝕄) = own mC1 (pt 0 g c) (b5 (S0 c g) g) fullShare (x c) := by
  show own mC1 _ (b5 (K0 (pr g 0 c) g) g) _ (x (pr g 0 (pr g 0 c))) = _; rw [K0_pr0, pr, peer_peer]
theorem recv_1 : (recvPay x 1 g (pt 1 g c) : sProp 𝕄) = own mC2 (pt 1 g c) (b2 (S1 c g) g) fullShare (B1 x g c) := by
  show own mC2 _ (b2 (K1 (pr g 1 c) g) g) _ (B1 x g (pr g 1 (pr g 1 c))) = _; rw [K1_pr1, pr, peer_peer]
theorem recv_2 : (recvPay x 2 g (pt 2 g c) : sProp 𝕄) = own mC3 (pt 2 g c) (b2 (K1 c g) g) fullShare (B2 x g c) := by
  show own mC3 _ (b2 (K1 (pr g 2 c) g) g) _ (B2 x g (pr g 2 (pr g 2 c))) = _; rw [K1_pr2, pr, peer_peer]
theorem recv_3 : own mO (pt 3 g c) (b2 (K1 c g) g) fullShare (Y x c) ⊢ (recvPay x 3 g (pt 3 g c) : sProp 𝕄) := by
  show _ ⊢ own mO (pt 3 g c) (b2 (S1 (pr g 1 c) g) g) fullShare (Y x (pr g 1 c))
  rw [S1_pr1]
  exact own_congr _ _ fun i hi => by
    have := Y_pr1 x (pr g 1 c) g (i := i) (by rw [S1_pr1]; exact hi)
    rwa [pr, pr, peer_peer] at this
theorem recv_4 : own mO (pt 4 g c) (b5 (K0 c g) g) fullShare (Y x c) ⊢ (recvPay x 4 g (pt 4 g c) : sProp 𝕄) := by
  show _ ⊢ own mO (pt 4 g c) (b5 (S0 (pr g 0 c) g) g) fullShare (Y x (pr g 0 c))
  rw [S0_pr0]
  exact own_congr _ _ fun i hi => by
    have := Y_pr0 x (pr g 0 c) g (i := i) (by rw [S0_pr0]; exact hi)
    rwa [pr, pr, peer_peer] at this

/-! ## The phases -/

variable (l : List (Fin 6 × Fin 16)) (k : PK F)

/-- The input block, read by the first two phases. -/
abbrev inp : sProp 𝕄 := own mX c Finset.univ fullShare (x c)

def P0 : sProp 𝕄 := iprop(hold mS c (b5 (S0 c g) g) ∗ land 0 g (pt 0 g c) ∗ toks 0 g c)
def Q0 : sProp 𝕄 := cr false 0 g c

theorem wp_ph0 (Φ : PUnit → sProp 𝕄) : iprop(ctx x K ∗ inp x c ∗ P0 c g ∗ Ow c ((0, g) :: l))
    ⊢ iprop((inp x c ∗ Q0 c g ∗ Ow c l -∗ wpD c k Φ) -∗ wpD c (ph0 c g k) Φ) := by
  unfold P0 Q0 ph0 ld5 st5 sd5
  rw [land_0]
  iintro ⟨#HC, HX, ⟨HS, HL, HT⟩, HO⟩ HK
  iapply (wp_ld mX c (r5 (S0 c g) g) (Finset.subset_univ _)) $$ HX; iintro HX
  iapply (wp_ld_any mS c (r5 (S0 c g) g) (Finset.Subset.refl _)) $$ HS; iintro %v HS
  iapply (wp_st mS c (r5 (S0 c g) g) (x c) (fun j => by rw [pay3_eq])) $$ HS; iintro HS
  iapply (wp_sd x K c 0 g (by decide) rfl rfl rfl (r5 (S0 c g) g) l rfl (own_hold _ _ _ _) (Entails.of_eq (recv_0 x c g).symm)) $$ [HS HL HT HO]
  · isplitr; · iexact HC
    isplitl [HS]; · iexact HS
    isplitl [HL]; · iexact HL
    isplitl [HT]; · iexact HT
    iexact HO
  iintro ⟨HR, HO⟩
  iapply HK
  isplitl [HX]; · iexact HX
  isplitl [HR]; · iexact HR
  iexact HO

/-- What a wait for an arrival takes. -/
abbrev wtok (b : Bool) (t : Fin 6) (g : Fin 16) (c : Dev nD) : sProp 𝕄 := iprop(place b t g c ∗ cr b t g c)

/-- What a transfer of a block moves does not depend on the buffer or the block. -/
theorem cr5 (m : Memref sig .tc .vmem S2048x1024 .bf16) (q : Fin 4) (g : Fin 16) : (sl5 m q g).view.dmaCredit = N5 := rfl
theorem cr2 (m : Memref sig .tc .vmem S2048x1024 .bf16) (q : Fin 8) (g : Fin 16) : (sl2 m q g).view.dmaCredit = N2 := rfl

/-- A kept half is its two quarters. -/
theorem own_quarters {e : EltTy} (m : Memref sig .tc .vmem S2048x1024 e) (q : PosShare TreeShare) (G : S2048x1024.Idx → Elt F e) :
    (own m c (b5 (K0 c g) g) q G : sProp 𝕄) ⊢ iprop(own m c (b2 (K1 c g) g) q G ∗ own m c (b2 (S1 c g) g) q G) := by
  rw [half_eq]; exact own_split m c (quarters_disjoint c g) q G

theorem above {t : Fin 6} {n : ℕ} {l : List (Fin 6 × Fin 16)} (ht : n < t.val) (hl : ∀ p ∈ l, t.val ≤ p.1.val) (g : Fin 16) :
    ∀ p ∈ (t, g) :: l, 2 + n < 2 + p.1.val := by
  intro p hp
  rcases List.mem_cons.mp hp with rfl | hp
  · dsimp only; omega
  · have := hl p hp; omega

def P1 : sProp 𝕄 := iprop(hold mA c (b5 (K0 c g) g) ∗ hold mS c (b2 (S1 c g) g) ∗ land 1 g (pt 1 g c) ∗ toks 1 g c ∗ wtok true 0 g c)
def Q1 : sProp 𝕄 := iprop(own mA c (b2 (K1 c g) g) fullShare (A1 x g c) ∗ hold mA c (b2 (S1 c g) g) ∗ hold mC1 c (b5 (K0 c g) g) ∗ cr false 1 g c ∗ done true 0 g c)

theorem wp_ph1 (Φ : PUnit → sProp 𝕄) (hl : ∀ p ∈ l, 1 ≤ p.1.val) : iprop(ctx x K ∗ inp x c ∗ P1 c g ∗ Ow c ((1, g) :: l))
    ⊢ iprop((inp x c ∗ Q1 x c g ∗ Ow c l -∗ wpD c k Φ) -∗ wpD c (ph1 c g k) Φ) := by
  unfold P1 Q1 ph1 wt5 ld5 sa5 ld2 st2 sd2
  rw [land_1]
  iintro ⟨#HC, HX, ⟨HA, HS, HL, HT, ⟨Hat, Hcr⟩⟩, HO⟩ HK
  iapply (wp_wt x K c true 0 g (by decide) rfl ((1, g) :: l) (cr5 mC1 (S0 c g) g) (above (by decide) hl g)) $$ [Hat Hcr HO]
  · isplitr; · iexact HC
    isplitl [Hat]; · iexact Hat
    isplitl [Hcr]; · iexact Hcr
    iexact HO
  iintro ⟨HV, HD, HO⟩
  ihave HV := (show payOf x true 0 g c ⊢ (own mC1 c (b5 (K0 c g) g) fullShare (x (pr g 0 c)) : sProp 𝕄) from BI.Entails.refl _) $$ HV
  iapply (wp_ld mX c (r5 (K0 c g) g) (Finset.subset_univ _)) $$ HX; iintro HX
  iapply (wp_ld mC1 c (r5 (K0 c g) g) (Finset.Subset.refl _)) $$ HV; iintro HV
  iapply (wp_ld_any mA c (r5 (K0 c g) g) (Finset.Subset.refl _)) $$ HA; iintro %v HA
  iapply (wp_st mA c (r5 (K0 c g) g) (A1 x g c) (fun j => pay19_apply _ _ j)) $$ HA; iintro HA
  ihave HA := (own_quarters c g mA fullShare (A1 x g c)) $$ HA
  icases HA with ⟨HA, HA'⟩
  iapply (wp_ld mA c (r2 (S1 c g) g) (Finset.Subset.refl _)) $$ HA'; iintro HA'
  iapply (wp_ld_any mS c (r2 (S1 c g) g) (Finset.Subset.refl _)) $$ HS; iintro %v' HS
  iapply (wp_st mS c (r2 (S1 c g) g) (B1 x g c) (fun j => pay20_apply _ j)) $$ HS; iintro HS
  iapply (wp_sd x K c 1 g (by decide) rfl rfl rfl (r2 (S1 c g) g) l rfl (own_hold _ _ _ _) (Entails.of_eq (recv_1 x c g).symm)) $$ [HS HL HT HO]
  · isplitr; · iexact HC
    isplitl [HS]; · iexact HS
    isplitl [HL]; · iexact HL
    isplitl [HT]; · iexact HT
    iexact HO
  iintro ⟨HR, HO⟩
  iapply HK
  isplitl [HX]; · iexact HX
  isplitr [HO]
  · isplitl [HA]; · iexact HA
    isplitl [HA']; · iapply (own_hold mA c _ (A1 x g c)) $$ HA'
    isplitl [HV]; · iapply (own_hold mC1 c _ _) $$ HV
    isplitl [HR] <;> iassumption
  iexact HO

def P2 : sProp 𝕄 := iprop(own mA c (b2 (K1 c g) g) fullShare (A1 x g c) ∗ hold mS c (b2 (K1 c g) g) ∗ land 2 g (pt 2 g c) ∗ toks 2 g c ∗ wtok true 1 g c)
def Q2 : sProp 𝕄 := iprop(own mA c (b2 (K1 c g) g) fullShare (A2 x g c) ∗ hold mC2 c (b2 (K1 c g) g) ∗ cr false 2 g c ∗ done true 1 g c)

theorem wp_ph2 (Φ : PUnit → sProp 𝕄) (hl : ∀ p ∈ l, 2 ≤ p.1.val) : iprop(ctx x K ∗ emp ∗ P2 x c g ∗ Ow c ((2, g) :: l))
    ⊢ iprop((emp ∗ Q2 x c g ∗ Ow c l -∗ wpD c k Φ) -∗ wpD c (ph2 c g k) Φ) := by
  unfold P2 Q2 ph2 wt2 ld2 sa2 st2 sd2
  rw [land_2]
  iintro ⟨#HC, -, ⟨HA, HS, HL, HT, ⟨Hat, Hcr⟩⟩, HO⟩ HK
  iapply (wp_wt x K c true 1 g (by decide) rfl ((2, g) :: l) (cr2 mC2 (S1 c g) g) (above (by decide) hl g)) $$ [Hat Hcr HO]
  · isplitr; · iexact HC
    isplitl [Hat]; · iexact Hat
    isplitl [Hcr]; · iexact Hcr
    iexact HO
  iintro ⟨HV, HD, HO⟩
  ihave HV := (show payOf x true 1 g c ⊢ (own mC2 c (b2 (K1 c g) g) fullShare (B1 x g (pr g 1 c)) : sProp 𝕄) from BI.Entails.refl _) $$ HV
  iapply (wp_ld mA c (r2 (K1 c g) g) (Finset.Subset.refl _)) $$ HA; iintro HA
  iapply (wp_ld mC2 c (r2 (K1 c g) g) (Finset.Subset.refl _)) $$ HV; iintro HV
  iapply (wp_ld mA c (r2 (K1 c g) g) (Finset.Subset.refl _)) $$ HA; iintro HA
  ihave HA := (own_hold mA c _ _) $$ HA
  iapply (wp_st mA c (r2 (K1 c g) g) (A2 x g c) (fun j => pay55_apply _ _ j)) $$ HA; iintro HA
  iapply (wp_ld mA c (r2 (K1 c g) g) (Finset.Subset.refl _)) $$ HA; iintro HA
  iapply (wp_ld_any mS c (r2 (K1 c g) g) (Finset.Subset.refl _)) $$ HS; iintro %v' HS
  iapply (wp_st mS c (r2 (K1 c g) g) (B2 x g c) (fun j => pay56_apply _ j)) $$ HS; iintro HS
  iapply (wp_sd x K c 2 g (by decide) rfl rfl rfl (r2 (K1 c g) g) l rfl (own_hold _ _ _ _) (Entails.of_eq (recv_2 x c g).symm)) $$ [HS HL HT HO]
  · isplitr; · iexact HC
    isplitl [HS]; · iexact HS
    isplitl [HL]; · iexact HL
    isplitl [HT]; · iexact HT
    iexact HO
  iintro ⟨HR, HO⟩
  iapply HK
  isplitr; · iempintro
  isplitr [HO]
  · isplitl [HA]; · iexact HA
    isplitl [HV]; · iapply (own_hold mC2 c _ _) $$ HV
    isplitl [HR] <;> iassumption
  iexact HO

def P3 : sProp 𝕄 := iprop(own mA c (b2 (K1 c g) g) fullShare (A2 x g c) ∗ hold mO c (b2 (K1 c g) g) ∗ land 3 g (pt 3 g c) ∗ toks 3 g c ∗ wtok true 2 g c)
def Q3 : sProp 𝕄 := iprop(hold mA c (b2 (K1 c g) g) ∗ hold mC3 c (b2 (K1 c g) g) ∗ own mO c (b2 (K1 c g) g) qR (Y x c) ∗ cr false 3 g c ∗ done true 2 g c)

theorem wp_ph3 (Φ : PUnit → sProp 𝕄) (hl : ∀ p ∈ l, 3 ≤ p.1.val) : iprop(ctx x K ∗ emp ∗ P3 x c g ∗ Ow c ((3, g) :: l))
    ⊢ iprop((emp ∗ Q3 x c g ∗ Ow c l -∗ wpD c k Φ) -∗ wpD c (ph3 c g k) Φ) := by
  unfold P3 Q3 ph3 wt2 ld2 st2 sd2
  rw [land_3]
  iintro ⟨#HC, -, ⟨HA, HS, HL, HT, ⟨Hat, Hcr⟩⟩, HO⟩ HK
  iapply (wp_wt x K c true 2 g (by decide) rfl ((3, g) :: l) (cr2 mC3 (K1 c g) g) (above (by decide) hl g)) $$ [Hat Hcr HO]
  · isplitr; · iexact HC
    isplitl [Hat]; · iexact Hat
    isplitl [Hcr]; · iexact Hcr
    iexact HO
  iintro ⟨HV, HD, HO⟩
  ihave HV := (show payOf x true 2 g c ⊢ (own mC3 c (b2 (K1 c g) g) fullShare (B2 x g (pr g 2 c)) : sProp 𝕄) from BI.Entails.refl _) $$ HV
  iapply (wp_ld mA c (r2 (K1 c g) g) (Finset.Subset.refl _)) $$ HA; iintro HA
  iapply (wp_ld mC3 c (r2 (K1 c g) g) (Finset.Subset.refl _)) $$ HV; iintro HV
  iapply (wp_ld_any mO c (r2 (K1 c g) g) (Finset.Subset.refl _)) $$ HS; iintro %v HS
  iapply (wp_st mO c (r2 (K1 c g) g) (Y x c) (fun j => (pay89_apply (fun i => A2 x g c ((r2 (K1 c g) g).emb i)) (fun i => B2 x g (pr g 2 c) ((r2 (K1 c g) g).emb i)) j).trans (Y_quarter x c g (emb_mem (r2 (K1 c g) g) j)).symm)) $$ HS; iintro HS
  ihave HS := (own_halves mO c _ (Y x c)) $$ HS
  icases HS with ⟨HS, HS'⟩
  iapply (wp_sd x K c 3 g (by decide) rfl rfl rfl (r2 (K1 c g) g) l rfl (BI.Entails.refl _) (recv_3 x c g)) $$ [HS HL HT HO]
  · isplitr; · iexact HC
    isplitl [HS]; · iexact HS
    isplitl [HL]; · iexact HL
    isplitl [HT]; · iexact HT
    iexact HO
  iintro ⟨HR, HO⟩
  iapply HK
  isplitr; · iempintro
  isplitr [HO]
  · isplitl [HA]; · iapply (own_hold mA c _ _) $$ HA
    isplitl [HV]; · iapply (own_hold mC3 c _ _) $$ HV
    isplitl [HS']; · iexact HS'
    isplitl [HR] <;> iassumption
  iexact HO

def P4 : sProp 𝕄 := iprop(own mO c (b2 (K1 c g) g) qR (Y x c) ∗ land 4 g (pt 4 g c) ∗ toks 4 g c ∗ wtok true 3 g c)
def Q4 : sProp 𝕄 := iprop(own mO c (b2 (S1 c g) g) qL (Y x c) ∗ cr false 4 g c ∗ done true 3 g c)

theorem wp_ph4 (Φ : PUnit → sProp 𝕄) (hl : ∀ p ∈ l, 4 ≤ p.1.val) : iprop(ctx x K ∗ emp ∗ P4 x c g ∗ Ow c ((4, g) :: l))
    ⊢ iprop((emp ∗ Q4 x c g ∗ Ow c l -∗ wpD c k Φ) -∗ wpD c (ph4 c g k) Φ) := by
  unfold P4 Q4 ph4 wt2 sd5
  rw [land_4]
  iintro ⟨#HC, -, ⟨HS, HL, HT, ⟨Hat, Hcr⟩⟩, HO⟩ HK
  iapply (wp_wt x K c true 3 g (by decide) rfl ((4, g) :: l) (cr2 mO (S1 c g) g) (above (by decide) hl g)) $$ [Hat Hcr HO]
  · isplitr; · iexact HC
    isplitl [Hat]; · iexact Hat
    isplitl [Hcr]; · iexact Hcr
    iexact HO
  iintro ⟨HV, HD, HO⟩
  ihave HV := (show payOf x true 3 g c ⊢ (own mO c (b2 (S1 c g) g) fullShare (Y x c) : sProp 𝕄) from BI.Entails.refl _) $$ HV
  ihave HV := (own_halves mO c _ (Y x c)) $$ HV
  icases HV with ⟨HV, HV'⟩
  ihave HS := (own_join mO c (quarters_disjoint c g) qR (Y x c)) $$ [HS HV']
  · isplitl [HS] <;> iassumption
  rw [← half_eq]
  iapply (wp_sd x K c 4 g (by decide) rfl rfl rfl (r5 (K0 c g) g) l rfl (BI.Entails.refl _) (recv_4 x c g)) $$ [HS HL HT HO]
  · isplitr; · iexact HC
    isplitl [HS]; · iexact HS
    isplitl [HL]; · iexact HL
    isplitl [HT]; · iexact HT
    iexact HO
  iintro ⟨HR, HO⟩
  iapply HK
  isplitr; · iempintro
  isplitr [HO]
  · isplitl [HV]; · iexact HV
    isplitl [HR] <;> iassumption
  iexact HO

def P5 : sProp 𝕄 := wtok true 4 g c
def Q5 : sProp 𝕄 := iprop(own mO c (b5 (S0 c g) g) fullShare (Y x c) ∗ done true 4 g c)

theorem wp_ph5 (Φ : PUnit → sProp 𝕄) : iprop(ctx x K ∗ emp ∗ P5 c g ∗ Ow c [])
    ⊢ iprop((emp ∗ Q5 x c g ∗ Ow c [] -∗ wpD c k Φ) -∗ wpD c (ph5 c g k) Φ) := by
  unfold P5 Q5 ph5 wt5
  iintro ⟨#HC, -, ⟨Hat, Hcr⟩, HO⟩ HK
  iapply (wp_wt x K c true 4 g (by decide) rfl [] (cr5 mO (S0 c g) g) (fun p hp => absurd hp List.not_mem_nil)) $$ [Hat Hcr HO]
  · isplitr; · iexact HC
    isplitl [Hat]; · iexact Hat
    isplitl [Hcr]; · iexact Hcr
    iexact HO
  iintro ⟨HV, HD, HO⟩
  ihave HV := (show payOf x true 4 g c ⊢ (own mO c (b5 (S0 c g) g) fullShare (Y x c) : sProp 𝕄) from BI.Entails.refl _) $$ HV
  iapply HK
  isplitr; · iempintro
  isplitr [HO]
  · isplitl [HV] <;> iassumption
  iexact HO

def P6 : sProp 𝕄 := iprop(wtok false 0 g c ∗ wtok false 1 g c ∗ wtok false 2 g c ∗ wtok false 3 g c ∗ wtok false 4 g c)
def Q6 : sProp 𝕄 := iprop((sendPay x 0 g c ∗ sendPay x 1 g c ∗ sendPay x 2 g c ∗ sendPay x 3 g c ∗ sendPay x 4 g c)
  ∗ done false 0 g c ∗ done false 1 g c ∗ done false 2 g c ∗ done false 3 g c ∗ done false 4 g c)

theorem wp_ph6 (Φ : PUnit → sProp 𝕄) : iprop(ctx x K ∗ emp ∗ P6 c g ∗ Ow c [])
    ⊢ iprop((emp ∗ Q6 x c g ∗ Ow c [] -∗ wpD c k Φ) -∗ wpD c (ph6 c g k) Φ) := by
  unfold P6 Q6 ph6 wt5 wt2
  iintro ⟨#HC, -, ⟨⟨Hat0, Hcr0⟩, ⟨Hat1, Hcr1⟩, ⟨Hat2, Hcr2⟩, ⟨Hat3, Hcr3⟩, ⟨Hat4, Hcr4⟩⟩, HO⟩ HK
  iapply (wp_wt x K c false 0 g (by decide) rfl [] (cr5 mS (S0 c g) g) (fun p hp => absurd hp List.not_mem_nil)) $$ [Hat0 Hcr0 HO]
  · isplitr; · iexact HC
    isplitl [Hat0]; · iexact Hat0
    isplitl [Hcr0] <;> iassumption
  iintro ⟨HV0, HD0, HO⟩
  ihave HV0 := (show payOf x false 0 g c ⊢ (sendPay x 0 g c : sProp 𝕄) from BI.Entails.refl _) $$ HV0
  iapply (wp_wt x K c false 1 g (by decide) rfl [] (cr2 mS (S1 c g) g) (fun p hp => absurd hp List.not_mem_nil)) $$ [Hat1 Hcr1 HO]
  · isplitr; · iexact HC
    isplitl [Hat1]; · iexact Hat1
    isplitl [Hcr1] <;> iassumption
  iintro ⟨HV1, HD1, HO⟩
  ihave HV1 := (show payOf x false 1 g c ⊢ (sendPay x 1 g c : sProp 𝕄) from BI.Entails.refl _) $$ HV1
  iapply (wp_wt x K c false 2 g (by decide) rfl [] (cr2 mS (K1 c g) g) (fun p hp => absurd hp List.not_mem_nil)) $$ [Hat2 Hcr2 HO]
  · isplitr; · iexact HC
    isplitl [Hat2]; · iexact Hat2
    isplitl [Hcr2] <;> iassumption
  iintro ⟨HV2, HD2, HO⟩
  ihave HV2 := (show payOf x false 2 g c ⊢ (sendPay x 2 g c : sProp 𝕄) from BI.Entails.refl _) $$ HV2
  iapply (wp_wt x K c false 3 g (by decide) rfl [] (cr2 mO (K1 c g) g) (fun p hp => absurd hp List.not_mem_nil)) $$ [Hat3 Hcr3 HO]
  · isplitr; · iexact HC
    isplitl [Hat3]; · iexact Hat3
    isplitl [Hcr3] <;> iassumption
  iintro ⟨HV3, HD3, HO⟩
  ihave HV3 := (show payOf x false 3 g c ⊢ (sendPay x 3 g c : sProp 𝕄) from BI.Entails.refl _) $$ HV3
  iapply (wp_wt x K c false 4 g (by decide) rfl [] (cr5 mO (K0 c g) g) (fun p hp => absurd hp List.not_mem_nil)) $$ [Hat4 Hcr4 HO]
  · isplitr; · iexact HC
    isplitl [Hat4]; · iexact Hat4
    isplitl [Hcr4] <;> iassumption
  iintro ⟨HV4, HD4, HO⟩
  ihave HV4 := (show payOf x false 4 g c ⊢ (sendPay x 4 g c : sProp 𝕄) from BI.Entails.refl _) $$ HV4
  iapply HK
  isplitr; · iempintro
  isplitr [HO]
  · isplitl [HV0 HV1 HV2 HV3 HV4]
    · isplitl [HV0]; · iexact HV0
      isplitl [HV1]; · iexact HV1
      isplitl [HV2]; · iexact HV2
      isplitl [HV3] <;> iassumption
    isplitl [HD0]; · iexact HD0
    isplitl [HD1]; · iexact HD1
    isplitl [HD2]; · iexact HD2
    isplitl [HD3] <;> iassumption
  iexact HO

end Cert.Halving

end
-- ==== Proof.Groups.lean ====
/-
  The buffers cut into the groups' parts and put together again, and what the barrier passes on.
-/
module

public import proofs.«01_k».proof.Proof.Phases

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer and its sixteen group boxes -/

section Whole
variable {e : EltTy} (m : Memref sig .tc .vmem S2048x1024 e) (c : Dev nD)

theorem setOn_groups : m.view.setOn Finset.univ = (Finset.univ : Finset (Fin 16)).biUnion fun g => m.view.setOn (gbox g) := by
  rw [← gbox_union]; ext i
  simp only [View.setOn, Finset.mem_map, Finset.mem_biUnion]
  constructor
  · rintro ⟨a, ⟨g, hg, ha⟩, rfl⟩; exact ⟨g, hg, a, ha, rfl⟩
  · rintro ⟨g, hg, a, ha, rfl⟩; exact ⟨a, ⟨g, hg, ha⟩, rfl⟩

theorem hold_groups : (hold m c Finset.univ : sProp 𝕄) ⊢ bigSep Finset.univ fun g : Fin 16 => hold m c (gbox g) := by
  conv_lhs => unfold hold
  rw [setOn_groups]
  iintro ⟨%f, H⟩
  ihave H := (Entails.of_eq (pointsTo_biUnion (ℓ := m.view.loc (c : Thread nD τ)) (q := fullShare) (f := f) (Finset.univ : Finset (Fin 16)) (fun g => m.view.setOn (gbox g))
    (fun g hg g' hg' hne => setOn_disjoint m (gbox_disjoint g hg g' hg' hne)))) $$ H
  iapply (show _ ⊢ _ from bigSep_mono fun g _ => hold_of_pts m c (gbox g) f) $$ H

theorem gbox_fresh {g : Fin 16} {S : Finset (Fin 16)} (hg : g ∉ S) : Disjoint (gbox g) (S.biUnion gbox) := by
  rw [Finset.disjoint_biUnion_right]
  exact fun g' hg' => gbox_disjoint g (Finset.mem_univ _) g' (Finset.mem_univ _) fun h => hg (h ▸ hg')

/-- Group boxes held one by one are held together. -/
theorem hold_bunch (S : Finset (Fin 16)) (hS : S.Nonempty) : (bigSep S fun g => hold m c (gbox g) : sProp 𝕄) ⊢ hold m c (S.biUnion gbox) := by
  induction hS using Finset.Nonempty.cons_induction with
  | singleton g => rw [bigSep_singleton, Finset.singleton_biUnion]
  | cons g S hg hS ih =>
    rw [Finset.cons_eq_insert, bigSep_insert hg, Finset.biUnion_insert]
    exact (sep_mono_right ih).trans (hold_join m c (gbox_fresh hg))

theorem own_bunch (q : PosShare TreeShare) (G : S2048x1024.Idx → Elt F e) (S : Finset (Fin 16)) (hS : S.Nonempty) :
    (bigSep S fun g => own m c (gbox g) q G : sProp 𝕄) ⊢ own m c (S.biUnion gbox) q G := by
  induction hS using Finset.Nonempty.cons_induction with
  | singleton g => rw [bigSep_singleton, Finset.singleton_biUnion]
  | cons g S hg hS ih =>
    rw [Finset.cons_eq_insert, bigSep_insert hg, Finset.biUnion_insert]
    exact (sep_mono_right ih).trans (own_join m c (gbox_fresh hg) q G)

theorem hold_all : (bigSep Finset.univ fun g : Fin 16 => hold m c (gbox g) : sProp 𝕄) ⊢ hold m c Finset.univ := by
  rw [← gbox_union]; exact hold_bunch m c Finset.univ ⟨0, Finset.mem_univ _⟩
theorem own_all (q : PosShare TreeShare) (G : S2048x1024.Idx → Elt F e) :
    (bigSep Finset.univ fun g : Fin 16 => own m c (gbox g) q G : sProp 𝕄) ⊢ own m c Finset.univ q G := by
  rw [← gbox_union]; exact own_bunch m c q G Finset.univ ⟨0, Finset.mem_univ _⟩

variable (g : Fin 16)

/-- A group box is its kept half and its sent half, and the kept half its two quarters. -/
theorem hold_halves : (hold m c (gbox g) : sProp 𝕄) ⊢ iprop(hold m c (b5 (K0 c g) g) ∗ hold m c (b5 (S0 c g) g)) := by
  rw [gbox_eq c]; exact hold_split m c (halves_disjoint c g)
theorem halves_hold : iprop(hold m c (b5 (K0 c g) g) ∗ hold m c (b5 (S0 c g) g)) ⊢ (hold m c (gbox g) : sProp 𝕄) := by
  rw [gbox_eq c]; exact hold_join m c (halves_disjoint c g)
theorem hold_quarters : (hold m c (b5 (K0 c g) g) : sProp 𝕄) ⊢ iprop(hold m c (b2 (K1 c g) g) ∗ hold m c (b2 (S1 c g) g)) := by
  rw [half_eq]; exact hold_split m c (quarters_disjoint c g)
theorem quarters_hold : iprop(hold m c (b2 (K1 c g) g) ∗ hold m c (b2 (S1 c g) g)) ⊢ (hold m c (b5 (K0 c g) g) : sProp 𝕄) := by
  rw [half_eq]; exact hold_join m c (quarters_disjoint c g)
theorem quarters_own (q : PosShare TreeShare) (G : S2048x1024.Idx → Elt F e) :
    iprop(own m c (b2 (K1 c g) g) q G ∗ own m c (b2 (S1 c g) g) q G) ⊢ (own m c (b5 (K0 c g) g) q G : sProp 𝕄) := by
  rw [half_eq]; exact own_join m c (quarters_disjoint c g) q G
theorem halves_own (q : PosShare TreeShare) (G : S2048x1024.Idx → Elt F e) :
    iprop(own m c (b5 (K0 c g) g) q G ∗ own m c (b5 (S0 c g) g) q G) ⊢ (own m c (gbox g) q G : sProp 𝕄) := by
  rw [gbox_eq c]; exact own_join m c (halves_disjoint c g) q G

/-- A group box in three parts: the sent half, the kept quarter, the passed quarter. -/
abbrev parts : sProp 𝕄 := iprop(hold m c (b5 (S0 c g) g) ∗ hold m c (b2 (K1 c g) g) ∗ hold m c (b2 (S1 c g) g))
theorem hold_parts : (hold m c (gbox g) : sProp 𝕄) ⊢ parts m c g := by
  iintro H
  ihave H := (hold_halves m c g) $$ H
  icases H with ⟨HK, HS⟩
  ihave HK := (hold_quarters m c g) $$ HK
  isplitl [HS] <;> iassumption
theorem parts_hold : parts m c g ⊢ (hold m c (gbox g) : sProp 𝕄) := by
  iintro ⟨HS, HK⟩
  ihave HK := (quarters_hold m c g) $$ HK
  iapply (halves_hold m c g)
  isplitl [HK] <;> iassumption

end Whole

/-! ## The groups in a list, the transfers in a list -/

theorem over_groups (Φ : Fin 16 → sProp 𝕄) : bigSep Finset.univ Φ = bigSepL gs16 Φ :=
  bigSep_univ_eq_bigSepL gs16 (by decide) (by decide) Φ
theorem over_transfers (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem over_masks (Φ : Fin 3 → sProp 𝕄) : bigSep Finset.univ Φ = iprop(Φ 0 ∗ Φ 1 ∗ Φ 2) :=
  bigSep_univ_eq_bigSepL [0, 1, 2] (by decide) (by decide) Φ

/-! ## The barrier's payloads -/

theorem pick (j : Fin 3) (Φ : Fin 3 → sProp 𝕄) : (bigSep Finset.univ fun i : Fin 3 => if j = i then Φ i else iprop(emp)) = Φ j := by
  refine (bigSep_filter Finset.univ (fun i => j = i) Φ).symm.trans ?_
  rw [Finset.filter_eq Finset.univ j, if_pos (Finset.mem_univ _), bigSep_singleton]

/-- What is handed over by mask `j`, over all `j`, is one part for each transfer of each group. -/
theorem landIf_all (d : Fin 3 → Dev nD) :
    (bigSep Finset.univ fun j : Fin 3 => bigSep Finset.univ fun tg : Fin 6 × Fin 16 => landIf j tg.1 tg.2 (d j) : sProp 𝕄)
      = bigSep Finset.univ fun g : Fin 16 => bigSep Finset.univ fun t : Fin 6 => land t g (d (mj t g)) := by
  rw [Pipeline.bigSep_univ_comm]
  rw [bigSep_congr (fun tg _ => pick (mj tg.1 tg.2) fun j => land (F := F) tg.1 tg.2 (d j)), bigSep_univ_prod, Pipeline.bigSep_univ_comm]

/-- The parts the five transfers of group `g` write, of the devices `d`. -/
abbrev lands (g : Fin 16) (d : Fin 6 → Dev nD) : sProp 𝕄 := iprop(land 0 g (d 0) ∗ land 1 g (d 1) ∗ land 2 g (d 2) ∗ land 3 g (d 3) ∗ land 4 g (d 4))
theorem lands_eq (g : Fin 16) (d : Fin 6 → Dev nD) : (bigSep Finset.univ fun t : Fin 6 => land t g (d t) : sProp 𝕄) = iprop(land 0 g (d 0) ∗ land 1 g (d 1) ∗ land 2 g (d 2) ∗ land 3 g (d 3) ∗ land 4 g (d 4) ∗ emp) := by
  rw [over_transfers]; rfl

/-- A device's own parts are what it hands its three partners; -/
theorem give (c : Dev nD) : (bigSep Finset.univ fun g : Fin 16 => lands g (fun _ => c) : sProp 𝕄)
    ⊢ iprop(barPay 0 (peer 0 c) ∗ barPay 1 (peer 1 c) ∗ barPay 2 (peer 2 c)) := by
  rw [← over_masks fun j => barPay (F := F) j (peer j c)]
  unfold barPay
  simp only [peer_peer]
  rw [landIf_all fun _ => c]
  refine bigSep_mono fun g _ => ?_
  rw [lands_eq g fun _ => c]
  show (lands g (fun _ => c) : sProp 𝕄) ⊢ _
  iintro ⟨H0, H1, H2, H3, H4⟩
  isplitl [H0]; · iexact H0
  isplitl [H1]; · iexact H1
  isplitl [H2]; · iexact H2
  isplitl [H3]; · iexact H3
  isplitl [H4]; · iexact H4
  iempintro
/-- what the three hand it are the parts its transfers write. -/
theorem take (c : Dev nD) : (bigSep Finset.univ fun j : Fin 3 => barPay j c : sProp 𝕄)
    ⊢ bigSep Finset.univ fun g : Fin 16 => lands g (fun t => pt t g c) := by
  unfold barPay
  rw [landIf_all fun j => peer j c]
  refine bigSep_mono fun g _ => ?_
  rw [lands_eq g fun t => peer (mj t g) c]
  show _ ⊢ (lands g (fun t => pt t g c) : sProp 𝕄)
  iintro ⟨H0, H1, H2, H3, H4, -⟩
  isplitl [H0]; · iexact H0
  isplitl [H1]; · iexact H1
  isplitl [H2]; · iexact H2
  isplitl [H3]; · iexact H3
  iexact H4

end Cert.Halving
end
-- ==== Proof.CanonEq.lean ====
/-
  The printed kernel and the program of sixteen groups are the same program.
-/
module

public import proofs.«01_k».proof.Proof.Canon

@[expose] public section

noncomputable section

namespace Cert.Halving

open Cert.KernelIdeal Cert.KernelIdeal.Gen
open Idealize.ShloMosaic Idealize.SL.Sem
open Idealize.ShloMosaic.Pipeline

variable {F : FTy → Type} [FloatOps F]

/-- The printed kernel is the program of sixteen groups: after the device's number is read, each device's
    operations are those of `canon`, one after the other. -/
theorem body_canon : bodyP F = Prog.op .deviceId (canon (F := F)) := by
  have h : ∃ k : Dev nD → PK F, bodyP F = Prog.op .deviceId k ∧ (k 0 = canon 0 ∧ k 1 = canon 1 ∧ k 2 = canon 2 ∧ k 3 = canon 3) ∧
      (k 4 = canon 4 ∧ k 5 = canon 5 ∧ k 6 = canon 6 ∧ k 7 = canon 7) :=
    ⟨_, rfl, ⟨by chain_rfl, by chain_rfl, by chain_rfl, by chain_rfl⟩, ⟨by chain_rfl, by chain_rfl, by chain_rfl, by chain_rfl⟩⟩
  obtain ⟨k, hk, ⟨h0, h1, h2, h3⟩, ⟨h4, h5, h6, h7⟩⟩ := h
  refine hk.trans (congrArg (Prog.op TpuEff.deviceId) (funext fun c => ?_))
  fin_cases c <;> assumption

end Cert.Halving

end
-- ==== Proof.Body.lean ====
/-
  The kernel's run on one device: the meeting at the barrier, the seven phases over the sixteen groups, and the
  buffers and counters given back.
-/
module

public import proofs.«01_k».proof.Proof.Groups
public import proofs.«01_k».proof.Proof.CanonEq

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x1024.Idx → Elt F .bf16) (K : Dev nD × Cid → ℕ) (c : Dev nD) (g : Fin 16)

/-! ## A group's resources before, between and after the phases -/

/-- The parts of its own buffers a device keeps for group `g`, and those no phase touches. -/
def mine : sProp 𝕄 := iprop(parts mS c g ∗ hold mA c (b5 (K0 c g) g) ∗ hold mO c (b2 (K1 c g) g))
def spare : sProp 𝕄 := iprop(hold mA c (b5 (S0 c g) g) ∗ hold mC1 c (b5 (S0 c g) g)
  ∗ (hold mC2 c (b5 (S0 c g) g) ∗ hold mC2 c (b2 (S1 c g) g)) ∗ hold mC3 c (b5 (S0 c g) g) ∗ hold mC3 c (b2 (S1 c g) g))
/-- The group's boxes of the six buffers. -/
def bufs : sProp 𝕄 := iprop(hold mS c (gbox g) ∗ hold mA c (gbox g) ∗ hold mC1 c (gbox g) ∗ hold mC2 c (gbox g) ∗ hold mC3 c (gbox g) ∗ hold mO c (gbox g))

theorem deal : (bufs c g : sProp 𝕄) ⊢ iprop(mine c g ∗ lands g (fun _ => c) ∗ spare c g) := by
  rw [show (lands g (fun _ => c) : sProp 𝕄) = iprop(hold mC1 c (b5 (K0 c g) g) ∗ hold mC2 c (b2 (K1 c g) g) ∗ hold mC3 c (b2 (K1 c g) g)
    ∗ hold mO c (b2 (S1 c g) g) ∗ hold mO c (b5 (S0 c g) g)) from rfl]
  unfold bufs mine spare
  iintro ⟨HS, HA, H1, H2, H3, HO⟩
  ihave HS := (hold_parts mS c g) $$ HS
  ihave HA := (hold_halves mA c g) $$ HA
  ihave H1 := (hold_halves mC1 c g) $$ H1
  ihave H2 := (hold_parts mC2 c g) $$ H2
  ihave H3 := (hold_parts mC3 c g) $$ H3
  ihave HO := (hold_parts mO c g) $$ HO
  icases HA with ⟨HA, HA'⟩
  icases H1 with ⟨H1, H1'⟩
  icases H2 with ⟨H2, H2', H2''⟩
  icases H3 with ⟨H3, H3', H3''⟩
  icases HO with ⟨HO, HO', HO''⟩
  isplitl [HS HA HO']
  · isplitl [HS]; · iexact HS
    isplitl [HA]; · iexact HA
    iexact HO'
  isplitl [H1 H2' H3' HO'' HO]
  · isplitl [H1]; · iexact H1
    isplitl [H2']; · iexact H2'
    isplitl [H3']; · iexact H3'
    isplitl [HO'']; · iexact HO''
    iexact HO
  isplitl [HA']; · iexact HA'
  isplitl [H1']; · iexact H1'
  isplitl [H2 H2'']
  · isplitl [H2] <;> iassumption
  isplitl [H3] <;> iassumption

/-- The payments, places and credits a device starts with for group `g`. -/
def kit : sProp 𝕄 := iprop((toks 0 g c ∗ toks 1 g c ∗ toks 2 g c ∗ toks 3 g c ∗ toks 4 g c)
  ∗ (wtok true 0 g c ∗ wtok true 1 g c ∗ wtok true 2 g c ∗ wtok true 3 g c ∗ wtok true 4 g c)
  ∗ (place false 0 g c ∗ place false 1 g c ∗ place false 2 g c ∗ place false 3 g c ∗ place false 4 g c)
  ∗ place false 5 g c ∗ place true 5 g c)

/-- What phases 2, 3, 4 take besides what the phase before leaves. -/
def E2 : sProp 𝕄 := iprop(hold mS c (b2 (K1 c g) g) ∗ land 2 g (pt 2 g c) ∗ toks 2 g c ∗ wtok true 1 g c)
def E3 : sProp 𝕄 := iprop(hold mO c (b2 (K1 c g) g) ∗ land 3 g (pt 3 g c) ∗ toks 3 g c ∗ wtok true 2 g c)
def E4 : sProp 𝕄 := iprop(land 4 g (pt 4 g c) ∗ toks 4 g c ∗ wtok true 3 g c)
/-- The places at the departures, and those at the unused counters. -/
def E6 : sProp 𝕄 := iprop(place false 0 g c ∗ place false 1 g c ∗ place false 2 g c ∗ place false 3 g c ∗ place false 4 g c)
def E7 : sProp 𝕄 := iprop(place false 5 g c ∗ place true 5 g c)

theorem setup : (iprop(mine c g ∗ lands g (fun t => pt t g c) ∗ kit c g) : sProp 𝕄)
    ⊢ iprop(P0 c g ∗ P1 c g ∗ E2 c g ∗ E3 c g ∗ E4 c g ∗ P5 c g ∗ E6 c g ∗ E7 c g) := by
  unfold mine kit P0 P1 E2 E3 E4 P5 E6 E7
  iintro ⟨⟨⟨HS0, HS1, HS2⟩, HA, HO⟩, ⟨L0, L1, L2, L3, L4⟩, ⟨T0, T1, T2, T3, T4⟩, ⟨W0, W1, W2, W3, W4⟩, HP, HU⟩
  isplitl [HS0 L0 T0]
  · isplitl [HS0]; · iexact HS0
    isplitl [L0] <;> iassumption
  isplitl [HA HS2 L1 T1 W0]
  · isplitl [HA]; · iexact HA
    isplitl [HS2]; · iexact HS2
    isplitl [L1]; · iexact L1
    isplitl [T1]; · iexact T1
    iexact W0
  isplitl [HS1 L2 T2 W1]
  · isplitl [HS1]; · iexact HS1
    isplitl [L2]; · iexact L2
    isplitl [T2]; · iexact T2
    iexact W1
  isplitl [HO L3 T3 W2]
  · isplitl [HO]; · iexact HO
    isplitl [L3]; · iexact L3
    isplitl [T3]; · iexact T3
    iexact W2
  isplitl [L4 T4 W3]
  · isplitl [L4]; · iexact L4
    isplitl [T4]; · iexact T4
    iexact W3
  isplitl [W4]; · iexact W4
  isplitl [HP]; · iexact HP
  iexact HU

/-- What phases 1, 2, 3 leave that the next does not take. -/
def L1 : sProp 𝕄 := iprop(hold mA c (b2 (S1 c g) g) ∗ hold mC1 c (b5 (K0 c g) g) ∗ cr false 1 g c ∗ done true 0 g c)
def L2 : sProp 𝕄 := iprop(hold mC2 c (b2 (K1 c g) g) ∗ cr false 2 g c ∗ done true 1 g c)
def L3 : sProp 𝕄 := iprop(hold mA c (b2 (K1 c g) g) ∗ hold mC3 c (b2 (K1 c g) g) ∗ cr false 3 g c ∗ done true 2 g c)

theorem turn2 : iprop(Q1 x c g ∗ E2 c g) ⊢ iprop(P2 x c g ∗ L1 c g) := by
  unfold Q1 E2 P2 L1
  iintro ⟨⟨HA, HR⟩, HE⟩
  isplitl [HA HE]
  · isplitl [HA] <;> iassumption
  iexact HR
theorem turn3 : iprop(Q2 x c g ∗ E3 c g) ⊢ iprop(P3 x c g ∗ L2 c g) := by
  unfold Q2 E3 P3 L2
  iintro ⟨⟨HA, HR⟩, HE⟩
  isplitl [HA HE]
  · isplitl [HA] <;> iassumption
  iexact HR
theorem turn4 : iprop(Q3 x c g ∗ E4 c g) ⊢ iprop(P4 x c g ∗ L3 c g) := by
  unfold Q3 E4 P4 L3
  iintro ⟨⟨HA, HC, HO, HR⟩, HE⟩
  isplitl [HO HE]
  · isplitl [HO] <;> iassumption
  isplitl [HA]; · iexact HA
  isplitl [HC] <;> iassumption

/-- What is left before the last phase besides what it takes. -/
def L6 : sProp 𝕄 := iprop((hold mA c (b2 (K1 c g) g) ∗ hold mA c (b2 (S1 c g) g)) ∗ hold mC1 c (b5 (K0 c g) g) ∗ hold mC2 c (b2 (K1 c g) g)
  ∗ hold mC3 c (b2 (K1 c g) g) ∗ own mO c (b2 (S1 c g) g) qL (Y x c) ∗ done true 0 g c ∗ done true 1 g c ∗ done true 2 g c ∗ done true 3 g c)

theorem turn6 : iprop(Q0 c g ∗ L1 c g ∗ L2 c g ∗ L3 c g ∗ Q4 x c g ∗ E6 c g) ⊢ iprop(P6 c g ∗ L6 x c g) := by
  unfold Q0 L1 L2 L3 Q4 E6 P6 L6
  iintro ⟨C0, ⟨HA1, H1, C1, D0⟩, ⟨H2, C2, D1⟩, ⟨HA2, H3, C3, D2⟩, ⟨HO, C4, D3⟩, A0, A1, A2, A3, A4⟩
  isplitl [C0 C1 C2 C3 C4 A0 A1 A2 A3 A4]
  · isplitl [A0 C0]
    · isplitl [A0] <;> iassumption
    isplitl [A1 C1]
    · isplitl [A1] <;> iassumption
    isplitl [A2 C2]
    · isplitl [A2] <;> iassumption
    isplitl [A3 C3]
    · isplitl [A3] <;> iassumption
    isplitl [A4] <;> iassumption
  isplitl [HA1 HA2]
  · isplitl [HA2] <;> iassumption
  isplitl [H1]; · iexact H1
  isplitl [H2]; · iexact H2
  isplitl [H3]; · iexact H3
  isplitl [HO]; · iexact HO
  isplitl [D0]; · iexact D0
  isplitl [D1]; · iexact D1
  isplitl [D2] <;> iassumption

/-- The unused counters at zero, and all of the group's counters. -/
def D7 : sProp 𝕄 := iprop(done false 5 g c ∗ done true 5 g c)
def dones (b : Bool) : sProp 𝕄 := bigSep Finset.univ fun t : Fin 6 => done b t g c
/-- The group's boxes of the six buffers at the end: the result's at the result. -/
def bufsEnd : sProp 𝕄 := iprop(hold mS c (gbox g) ∗ hold mA c (gbox g) ∗ hold mC1 c (gbox g) ∗ hold mC2 c (gbox g) ∗ hold mC3 c (gbox g)
  ∗ own mO c (gbox g) fullShare (Y x c))

theorem gather : iprop(Q5 x c g ∗ Q6 x c g ∗ L6 x c g ∗ spare c g ∗ D7 c g) ⊢ iprop(bufsEnd x c g ∗ dones c g false ∗ dones c g true) := by
  unfold Q5 Q6 L6 spare D7 bufsEnd dones sendPay
  rw [over_transfers, over_transfers]
  iintro ⟨⟨O0, D4⟩, ⟨⟨S0, S1, S2, O1, O2⟩, F0, F1, F2, F3, F4⟩, ⟨HA, H1, H2, H3, O3, D0, D1, D2, D3⟩, ⟨HA', H1', ⟨H2', H2''⟩, ⟨H3', H3''⟩⟩, F5, D5⟩
  isplitl [S0 S1 S2 O0 O1 O2 O3 HA HA' H1 H1' H2 H2' H2'' H3 H3' H3'']
  · isplitl [S0 S1 S2]
    · iapply (parts_hold mS c g)
      isplitl [S0]; · iexact S0
      isplitl [S2] <;> iassumption
    isplitl [HA HA']
    · iapply (halves_hold mA c g)
      isplitl [HA]; · iapply (quarters_hold mA c g); iexact HA
      iexact HA'
    isplitl [H1 H1']
    · iapply (halves_hold mC1 c g)
      isplitl [H1] <;> iassumption
    isplitl [H2 H2' H2'']
    · iapply (parts_hold mC2 c g)
      isplitl [H2']; · iexact H2'
      isplitl [H2] <;> iassumption
    isplitl [H3 H3' H3'']
    · iapply (parts_hold mC3 c g)
      isplitl [H3']; · iexact H3'
      isplitl [H3] <;> iassumption
    iapply (halves_own mO c g fullShare (Y x c))
    isplitl [O1 O2 O3]
    · iapply (own_whole mO c (b5 (K0 c g) g) (Y x c))
      isplitl [O1 O3]
      · iapply (quarters_own mO c g qL (Y x c))
        isplitl [O1] <;> iassumption
      iexact O2
    iexact O0
  isplitl [F0 F1 F2 F3 F4 F5]
  · isplitl [F0]; · iexact F0
    isplitl [F1]; · iexact F1
    isplitl [F2]; · iexact F2
    isplitl [F3]; · iexact F3
    isplitl [F4] <;> iassumption
  isplitl [D0]; · iexact D0
  isplitl [D1]; · iexact D1
  isplitl [D2]; · iexact D2
  isplitl [D3]; · iexact D3
  isplitl [D4] <;> iassumption

/-! ## Over all groups -/

/-- A conjunction over the groups. -/
abbrev all (Φ : Fin 16 → sProp 𝕄) : sProp 𝕄 := bigSep Finset.univ Φ

theorem both (A B : Fin 16 → sProp 𝕄) : iprop(all A ∗ all B) ⊢ all fun g => iprop(A g ∗ B g) := Entails.of_eq (bigSep_sep' _ A B).symm
theorem each_of (A B : Fin 16 → sProp 𝕄) : (all fun g => iprop(A g ∗ B g)) ⊢ iprop(all A ∗ all B) := Entails.of_eq (bigSep_sep' _ A B)
theorem trade {A B C D : Fin 16 → sProp 𝕄} (h : ∀ g, iprop(A g ∗ B g) ⊢ iprop(C g ∗ D g)) : iprop(all A ∗ all B) ⊢ iprop(all C ∗ all D) :=
  (both A B).trans ((bigSep_mono fun g _ => h g).trans (each_of C D))

theorem share_ctx {R : sProp 𝕄} [BI.Persistent R] {A B : Fin 16 → sProp 𝕄} (h : ∀ g, iprop(R ∗ A g) ⊢ B g) : iprop(R ∗ all A) ⊢ all B :=
  (sep_mono_left (BI.bigSep_of_persistent Finset.univ R)).trans ((Entails.of_eq (bigSep_sep' _ (fun _ => R) A).symm).trans (bigSep_mono fun g _ => h g))

/-- A counter never used is at zero. -/
theorem close_unused (b : Bool) : iprop(ctx x K ∗ place b 5 g c) ⊢ (|={Set.univ}=> done b 5 g c : sProp 𝕄) := by
  unfold ctx place done
  iintro ⟨⟨#HR, -⟩, Hat⟩
  ihave H1 := (records_at x K c (some (b, 5, g))) $$ HR
  icases H1 with ⟨#HI, -⟩
  iapply (Rounds.cell_close ER (Rd x) (Set.mem_univ (K (c, some (b, 5, g)))) (fun h => h) (R := 0) (fun r _ => duties_unused x c b g r))
  isplitr; · iexact HI
  iexact Hat

theorem close_all : iprop(ctx x K ∗ all (E7 c)) ⊢ (|={Set.univ}=> all (D7 c) : sProp 𝕄) :=
  (share_ctx (B := fun g => iprop(|={Set.univ}=> D7 c g)) fun g => by
    unfold E7 D7
    iintro ⟨#HC, H0, H1⟩
    imod (close_unused x K c g false) $$ [H0] with H0
    · isplitr; · iexact HC
      iexact H0
    imod (close_unused x K c g true) $$ [H1] with H1
    · isplitr; · iexact HC
      iexact H1
    imodintro
    isplitl [H0] <;> iassumption).trans (bigSep_fupd _ _)

/-- The transfers of the rounds `ts`, in the order they are made. -/
def rem (ts : List (Fin 6)) : List (Fin 6 × Fin 16) := ts.flatMap fun t => gs16.map fun g => (t, g)

theorem rem_cons (t : Fin 6) (ts : List (Fin 6)) : rem (t :: ts) = gs16.map (fun g => (t, g)) ++ rem ts := rfl
theorem le_rem {t : Fin 6} {ts : List (Fin 6)} (h : ∀ t' ∈ ts, t.val ≤ t'.val) (gs : List (Fin 16)) : ∀ p ∈ gs.map (fun g => (t, g)) ++ rem ts, t.val ≤ p.1.val := by
  intro p hp
  rcases List.mem_append.mp hp with hp | hp
  · obtain ⟨g, -, rfl⟩ := List.mem_map.mp hp; exact Nat.le_refl _
  · obtain ⟨t', ht', hp⟩ := List.mem_flatMap.mp hp
    obtain ⟨g, -, rfl⟩ := List.mem_map.mp hp; exact h t' ht'

/-- A phase that makes one transfer of each group. -/
theorem run_sends (b : Fin 16 → PK F → PK F) (X : sProp 𝕄) (P Q : Fin 16 → sProp 𝕄) (t : Fin 6) (ts : List (Fin 6)) (hts : ∀ t' ∈ ts, t.val ≤ t'.val) (Φ : PUnit → sProp 𝕄)
    (hb : ∀ g l k, (∀ p ∈ l, t.val ≤ p.1.val) → iprop(ctx x K ∗ X ∗ P g ∗ Ow c ((t, g) :: l)) ⊢ iprop((X ∗ Q g ∗ Ow c l -∗ wpD c k Φ) -∗ wpD c (b g k) Φ)) (k : PK F) :
    iprop(ctx x K ∗ X ∗ all P ∗ Ow c (rem (t :: ts))) ⊢ iprop((X ∗ all Q ∗ Ow c (rem ts) -∗ wpD c k Φ) -∗ wpD c (each b gs16 k) Φ) := by
  rw [rem_cons]
  unfold all
  rw [over_groups P, over_groups Q]
  exact each_ind x K c b X P Q (fun gs => gs.map (fun g => (t, g)) ++ rem ts) Φ (fun g gs k => hb g _ k (le_rem hts gs)) k gs16
/-- A phase that only waits. -/
theorem run_waits (b : Fin 16 → PK F → PK F) (X : sProp 𝕄) (P Q : Fin 16 → sProp 𝕄) (Φ : PUnit → sProp 𝕄)
    (hb : ∀ g k, iprop(ctx x K ∗ X ∗ P g ∗ Ow c []) ⊢ iprop((X ∗ Q g ∗ Ow c [] -∗ wpD c k Φ) -∗ wpD c (b g k) Φ)) (k : PK F) :
    iprop(ctx x K ∗ X ∗ all P ∗ Ow c []) ⊢ iprop((X ∗ all Q ∗ Ow c [] -∗ wpD c k Φ) -∗ wpD c (each b gs16 k) Φ) := by
  unfold all
  rw [over_groups P, over_groups Q]
  exact each_ind x K c b X P Q (fun _ => []) Φ (fun g gs k => hb g k) k gs16

/-! ## The barrier -/

/-- What a device owes at the start: every arrival and a unit at each partner's barrier. -/
def O₀ : CellTallies nD τ sig Unit :=
  owedL c (rem [0, 1, 2, 3, 4]) + tallyAt (bcell (peer 2 c)) () 1 + tallyAt (bcell (peer 1 c)) () 1 + tallyAt (bcell (peer 0 c)) () 1

/-- A signal to a partner hands over the parts its transfers write. -/
theorem wp_sig (j : Fin 3) (O : CellTallies nD τ sig Unit) (W : Waits sig Unit) (k : PUnit → PK F) (Φ : PUnit → sProp 𝕄) :
    iprop(ctx x K ∗ owes (c : Thread nD τ) (O + tallyAt (bcell (peer j c)) () 1) W ∗ dutyTok ER (bcell (peer j c)) 0 j ∗ barPay j (peer j c))
      ⊢ iprop((owes (c : Thread nD τ) O W -∗ wpD c (k ⟨⟩) Φ) -∗ wpD c (.op (.semSignal (peer j c, (.tc : Proc τ)) barS (1#32).toInt) k) Φ) := by
  unfold ctx
  iintro ⟨⟨#HR, -⟩, HO, HT, HP⟩ HK
  ihave H1 := (records_at x K (peer j c) none) $$ HR
  icases H1 with ⟨#HI, #Hr⟩
  iapply (Rounds.wp_signal 𝒱₀ ER (Rd x) (c : Thread nD τ) none (dst := (peer j c : Thread nD τ)) (κ := K (peer j c, none))
      (d := j) (by rw [duties_bar]; exact Finset.mem_univ _) ((amount_bar x (peer j c) j).trans (by decide)) () O rfl) $$ [HO HT HP]
  · isplitr; · iexact HI
    isplitl [HO]; · iexact HO
    isplitl [HT]; · iexact HT
    isplitl [HP]; · rw [payload_bar]; iexact HP
    iexact Hr
  iexact HK

/-- A device's payments at its partners' barriers, its place at its own and the credit to wait for three units. -/
def barKit : sProp 𝕄 := iprop((dutyTok ER (bcell (peer 0 c)) 0 (0 : Fin 3) ∗ dutyTok ER (bcell (peer 1 c)) 0 (1 : Fin 3) ∗ dutyTok ER (bcell (peer 2 c)) 0 (2 : Fin 3))
  ∗ atPos ER (bcell c) 0 (∅ : Finset (Fin 3)) 0 ∗ cred (tallyAt (bcell c) () 3))

theorem wp_meet (k : PK F) (Φ : PUnit → sProp 𝕄) :
    iprop(ctx x K ∗ barKit c ∗ (∃ W : Waits sig Unit, owes (c : Thread nD τ) (O₀ c) W) ∗ all fun g => lands g (fun _ => c))
      ⊢ iprop(((all fun g => lands g (fun t => pt t g c)) ∗ semVal (bcell c) 0 ∗ Ow c (rem [0, 1, 2, 3, 4]) -∗ wpD c k Φ)
        -∗ wpD c (.op (.semSignal (peer 0 c, (.tc : Proc τ)) barS (1#32).toInt) fun _ =>
          .op (.semSignal (peer 1 c, (.tc : Proc τ)) barS (1#32).toInt) fun _ =>
          .op (.semSignal (peer 2 c, (.tc : Proc τ)) barS (1#32).toInt) fun _ =>
          .op (.semWait barS (3#32).toInt) fun _ => k) Φ) := by
  unfold barKit O₀
  iintro ⟨#HC, ⟨⟨T0, T1, T2⟩, Hat, Hcr⟩, ⟨%W, HO⟩, HL⟩ HK
  ihave HL := (give c) $$ HL
  icases HL with ⟨B0, B1, B2⟩
  iapply (wp_sig x K c 0 _ W _ Φ) $$ [HO T0 B0]
  · isplitr; · iexact HC
    isplitl [HO]; · iexact HO
    isplitl [T0] <;> iassumption
  iintro HO
  iapply (wp_sig x K c 1 _ W _ Φ) $$ [HO T1 B1]
  · isplitr; · iexact HC
    isplitl [HO]; · iexact HO
    isplitl [T1] <;> iassumption
  iintro HO
  iapply (wp_sig x K c 2 _ W _ Φ) $$ [HO T2 B2]
  · isplitr; · iexact HC
    isplitl [HO]; · iexact HO
    isplitl [T2] <;> iassumption
  iintro HO
  unfold ctx
  icases HC with ⟨#HR, #Hlev⟩
  ihave H1 := (records_at x K c none) $$ HR
  icases H1 with ⟨#HI, -⟩
  iapply (Rounds.wp_wait_rest_token 𝒱₀ ER (Rd x) (c : Thread nD τ) none (κ := K (c, none))
      (wpE_semWait_eq 𝒱₀ (c : Thread nD τ) none Set.univ) (Set.mem_univ _) () (O := owedL c (rem [0, 1, 2, 3, 4])) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait_owed c (.reg barS) (rem [0, 1, 2, 3, 4]) 1 (Nat.le_refl _) (fun p _ => by omega))
      iexact Hlev
    iexact Hat
  iintro ⟨HO, Hat, -, Hpay⟩
  ihave Hp := (Entails.of_eq (rest_bar x c)) $$ Hpay
  ihave Hp := (take c) $$ Hp
  imod (Rounds.cell_close ER (Rd x) (Set.mem_univ (K (c, none))) (fun h => h) (R := 0 + 1) (duties_later x (bcell c))) $$ [Hat] with Hz
  · isplitr; · iexact HI
    iexact Hat
  iapply HK
  isplitl [Hp]; · iexact Hp
  isplitl [Hz]; · iexact Hz
  unfold Ow
  iexists _; iexact HO

/-! ## The whole run -/

/-- The phases, from the parts of its own and its partners' buffers to the result. -/
theorem wp_phases (Φ : PUnit → sProp 𝕄) :
    iprop(ctx x K ∗ inp x c ∗ all (mine c) ∗ (all fun g => lands g (fun t => pt t g c)) ∗ all (spare c) ∗ all (kit c) ∗ Ow c (rem [0, 1, 2, 3, 4]))
      ⊢ iprop((inp x c ∗ all (bufsEnd x c) ∗ (all fun g => dones c g false) ∗ (all fun g => dones c g true) ∗ Ow c [] -∗ Φ ⟨⟩)
        -∗ wpD c (each (ph0 c) gs16 <| each (ph1 c) gs16 <| each (ph2 c) gs16 <| each (ph3 c) gs16 <|
          each (ph4 c) gs16 <| each (ph5 c) gs16 <| each (ph6 c) gs16 <| .ret ⟨⟩) Φ) := by
  iintro ⟨#HC, HX, HM, HL, Hsp, Hkit, HO⟩ HK
  ihave HS := (show iprop(all (mine (F := F) c) ∗ (all fun g => lands g (fun t => pt t g c)) ∗ all (kit c))
      ⊢ iprop(all (P0 c) ∗ all (P1 c) ∗ all (E2 c) ∗ all (E3 c) ∗ all (E4 c) ∗ all (P5 c) ∗ all (E6 c) ∗ all (E7 c)) from by
    simp only [← bigSep_sep']; exact bigSep_mono fun g _ => setup c g) $$ [HM HL Hkit]
  · isplitl [HM]; · iexact HM
    isplitl [HL] <;> iassumption
  icases HS with ⟨P0, P1, E2, E3, E4, P5, E6, E7⟩
  iapply (run_sends x K c (ph0 c) (inp x c) (Halving.P0 c) (Q0 c) 0 [1, 2, 3, 4] (by decide) Φ (fun g l k _ => wp_ph0 x K c g l k Φ) _) $$ [HX P0 HO]
  · isplitr; · iexact HC
    isplitl [HX]; · iexact HX
    isplitl [P0] <;> iassumption
  iintro ⟨HX, Q0, HO⟩
  iapply (run_sends x K c (ph1 c) (inp x c) (Halving.P1 c) (Q1 x c) 1 [2, 3, 4] (by decide) Φ (fun g l k hl => wp_ph1 x K c g l k Φ hl) _) $$ [HX P1 HO]
  · isplitr; · iexact HC
    isplitl [HX]; · iexact HX
    isplitl [P1] <;> iassumption
  iintro ⟨HX, Q1, HO⟩
  ihave H := (trade (turn2 x c)) $$ [Q1 E2]
  · isplitl [Q1] <;> iassumption
  icases H with ⟨P2, L1⟩
  iapply (run_sends x K c (ph2 c) iprop(emp) (Halving.P2 x c) (Q2 x c) 2 [3, 4] (by decide) Φ (fun g l k hl => wp_ph2 x K c g l k Φ hl) _) $$ [P2 HO]
  · isplitr; · iexact HC
    isplitr; · iempintro
    isplitl [P2] <;> iassumption
  iintro ⟨-, Q2, HO⟩
  ihave H := (trade (turn3 x c)) $$ [Q2 E3]
  · isplitl [Q2] <;> iassumption
  icases H with ⟨P3, L2⟩
  iapply (run_sends x K c (ph3 c) iprop(emp) (Halving.P3 x c) (Q3 x c) 3 [4] (by decide) Φ (fun g l k hl => wp_ph3 x K c g l k Φ hl) _) $$ [P3 HO]
  · isplitr; · iexact HC
    isplitr; · iempintro
    isplitl [P3] <;> iassumption
  iintro ⟨-, Q3, HO⟩
  ihave H := (trade (turn4 x c)) $$ [Q3 E4]
  · isplitl [Q3] <;> iassumption
  icases H with ⟨P4, L3⟩
  iapply (run_sends x K c (ph4 c) iprop(emp) (Halving.P4 x c) (Q4 x c) 4 [] (by decide) Φ (fun g l k hl => wp_ph4 x K c g l k Φ hl) _) $$ [P4 HO]
  · isplitr; · iexact HC
    isplitr; · iempintro
    isplitl [P4] <;> iassumption
  iintro ⟨-, Q4, HO⟩
  ihave HO := (show (Ow c (rem []) : sProp 𝕄) ⊢ Ow c [] from BI.Entails.refl _) $$ HO
  iapply (run_waits x K c (ph5 c) iprop(emp) (Halving.P5 c) (Q5 x c) Φ (fun g k => wp_ph5 x K c g k Φ) _) $$ [P5 HO]
  · isplitr; · iexact HC
    isplitr; · iempintro
    isplitl [P5] <;> iassumption
  iintro ⟨-, Q5, HO⟩
  ihave HS := (show iprop(all (Halving.Q0 (F := F) c) ∗ all (Halving.L1 c) ∗ all (Halving.L2 c) ∗ all (Halving.L3 c) ∗ all (Halving.Q4 x c) ∗ all (Halving.E6 c))
      ⊢ iprop(all (P6 c) ∗ all (L6 x c)) from by
    simp only [← bigSep_sep']; exact bigSep_mono fun g _ => turn6 x c g) $$ [Q0 L1 L2 L3 Q4 E6]
  · isplitl [Q0]; · iexact Q0
    isplitl [L1]; · iexact L1
    isplitl [L2]; · iexact L2
    isplitl [L3]; · iexact L3
    isplitl [Q4] <;> iassumption
  icases HS with ⟨P6, L6⟩
  iapply (run_waits x K c (ph6 c) iprop(emp) (Halving.P6 c) (Q6 x c) Φ (fun g k => wp_ph6 x K c g k Φ) _) $$ [P6 HO]
  · isplitr; · iexact HC
    isplitr; · iempintro
    isplitl [P6] <;> iassumption
  iintro ⟨-, Q6, HO⟩
  imod (close_all x K c) $$ [E7] with D7
  · isplitr; · iexact HC
    iexact E7
  ihave HS := (show iprop(all (Halving.Q5 x c) ∗ all (Halving.Q6 x c) ∗ all (Halving.L6 x c) ∗ all (spare c) ∗ all (Halving.D7 c))
      ⊢ iprop(all (bufsEnd x c) ∗ (all fun g => dones c g false) ∗ (all fun g => dones c g true)) from by
    simp only [← bigSep_sep']; exact bigSep_mono fun g _ => gather x c g) $$ [Q5 Q6 L6 Hsp D7]
  · isplitl [Q5]; · iexact Q5
    isplitl [Q6]; · iexact Q6
    isplitl [L6]; · iexact L6
    isplitl [Hsp] <;> iassumption
  icases HS with ⟨HB, HF, HT⟩
  rw [wp_ret]; imodintro
  iapply HK
  isplitl [HX]; · iexact HX
  isplitl [HB]; · iexact HB
  isplitl [HF]; · iexact HF
  isplitl [HT] <;> iassumption

/-- What a device starts from, and what it ends with. -/
def bodyIn : sProp 𝕄 := iprop(ctx x K ∗ barKit c ∗ all (kit c) ∗ (∃ W : Waits sig Unit, owes (c : Thread nD τ) (O₀ c) W) ∗ inp x c
  ∗ hold mS c Finset.univ ∗ hold mA c Finset.univ ∗ hold mC1 c Finset.univ ∗ hold mC2 c Finset.univ ∗ hold mC3 c Finset.univ ∗ hold mO c Finset.univ)
def bodyOut : sProp 𝕄 := iprop(((hold mS c Finset.univ ∗ hold mA c Finset.univ ∗ hold mC1 c Finset.univ ∗ hold mC2 c Finset.univ ∗ hold mC3 c Finset.univ)
    ∗ ((all fun g => dones c g false) ∗ (all fun g => dones c g true)) ∗ semVal (bcell c) 0)
  ∗ Ow c [] ∗ inp x c ∗ own mO c Finset.univ fullShare (Y x c))

/-- The printed kernel on a device, from its start to the result. -/
theorem wp_body (Φ : PUnit → sProp 𝕄) : bodyIn x K c ⊢ iprop((bodyOut x c -∗ Φ ⟨⟩) -∗ wpD c (bodyP F) Φ) := by
  unfold bodyIn bodyOut
  rw [body_canon]
  simp only [wp_deviceId]
  unfold canon
  iintro ⟨#HC, Hbar, Hkit, HO, HX, HS, HA, H1, H2, H3, HY⟩ HK
  ihave HS := (hold_groups mS c) $$ HS
  ihave HA := (hold_groups mA c) $$ HA
  ihave H1 := (hold_groups mC1 c) $$ H1
  ihave H2 := (hold_groups mC2 c) $$ H2
  ihave H3 := (hold_groups mC3 c) $$ H3
  ihave HY := (hold_groups mO c) $$ HY
  ihave HB := (show iprop((all fun g => hold (F := F) mS c (gbox g)) ∗ (all fun g => hold mA c (gbox g)) ∗ (all fun g => hold mC1 c (gbox g)) ∗ (all fun g => hold mC2 c (gbox g))
        ∗ (all fun g => hold mC3 c (gbox g)) ∗ (all fun g => hold mO c (gbox g)))
      ⊢ iprop(all (mine c) ∗ (all fun g => lands g (fun _ => c)) ∗ all (spare c)) from by
    simp only [← bigSep_sep']; exact bigSep_mono fun g _ => deal c g) $$ [HS HA H1 H2 H3 HY]
  · isplitl [HS]; · iexact HS
    isplitl [HA]; · iexact HA
    isplitl [H1]; · iexact H1
    isplitl [H2]; · iexact H2
    isplitl [H3] <;> iassumption
  icases HB with ⟨HM, HL, Hsp⟩
  iapply (wp_meet x K c _ Φ) $$ [Hbar HO HL]
  · isplitr; · iexact HC
    isplitl [Hbar]; · iexact Hbar
    isplitl [HO] <;> iassumption
  iintro ⟨HL, Hz, HO⟩
  iapply (wp_phases x K c Φ) $$ [HX HM HL Hsp Hkit HO]
  · isplitr; · iexact HC
    isplitl [HX]; · iexact HX
    isplitl [HM]; · iexact HM
    isplitl [HL]; · iexact HL
    isplitl [Hsp]; · iexact Hsp
    isplitl [Hkit] <;> iassumption
  iintro ⟨HX, HB, HF, HT, HO⟩
  ihave HB := (show all (bufsEnd x c) ⊢ iprop((all fun g => hold (F := F) mS c (gbox g)) ∗ (all fun g => hold mA c (gbox g)) ∗ (all fun g => hold mC1 c (gbox g))
        ∗ (all fun g => hold mC2 c (gbox g)) ∗ (all fun g => hold mC3 c (gbox g)) ∗ (all fun g => own mO c (gbox g) fullShare (Y x c))) from by
    simp only [← bigSep_sep']; exact BI.Entails.refl _) $$ HB
  icases HB with ⟨HS, HA, H1, H2, H3, HY⟩
  iapply HK
  isplitl [HS HA H1 H2 H3 HF HT Hz]
  · isplitl [HS HA H1 H2 H3]
    · isplitl [HS]; · iapply (hold_all mS c); iexact HS
      isplitl [HA]; · iapply (hold_all mA c); iexact HA
      isplitl [H1]; · iapply (hold_all mC1 c); iexact H1
      isplitl [H2]; · iapply (hold_all mC2 c); iexact H2
      iapply (hold_all mC3 c); iexact H3
    isplitr [Hz]
    · isplitl [HF] <;> iassumption
    iexact Hz
  isplitl [HO]; · iexact HO
  isplitl [HX]; · iexact HX
  iapply (own_all mO c fullShare (Y x c)); iexact HY

end Cert.Halving

end
-- ==== Proof.Deal.lean ====
/-
  What the launch deals to the devices.

  At the launch every counter is at zero, nothing has been paid and nobody has waited. Here the protocol's ghost
  state is made from that: every counter of every device is put under its invariant, and each device is dealt its
  places at its own counters, the tokens of the payments it will make (at its partners' counters), and the credit
  for the waits it will do.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x1024.Idx → Elt F .bf16)

/-! ## Conjunctions over counters -/

/-- The number of a transfer's counter. -/
abbrev Tid : Type := Bool × Fin 6 × Fin 16

/-- Over all counters of transfers: the departures' and the arrivals', each group by group. -/
theorem over_counters (Φ : Tid → sProp 𝕄) : bigSep Finset.univ Φ
    = iprop((all fun g => bigSep Finset.univ fun t : Fin 6 => Φ (false, t, g)) ∗ (all fun g => bigSep Finset.univ fun t : Fin 6 => Φ (true, t, g))) := by
  rw [bigSep_univ_prod, bigSep_univ_eq_bigSepL [false, true] (by decide) (by decide)]
  show iprop((bigSep Finset.univ fun p : Fin 6 × Fin 16 => Φ (false, p)) ∗ (bigSep Finset.univ fun p : Fin 6 × Fin 16 => Φ (true, p))) = _
  rw [bigSep_univ_prod, bigSep_univ_prod, Pipeline.bigSep_univ_comm, Pipeline.bigSep_univ_comm fun (t : Fin 6) (g : Fin 16) => Φ (true, t, g)]

/-- Over all cells of a device: its barrier's, and the transfers'. -/
theorem over_cells (Φ : Cid → sProp 𝕄) : bigSep Finset.univ Φ = iprop(Φ none ∗ bigSep Finset.univ fun p : Tid => Φ (some p)) := by
  rw [bigSep_univ_equiv (Equiv.optionEquivSumPUnit.{0} Tid).symm Φ, bigSep_univ_sum, bigSep_univ_eq_bigSepL [PUnit.unit] (by decide) (by decide)]
  exact BI.Entails.antisymm (show iprop((bigSep Finset.univ fun p : Tid => Φ (some p)) ∗ Φ none) ⊢ _ from Laws.sep_comm.1)
    (show _ ⊢ iprop((bigSep Finset.univ fun p : Tid => Φ (some p)) ∗ Φ none) from Laws.sep_comm.1)

/-- A conjunction over all devices may be dealt to their partners instead. -/
theorem around {I : Type} [Fintype I] (f : I → Dev nD → Dev nD) (hf : ∀ i c, f i (f i c) = c) (Φ : I → Dev nD → sProp 𝕄) :
    (bigSep Finset.univ fun c : Dev nD => bigSep Finset.univ fun i => Φ i c) = bigSep Finset.univ fun c : Dev nD => bigSep Finset.univ fun i => Φ i (f i c) := by
  rw [Pipeline.bigSep_univ_comm, Pipeline.bigSep_univ_comm fun (c : Dev nD) i => Φ i (f i c)]
  exact bigSep_congr fun i _ => bigSep_univ_equiv (Function.Involutive.toPerm (f i) (hf i)) (Φ i)

/-! ## Cells and tokens -/

/-- The kernel's own semaphores. -/
abbrev osem (p : Tid) : SemLoc sig := .dma (dsm p.1 p.2.1 p.2.2)

theorem dsm_inj {p q : Tid} (h : dsm p.1 p.2.1 p.2.2 = dsm q.1 q.2.1 q.2.2) : p = q := by
  have e := congrArg dec h
  rw [dec_dsm, dec_dsm] at e
  exact Option.some.inj e

theorem ownSemFacts : Pipeline.OwnSemFacts cfg0.spec osem where
  isScoped := by decide +kernel
  inj p q h := dsm_inj (SemLoc.dma.inj h)
  disj := by decide +kernel

theorem csem_inj : Function.Injective csem := by
  rintro (_ | p) (_ | q) h
  · rfl
  · cases h
  · cases h
  · exact congrArg some (dsm_inj (SemLoc.dma.inj h))

theorem kcell_inj : Function.Injective (kcell : Dev nD × Cid → GSem nD τ sig) := by
  rintro ⟨c, k⟩ ⟨c', k'⟩ h
  exact Prod.ext (congrArg (fun γ : GSem nD τ sig => γ.1.1) h) (csem_inj (congrArg Prod.snd h))

/-- Every cell of every device. -/
def cells : Finset (GSem nD τ sig) := Finset.univ.map ⟨kcell, kcell_inj⟩

/-- The payments made at a device's counters: three at its barrier, one at each of the others. -/
abbrev Pid : Type := Fin 3 ⊕ Tid
abbrev payCell (k : Pid) : Cid := match k with | .inl _ => none | .inr p => some p
abbrev payDuty (k : Pid) : Fin 3 := match k with | .inl j => j | .inr _ => 0
abbrev tokOf (ck : Dev nD × Pid) : GSem nD τ sig × ℕ × Fin 3 := (kcell (ck.1, payCell ck.2), 0, payDuty ck.2)

theorem tokOf_inj : Function.Injective tokOf := by
  rintro ⟨c, k⟩ ⟨c', k'⟩ h
  have h1 := kcell_inj (congrArg Prod.fst h)
  have h2 : payDuty k = payDuty k' := congrArg (fun z : GSem nD τ sig × ℕ × Fin 3 => z.2.2) h
  have hc : c = c' := congrArg Prod.fst h1
  have hk : payCell k = payCell k' := congrArg Prod.snd h1
  refine Prod.ext hc ?_
  cases k <;> cases k'
  · exact congrArg Sum.inl h2
  · cases hk
  · cases hk
  · exact congrArg Sum.inr (Option.some.inj hk)

def tokens : Finset (GSem nD τ sig × ℕ × Fin 3) := Finset.univ.map ⟨tokOf, tokOf_inj⟩

/-- The launch's ghost state: the pipeline's part and the protocol's. -/
def u₀ : UU := (initOf (Pipeline.cells cfgs cellOf_inj) (Pipeline.launchToks cfgs cellOf_inj), initOf cells tokens)

/-! ## Funding -/

variable (c : Dev nD)

/-- The tokens of the payments made at device `c`'s counters. -/
def mint : sProp 𝕄 := bigSep Finset.univ fun k : Pid => dutyTok ER (kcell (c, payCell k)) 0 (payDuty k)
/-- The tokens of the payments device `c` makes: at its partners' barriers, and for its transfers. -/
def pays : sProp 𝕄 := iprop((bigSep Finset.univ fun j : Fin 3 => dutyTok ER (bcell (peer j c)) 0 j)
  ∗ all fun g => bigSep Finset.univ fun t : Fin 6 => toks t g c)
/-- Its places at its own counters. -/
def places : sProp 𝕄 := bigSep Finset.univ fun k : Cid => atPos ER (kcell (c, k)) 0 (∅ : Finset (Fin 3)) 0
def marks : sProp 𝕄 := bigSep Finset.univ fun k : Cid => reached ER (kcell (c, k)) 0

/-- What the launch element deals device `c`. -/
def G : sProp 𝕄 := iprop((bigSep Finset.univ fun k : Cid => roundState ER (Rd x) (kcell (c, k)) 0) ∗ places c ∗ marks c ∗ mint c)
/-- What the devices together make of it: shared records, and each its own part. -/
def G' : sProp 𝕄 := iprop(∃ K : Dev nD × Cid → ℕ, records x K ∗ places c ∗ pays c)

theorem fund_cells : BI.own (ER (initOf cells tokens)) ⊢ (|==> bigSep Finset.univ (G x) : sProp 𝕄) := by
  have hX (Φ : GSem nD τ sig → sProp 𝕄) : bigSep cells Φ = bigSep Finset.univ fun c : Dev nD => bigSep Finset.univ fun k : Cid => Φ (kcell (c, k)) := by
    unfold cells; rw [bigSep_map, bigSep_univ_prod]; rfl
  have hT : bigSep tokens (fun z => (dutyTok ER z.1 z.2.1 z.2.2 : sProp 𝕄)) = bigSep Finset.univ fun c : Dev nD => mint c := by
    unfold tokens mint; rw [bigSep_map, bigSep_univ_prod]; rfl
  iintro HX
  imod (Rounds.fund ER (Rd x) cells tokens) $$ HX with ⟨Hst, Hr, Hat, Htok⟩
  imodintro
  ihave Hst := (Entails.of_eq (hX fun γ => roundState ER (Rd x) γ 0)) $$ Hst
  ihave Hat := (Entails.of_eq (hX fun γ => atPos ER γ 0 ∅ 0)) $$ Hat
  ihave Hr := (Entails.of_eq (hX fun γ => reached ER γ 0)) $$ Hr
  ihave Htok := (Entails.of_eq hT) $$ Htok
  unfold G places marks
  rw [bigSep_sep', bigSep_sep', bigSep_sep']
  isplitl [Hst]; · iexact Hst
  isplitl [Hat]; · iexact Hat
  isplitl [Hr]; · iexact Hr
  iexact Htok

/-! ## Invariants -/

theorem ownSems0_eq : (Pipeline.ownSems0 (Ix := Unit) (Name := ℕ) (U := UU) (Lvl := ℕ) (Val := Elt F) (τ := τ) osem c : sProp 𝕄)
    = iprop((all fun g => dones c g false) ∗ (all fun g => dones c g true)) := by
  unfold Pipeline.ownSems0; rw [over_counters]; rfl

theorem unscopedSems0_eq : (unscopedSems0 c : sProp 𝕄) = semVal (bcell c) 0 := by
  unfold unscopedSems0; rw [bigSep_eq_bigSepL_of_eq [SemLoc.reg barS] (by decide) (by decide)]; rfl

/-- A device's counters, all at zero. -/
theorem sems0_eq : iprop(Pipeline.ownSems0 (Ix := Unit) (Name := ℕ) (U := UU) (Lvl := ℕ) (Val := Elt F) (τ := τ) osem c ∗ unscopedSems0 c)
    ⊢ (bigSep Finset.univ fun k : Cid => semVal (kcell (c, k)) 0 : sProp 𝕄) := by
  rw [over_cells, unscopedSems0_eq]
  unfold Pipeline.ownSems0
  iintro ⟨HS, HB⟩
  isplitl [HB]; · iexact HB
  iexact HS

/-- Each of a device's counters goes under its invariant. -/
theorem core_alloc : iprop(Pipeline.ownSems0 (Ix := Unit) (Name := ℕ) (U := UU) (Lvl := ℕ) (Val := Elt F) (τ := τ) osem c ∗ unscopedSems0 c ∗ G x c)
    ⊢ |={Set.univ}=> iprop((bigSep Finset.univ fun k : Cid => iprop(∃ κ : ℕ, cellInv ER (Rd x) κ (kcell (c, k)))) ∗ places c ∗ marks c ∗ mint c) := by
  unfold G
  iintro ⟨Hos, Hus, Hst, HR⟩
  ihave Hv := (sems0_eq (F := F) c) $$ [Hos Hus]
  · isplitl [Hos] <;> iassumption
  imod (show iprop((bigSep Finset.univ fun k : Cid => semVal (kcell (c, k)) 0) ∗ bigSep Finset.univ fun k : Cid => roundState ER (Rd x) (kcell (c, k)) 0)
      ⊢ (|={Set.univ}=> bigSep Finset.univ fun k : Cid => iprop(∃ κ : ℕ, cellInv ER (Rd x) κ (kcell (c, k))) : sProp 𝕄) from by
        rw [← bigSep_sep']
        exact (bigSep_mono fun k _ => (Rounds.body_intro ER (Rd x) (kcell (c, k))).trans inv_alloc).trans (bigSep_fupd _ _)) $$ [Hv Hst] with Hinv
  · isplitl [Hv] <;> iassumption
  imodintro
  isplitl [Hinv]; · iexact Hinv
  iexact HR

/-- The tokens made at the counters are dealt to those who pay there. -/
theorem tokens_around : (bigSep Finset.univ fun c : Dev nD => (mint c : sProp 𝕄)) ⊢ bigSep Finset.univ fun c : Dev nD => pays c := by
  have hm (c : Dev nD) : (mint c : sProp 𝕄) = iprop((bigSep Finset.univ fun j : Fin 3 => dutyTok ER (bcell c) 0 j)
      ∗ (bigSep Finset.univ fun p : Fin 16 × Fin 6 => dutyTok ER (dcell false p.2 p.1 c) 0 (0 : Fin 3))
      ∗ (bigSep Finset.univ fun p : Fin 16 × Fin 6 => dutyTok ER (dcell true p.2 p.1 c) 0 (0 : Fin 3))) := by
    unfold mint; rw [bigSep_univ_sum, over_counters, bigSep_univ_prod, bigSep_univ_prod]; rfl
  have hp (c : Dev nD) : (pays c : sProp 𝕄) = iprop((bigSep Finset.univ fun j : Fin 3 => dutyTok ER (bcell (peer j c)) 0 j)
      ∗ (bigSep Finset.univ fun p : Fin 16 × Fin 6 => dutyTok ER (dcell false p.2 p.1 c) 0 (0 : Fin 3))
      ∗ (bigSep Finset.univ fun p : Fin 16 × Fin 6 => dutyTok ER (dcell true p.2 p.1 (pt p.2 p.1 c)) 0 (0 : Fin 3))) := by
    unfold pays toks
    rw [← bigSep_sep', bigSep_univ_prod]
  rw [bigSep_congr fun c _ => hm c, bigSep_congr fun c _ => hp c, bigSep_sep', bigSep_sep', bigSep_sep', bigSep_sep',
    around peer peer_peer fun j c => (dutyTok ER (bcell c) 0 j : sProp 𝕄),
    around (fun p : Fin 16 × Fin 6 => pt p.2 p.1) (fun p c => pt_pt p.2 p.1 c) fun p c => (dutyTok ER (dcell true p.2 p.1 c) 0 (0 : Fin 3) : sProp 𝕄)]

/-- The invariants and the marks of all cells are the records. -/
theorem records_intro (K : Dev nD × Cid → ℕ) :
    iprop((bigSep Finset.univ fun ck : Dev nD × Cid => cellInv ER (Rd x) (K ck) (kcell ck)) ∗ bigSep Finset.univ fun c : Dev nD => marks c) ⊢ (records x K : sProp 𝕄) := by
  have h : (bigSep Finset.univ fun c : Dev nD => (marks c : sProp 𝕄)) = bigSep Finset.univ fun ck : Dev nD × Cid => reached ER (kcell ck) 0 := by
    unfold marks; rw [bigSep_univ_prod]
  rw [h, ← bigSep_sep']
  exact Entails.of_eq (by unfold records; rfl)

/-- The devices together: the invariants are shared, the rest is dealt. -/
theorem regroup : (bigSep Finset.univ fun c : Dev nD => iprop((bigSep Finset.univ fun k : Cid => iprop(∃ κ : ℕ, cellInv ER (Rd x) κ (kcell (c, k)))) ∗ places c ∗ marks c ∗ mint c) : sProp 𝕄)
    ⊢ bigSep Finset.univ (G' x) := by
  rw [bigSep_sep', bigSep_sep', bigSep_sep', ← bigSep_univ_prod fun ck : Dev nD × Cid => iprop(∃ κ : ℕ, cellInv ER (Rd x) κ (kcell ck))]
  iintro ⟨HI, Hat, HR, Htok⟩
  ihave HK := (BI.bigSep_exists_pi Finset.univ fun (ck : Dev nD × Cid) (κ : ℕ) => (cellInv ER (Rd x) κ (kcell ck) : sProp 𝕄)) $$ HI
  icases HK with ⟨%K, HI⟩
  ihave HR := (records_intro x K) $$ [HI HR]
  · isplitl [HI] <;> iassumption
  ihave HR := (BI.bigSep_of_persistent (Finset.univ : Finset (Dev nD)) (records x K)) $$ HR
  ihave Htok := (tokens_around (F := F)) $$ Htok
  iapply (show iprop((bigSep Finset.univ fun _ : Dev nD => records x K) ∗ (bigSep Finset.univ fun c : Dev nD => places c) ∗ bigSep Finset.univ fun c : Dev nD => pays c)
      ⊢ (bigSep Finset.univ (G' x) : sProp 𝕄) from by
    rw [← bigSep_sep', ← bigSep_sep']
    refine bigSep_mono fun c _ => ?_
    show iprop(records x K ∗ places c ∗ pays c) ⊢ G' x c
    unfold G'
    iintro H
    iexists K; iexact H)
  isplitl [HR]; · iexact HR
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => core_alloc x c).trans (bigSep_fupd _ _)).trans (BI.fupd_mono (regroup x))

/-! ## Credit -/

/-- What the devices owe for the transfers `l` is the credit for device `c`'s waits at their arrivals. -/
theorem creds_owed (l : List (Fin 6 × Fin 16)) : (Pipeline.launchCred (fun d => owedL d l) c : sProp 𝕄) ⊢ bigSepL l fun p => cr true p.1 p.2 c := by
  induction l with
  | nil => exact Entails.of_eq (Pipeline.launchCred_zero c)
  | cons p l ih =>
    rw [show (fun d => owedL d (p :: l)) = fun d => owedL d l + tal d p from rfl, Pipeline.launchCred_add, bigSepL_cons']
    exact (BIClass.sep_mono ih (Pipeline.launchCred_tallyAt (.dma (dsm true p.1 p.2)) (pt p.1 p.2) (pt p.1 p.2) (pt_pt p.1 p.2) (pt_pt p.1 p.2) () (Nt p.1) c)).trans Laws.sep_comm.1

theorem creds_bar (j : Fin 3) : (Pipeline.launchCred (fun d => tallyAt (bcell (peer j d)) () 1) c : sProp 𝕄) ⊢ cred (tallyAt (bcell c) () 1) :=
  Pipeline.launchCred_tallyAt (.reg barS) (peer j) (peer j) (peer_peer j) (peer_peer j) () 1 c

theorem rem_cred (t : Fin 6) (ts : List (Fin 6)) : (bigSepL (rem (t :: ts)) fun p => cr true p.1 p.2 c : sProp 𝕄)
    = iprop((all fun g => cr true t g c) ∗ bigSepL (rem ts) fun p => cr true p.1 p.2 c) := by
  unfold all; rw [rem_cons, bigSepL_append, bigSepL_map, over_groups]

/-- The credit for device `c`'s waits at its arrivals. -/
def crs (g : Fin 16) : sProp 𝕄 := iprop(cr true 0 g c ∗ cr true 1 g c ∗ cr true 2 g c ∗ cr true 3 g c ∗ cr true 4 g c)

theorem creds_rem : (bigSepL (rem [0, 1, 2, 3, 4]) fun p => cr true p.1 p.2 c : sProp 𝕄)
    = iprop((all fun g => cr true 0 g c) ∗ (all fun g => cr true 1 g c) ∗ (all fun g => cr true 2 g c) ∗ (all fun g => cr true 3 g c)
      ∗ (all fun g => cr true 4 g c) ∗ bigSepL (rem []) fun p => cr true p.1 p.2 c) := by
  rw [rem_cred, rem_cred, rem_cred, rem_cred, rem_cred]

theorem creds : (Pipeline.launchCred O₀ c : sProp 𝕄) ⊢ iprop(cred (tallyAt (bcell c) () 3) ∗ all (crs c)) := by
  rw [show (O₀ : Dev nD → CellTallies nD τ sig Unit) = fun d => (fun d => (fun d => owedL d (rem [0, 1, 2, 3, 4]) + tallyAt (bcell (peer 2 d)) () 1) d
      + tallyAt (bcell (peer 1 d)) () 1) d + tallyAt (bcell (peer 0 d)) () 1 from rfl,
    Pipeline.launchCred_add, Pipeline.launchCred_add, Pipeline.launchCred_add]
  iintro ⟨⟨⟨HL, H2⟩, H1⟩, H0⟩
  ihave H0 := (creds_bar c 0) $$ H0
  ihave H1 := (creds_bar c 1) $$ H1
  ihave H2 := (creds_bar c 2) $$ H2
  ihave HL := (creds_owed c _) $$ HL
  isplitl [H0 H1 H2]
  · rw [show (tallyAt (bcell c) () 3 : CellTallies nD τ sig Unit) = tallyAt (bcell c) () 1 + (tallyAt (bcell c) () 1 + tallyAt (bcell c) () 1) from by
      rw [tallyAt_add, tallyAt_add]]
    iapply (cred_add _ _).2
    isplitl [H0]; · iexact H0
    iapply (cred_add _ _).2
    isplitl [H1] <;> iassumption
  ihave HL := (Entails.of_eq (creds_rem c)) $$ HL
  icases HL with ⟨H0, H1, H2, H3, H4, -⟩
  unfold crs all
  iapply (Entails.of_eq (bigSep_sep' _ _ _).symm)
  isplitl [H0]; · iexact H0
  iapply (Entails.of_eq (bigSep_sep' _ _ _).symm)
  isplitl [H1]; · iexact H1
  iapply (Entails.of_eq (bigSep_sep' _ _ _).symm)
  isplitl [H2]; · iexact H2
  iapply (Entails.of_eq (bigSep_sep' _ _ _).symm)
  isplitl [H3] <;> iassumption

/-! ## The body's kits -/

theorem kit_intro (g : Fin 16) : iprop((bigSep Finset.univ fun t : Fin 6 => toks t g c) ∗ (bigSep Finset.univ fun t : Fin 6 => place false t g c)
    ∗ (bigSep Finset.univ fun t : Fin 6 => place true t g c) ∗ crs c g) ⊢ (kit c g : sProp 𝕄) := by
  rw [over_transfers, over_transfers, over_transfers]
  unfold crs kit wtok
  iintro ⟨⟨T0, T1, T2, T3, T4, -⟩, ⟨A0, A1, A2, A3, A4, A5⟩, ⟨B0, B1, B2, B3, B4, B5⟩, C0, C1, C2, C3, C4⟩
  isplitl [T0 T1 T2 T3 T4]
  · isplitl [T0]; · iexact T0
    isplitl [T1]; · iexact T1
    isplitl [T2]; · iexact T2
    isplitl [T3] <;> iassumption
  isplitl [B0 B1 B2 B3 B4 C0 C1 C2 C3 C4]
  · isplitl [B0 C0]
    · isplitl [B0] <;> iassumption
    isplitl [B1 C1]
    · isplitl [B1] <;> iassumption
    isplitl [B2 C2]
    · isplitl [B2] <;> iassumption
    isplitl [B3 C3]
    · isplitl [B3] <;> iassumption
    isplitl [B4] <;> iassumption
  isplitl [A0 A1 A2 A3 A4]
  · isplitl [A0]; · iexact A0
    isplitl [A1]; · iexact A1
    isplitl [A2]; · iexact A2
    isplitl [A3] <;> iassumption
  isplitl [A5] <;> iassumption

/-- A device's places, tokens and credit are what its body starts from. -/
theorem kits_intro : iprop(places c ∗ pays c ∗ cred (tallyAt (bcell c) () 3) ∗ all (crs c)) ⊢ (iprop(barKit c ∗ all (kit c)) : sProp 𝕄) := by
  unfold places pays barKit
  rw [over_cells, over_counters, over_masks]
  iintro ⟨⟨HB, HF, HT⟩, ⟨Hbt, Htk⟩, Hcr, HC⟩
  isplitl [HB Hbt Hcr]
  · isplitl [Hbt]; · iexact Hbt
    isplitl [HB]; · iexact HB
    iexact Hcr
  iapply (show _ ⊢ _ from bigSep_mono fun g _ => kit_intro c g)
  iapply (Entails.of_eq (bigSep_sep' _ _ _).symm)
  isplitl [Htk]; · iexact Htk
  iapply (Entails.of_eq (bigSep_sep' _ _ _).symm)
  isplitl [HF]; · iexact HF
  iapply (Entails.of_eq (bigSep_sep' _ _ _).symm)
  isplitl [HT]; · iexact HT
  iexact HC

end Cert.Halving

end
-- ==== Proof.Run.lean ====
/-
  The run of the whole mesh: the launch, the eight devices' bodies, and what the final memory holds.
-/
module

public import proofs.«01_k».proof.Proof.Deal
public import Idealize.ShloMosaic.Lib.Pipeline.CollectiveSegs
public import Idealize.ShloMosaic.Lib.Tactic

@[expose] public section

noncomputable section

namespace Cert.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch's memory: every counter at zero. -/
abbrev s₀ : MemSt nD τ sig (Elt F) := ⟨m, fun _ => 0, ρ⟩

/-- The argument as device `c` finds it. -/
def arg (c : Dev nD) : S2048x1024.Idx → Elt F .bf16 := (win0_0.blk (0 : Fin 1)).view.read (Elt F) ((s₀ m ρ).mem ((c : Thread nD τ).loc main_arg0))

/-! ## Waits of the pipeline -/

theorem O₀_pos {c : Dev nD} {γ : GSem nD τ sig} {u : Unit} (h : 0 < O₀ c γ u) : u ∈ L γ ∧ 0 < lv γ u := by
  unfold O₀ at h
  have hb (j : Fin 3) (h : 0 < (tallyAt (bcell (peer j c)) () 1 : CellTallies nD τ sig Unit) γ u) : u ∈ L γ ∧ 0 < lv γ u := by
    rw [(Pipeline.tallyAt_pos h).1]; exact ⟨mem_L _ _ _, Nat.one_pos⟩
  rcases Pipeline.add_pos_cases h with h | h
  · rcases Pipeline.add_pos_cases h with h | h
    · rcases Pipeline.add_pos_cases h with h | h
      · obtain ⟨p, -, rfl⟩ := owedL_pos h
        exact ⟨mem_L _ _ _, by rw [show u = () from rfl, lv_recv]; omega⟩
      · exact hb 2 h
    · exact hb 1 h
  · exact hb 0 h

/-- The pipeline may wait for its own copies whatever the device still owes. -/
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp]; exact mem_L _ _ _)
      (fun γ u hg => (O₀_pos hg).1)
      (fun p hp => by rw [Finset.mem_singleton.mp hp]; unfold lv; dsimp only; rw [hq])
      (fun γ u hg => (O₀_pos hg).2)
  · rw [MayWait_zero]; iintro -; iempintro

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from, the staging buffers apart. -/
def start (c : Dev nD) : sProp 𝕄 := iprop(G' (arg m ρ) c ∗ (cred (tallyAt (bcell c) () 3) ∗ all (crs c)) ∗ levAts L lv)
/-- The kernel's five scratch buffers. -/
def scratch (c : Dev nD) : sProp 𝕄 := iprop(hold mS c Finset.univ ∗ hold mA c Finset.univ ∗ hold mC1 c Finset.univ ∗ hold mC2 c Finset.univ ∗ hold mC3 c Finset.univ)
def Φ₀ (c : Dev nD) : sProp 𝕄 := iprop(start m ρ c ∗ scratch c)
/-- What it ends with: the scratch buffers, and every counter at zero. -/
def Φ₁ (c : Dev nD) : sProp 𝕄 := iprop(scratch c ∗ ((all fun g => dones c g false) ∗ (all fun g => dones c g true)) ∗ semVal (bcell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => arg m ρ c
    | ⟨1, _⟩ => Y (arg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer of device `c` with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## A whole buffer, and all the positions of it -/

section Whole
variable {e : EltTy} (b : Memref sig .tc .vmem S2048x1024 e) (hb : b.view.setOn Finset.univ = Finset.univ) (c : Dev nD)
include hb

theorem pts_hold : iprop(∃ f : Buf (Elt F) (b.view.loc (c : Thread nD τ)), b.view.loc (c : Thread nD τ) ↦{fullShare} f) ⊢ (hold b c Finset.univ : sProp 𝕄) := by
  unfold hold; rw [hb]
theorem hold_pts : (hold b c Finset.univ : sProp 𝕄) ⊢ iprop(∃ f : Buf (Elt F) (b.view.loc (c : Thread nD τ)), b.view.loc (c : Thread nD τ) ↦{fullShare} f) := by
  unfold hold; rw [hb]
theorem pts_own (f : Buf (Elt F) (b.view.loc (c : Thread nD τ))) (X : S2048x1024.Idx → Elt F e) (h : b.view.read (Elt F) f = X) :
    (b.view.loc (c : Thread nD τ) ↦{fullShare} f) ⊢ (own b c Finset.univ fullShare X : sProp 𝕄) := by
  unfold own; rw [hb]
  iintro H
  iexists f
  isplitr; · ipureintro; exact fun i _ => congrFun h i
  iexact H
theorem own_pts (X : S2048x1024.Idx → Elt F e) : (own b c Finset.univ fullShare X : sProp 𝕄)
    ⊢ iprop(∃ f : Buf (Elt F) (b.view.loc (c : Thread nD τ)), ⌜b.view.read (Elt F) f = X⌝ ∗ (b.view.loc (c : Thread nD τ) ↦{fullShare} f)) := by
  unfold own; rw [hb]
  iintro ⟨%f, %hf, H⟩
  iexists f
  isplitr; · ipureintro; exact funext fun i => hf i (Finset.mem_univ i)
  iexact H
end Whole

theorem whole_univ (b : Ref sig .tc) : (Memref.whole b).view.setOn Finset.univ = Finset.univ := View.set_whole _

/-! ## The body -/

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (arg m ρ c) ∗ stg c cc0_stg1_0 (Y (arg m ρ) c))

/-- The body's end, in the pipeline's terms. -/
theorem body_exit (c : Dev nD) : bodyOut (arg m ρ) c ⊢ bodyPost m ρ c := by
  unfold bodyOut bodyPost Φ₁ scratch inp Ow Dat.owesAt Pipeline.owesWithin
  rw [show (dats m ρ 0 c).owed t₀.succ = 0 from rfl]
  iintro ⟨HΦ, ⟨%W, HO⟩, HX, HY⟩
  isplitl [HΦ]; · iexact HΦ
  isplitl [HO]
  · iexists W
    isplitr; · ipureintro; exact fun _ _ => Or.inl trivial
    iexact HO
  isplitl [HX]
  · iapply (own_pts mX (whole_univ _) c (arg m ρ c)); iexact HX
  · iapply (own_pts mO (whole_univ _) c (Y (arg m ρ) c)); iexact HY

/-- The body from its start, in the pipeline's terms. -/
theorem body_entry (c : Dev nD) : bodyPre m ρ c ⊢ wpD c (bodyP F) (fun _ => bodyPost m ρ c) := by
  unfold bodyPre Φ₀ start G' scratch
  iintro ⟨⟨⟨⟨%K, HR, Hat, Hp⟩, ⟨Hc, Hcs⟩, Hlev⟩, HS, HA, H1, H2, H3⟩, Ho, ⟨%d0, %g0, %hg0, HX⟩, ⟨%d1, %g1, %hg1, HO⟩⟩
  have hx : g0 = arg m ρ c := by rw [hg0]; unfold Dat.before; rw [if_pos (fetch_0 t₀)]; rfl
  unfold Dat.owesAt Pipeline.owesWithin
  icases Ho with ⟨%W, %hW, Hw⟩
  ihave HK := (kits_intro c) $$ [Hat Hp Hc Hcs]
  · isplitl [Hat]; · iexact Hat
    isplitl [Hp]; · iexact Hp
    isplitl [Hc]; · iexact Hc
    iexact Hcs
  icases HK with ⟨HB, HK⟩
  iapply (wp_body (arg m ρ) K c fun _ => bodyPost m ρ c) $$ [HR Hlev HB HK Hw HX HS HA H1 H2 H3 HO]
  · unfold bodyIn ctx inp
    isplitl [HR Hlev]
    · isplitl [HR]; · iexact HR
      iexact Hlev
    isplitl [HB]; · iexact HB
    isplitl [HK]; · iexact HK
    isplitl [Hw]; · iexists W; iexact Hw
    isplitl [HX]; · iapply (pts_own mX (whole_univ _) c g0 (arg m ρ c) hx); iexact HX
    isplitl [HS]; · iexact HS
    isplitl [HA]; · iexact HA
    isplitl [H1]; · iexact H1
    isplitl [H2]; · iexact H2
    isplitl [H3]; · iexact H3
    iapply (pts_hold mO (whole_univ _) c); iexists g1; iexact HO
  iintro H
  iapply (body_exit m ρ c); iexact H

/-- What the pipeline runs at its one point is the printed kernel. -/
theorem body_at : (defs₀ (F := F)) .tc (0 : Fin 1) (t₀, cfg0.slots t₀) = bodyP F := by
  unfold defs₀ Defs.onTc
  dsimp only

set_option maxRecDepth 16384 in
/-- The library's body obligation on core `c`. -/
theorem body_obligation (c : Dev nD) : BodyObligation (dats (F := F) m ρ 0 c) (defs₀ (F := F)) 𝒱₀ () Set.univ := fun t => by
  rw [fin_N t, show (defs₀ (F := F)) .tc cfg0.body (cfg0.bodyArgs t₀ (cfg0.slots t₀)) = bodyP F from body_at, bigSep_W, bigSep_W]
  simp only [owns_whole_eq]
  have h := body_entry m ρ c
  revert h
  unfold wpD
  generalize bodyP F = p
  exact fun h => h

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (arg m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, HA, HS, H1, H2, H3⟩
  isplitl [Hs]; · iexact Hs
  isplitl [HS]; · iapply (pts_hold mS (whole_univ _) c); iexact HS
  isplitl [HA]; · iapply (pts_hold mA (whole_univ _) c); iexact HA
  isplitl [H1]; · iapply (pts_hold mC1 (whole_univ _) c); iexact H1
  isplitl [H2]; · iapply (pts_hold mC2 (whole_univ _) c); iexact H2
  iapply (pts_hold mC3 (whole_univ _) c); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨⟨HS, HA, H1, H2, H3⟩, HD, HB⟩
  isplitl [HB]; · iexact HB
  isplitl [HD]; · iexact HD
  isplitl [HA]; · iapply (hold_pts mA (whole_univ _) c); iexact HA
  isplitl [HS]; · iapply (hold_pts mS (whole_univ _) c); iexact HS
  isplitl [H1]; · iapply (hold_pts mC1 (whole_univ _) c); iexact H1
  isplitl [H2]; · iapply (hold_pts mC2 (whole_univ _) c); iexact H2
  iapply (hold_pts mC3 (whole_univ _) c); iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 32000 in
/-- On the mesh of eight devices, for any float values and from any memory with zero counters, every weakly fair
    execution of the program ends; then each device's argument and result hold what the data above names, and
    every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (arg m ρ)) (G' := G' (arg m ρ)) (u₀ := u₀)
    (hu₀ := by
      unfold u₀
      iintro Hu
      ihave H := (ownU_pair _ _) $$ Hu
      icases H with ⟨HP, HX⟩
      imod (fund_cells (arg m ρ)) $$ HX with HG
      imodintro
      isplitl [HP] <;> iassumption)
    (hglob := glob (arg m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = m ((c : Thread nD τ).loc main_arg0) :=
  (dats (F := F) m ρ 0 c).arrAt_in (0 : Fin 2) rfl _

/-- The frame: the program ends, each device's argument as it was, and every counter at zero. -/
theorem run_frame : θ_run defs (onTc (τ := τ) (main (F := F))) (s₀ m ρ)
    (fun r => (∀ c : Dev nD, r.2.mem ((c : Thread nD τ).loc main_arg0) = m ((c : Thread nD τ).loc main_arg0)) ∧ r.2.sem = fun _ => 0) :=
  (θ_run defs _ _).mono (fun _ h => ⟨fun c => (h.1 c 0).trans (finalA_x m ρ c), h.2⟩) (run_main m ρ)

end Cert.Halving

end
-- ==== Proof.Value.lean ====
/-
  The value of the result: on every device it is the reference's function of the sum of the eight devices' arguments.
-/
module

public import proofs.«01_k».proof.Proof.Run
public import proofs.«01_k».proof.Proof.Gen.ReferenceIdeal.Read
public import Idealize.ShloMosaic.Lib.Pipeline.ValueKit.Geometry
public import Idealize.ShloMosaic.Lib.Layout

@[expose] public section

noncomputable section

namespace Cert.Halving

open Cert.KernelIdeal Cert.KernelIdeal.Gen
open Idealize.ShloMosaic
open Idealize.ShloMosaic.TcCoe
open Idealize.SL.Sem

section Arrays
variable {F : FTy → Type} [FloatOps F]
variable (m : (ℓ : Loc nD τ sig) → Buf (Elt F) ℓ) (ρ : Dev nD → PrngReg)

/-- The argument window is the whole argument. -/
theorem arg_eq (c : Dev nD) : arg m ρ c = m ((c : Thread nD τ).loc main_arg0) := by
  funext i
  exact congrArg (m ((c : Thread nD τ).loc main_arg0)) (funext fun a => Fin.ext (by
    match a with
    | ⟨0, _⟩ => show 0 + 1 * (i 0).val = (i 0).val; omega
    | ⟨1, _⟩ => show 0 + 1 * (i 1).val = (i 1).val; omega))

/-- The result after the run holds what the body computed. -/
theorem finalA_y (c : Dev nD) : finalA m ρ c (1 : Fin 2) = Y (arg m ρ) c := by
  funext i
  exact (dats (F := F) m ρ 0 c).arrAt_emb_eq_after_last (1 : Fin 2) t₀ (by decide +kernel) i

end Arrays

/-! ## The sum over the mesh -/

/-- The eight devices whose arguments device `c` adds up for group `g`, in the order it adds them. -/
def spread (g : Fin 16) (c : Dev nD) : Fin 8 → Dev nD
  | 0 => c
  | 1 => pr g 0 c
  | 2 => pr g 1 c
  | 3 => pr g 0 (pr g 1 c)
  | 4 => pr g 2 c
  | 5 => pr g 0 (pr g 2 c)
  | 6 => pr g 1 (pr g 2 c)
  | 7 => pr g 0 (pr g 1 (pr g 2 c))

/-- Each device is among them once. -/
theorem spread_bijective (g : Fin 16) (c : Dev nD) : Function.Bijective (spread g c) :=
  (Finite.injective_iff_bijective (α := Fin 8)).mp ((by decide +kernel : ∀ (g : Fin 16) (c : Dev nD), Function.Injective (spread g c)) g c)

/-- Every device's sum, for every group, is the sum over all devices of their arguments. -/
theorem A3_eq_sum (x : Dev nD → S2048x1024.Idx → Elt Ideal .bf16) (g : Fin 16) (c : Dev nD) (i : S2048x1024.Idx) :
    A3 (F := Ideal) x g c i = (∑ d : Dev nD, (x d i : EReal) : EReal) := by
  rw [← (spread_bijective g c).sum_comp fun d => (x d i : EReal), Fin.sum_univ_eight]
  show (((x c i + x (pr g 0 c) i) + (x (pr g 1 c) i + x (pr g 0 (pr g 1 c)) i))
      + ((x (pr g 2 c) i + x (pr g 0 (pr g 2 c)) i) + (x (pr g 1 (pr g 2 c)) i + x (pr g 0 (pr g 1 (pr g 2 c))) i)) : EReal) = _
  simp only [← add_assoc]
  rfl

/-! ## The reference -/

/-- The sum the reference forms at a position, when each device holds its block of the reference's argument. -/
theorem ref_sum (X : (⟨2, ![16384, 1024]⟩ : Shape).Idx → EReal) (i : S2048x1024.Idx) :
    (Cert.ReferenceIdeal.Read.val_main_v2 (F := Ideal) X i : EReal)
      = ∑ d : Fin 8, (Layout.block ⟨2, ![2048, 1024]⟩ ⟨2, ![16384, 1024]⟩ 0 8 d X : S2048x1024.Idx → EReal) i := by
  rw [Cert.ReferenceIdeal.Read.val_main_v2_apply, Cert.ReferenceIdeal.Read.val_main_cst_apply]
  rw [show (FloatOps.ofBits .f32 0x00000000#32 : Ideal .f32) = (0 : EReal) from Ideal.ofBits_zero_f32]
  refine (zero_add _).trans (Finset.sum_congr rfl fun d _ => ?_)
  rw [Cert.ReferenceIdeal.Read.val_main_v1_apply, Cert.ReferenceIdeal.Read.val_main_v0_apply]
  have h0 : (i 0).val < 2048 := (i 0).isLt
  have h1 : (i 1).val < 1024 := (i 1).isLt
  exact congrArg X (funext fun a => Fin.ext (by
    match a with
    | ⟨0, _⟩ => show ((d.val * 2048 + (i 0).val) * 1024 + (i 1).val) / 1024 = d.val * 2048 + (i 0).val; omega
    | ⟨1, _⟩ => show ((d.val * 2048 + (i 0).val) * 1024 + (i 1).val) % 1024 = (i 1).val; omega))

/-- What the kernel leaves on device `c` is the reference's result, when each device holds its block of the
    reference's argument. -/
theorem Y_eq_ref (x : Dev nD → S2048x1024.Idx → Elt Ideal .bf16) (X : (⟨2, ![16384, 1024]⟩ : Shape).Idx → EReal)
    (hx : ∀ d, x d = Layout.block ⟨2, ![2048, 1024]⟩ ⟨2, ![16384, 1024]⟩ 0 8 d X) (c : Dev nD) :
    Y (F := Ideal) x c = Cert.ReferenceIdeal.Read.val_main_v11 (F := Ideal) X := by
  funext i
  have hs : A3 (F := Ideal) x (grp i) (owner (grp i) c i) i = Cert.ReferenceIdeal.Read.val_main_v2 (F := Ideal) X i := by
    rw [A3_eq_sum]
    refine Eq.trans ?_ (ref_sum X i).symm
    exact Finset.sum_congr rfl fun d _ => congrFun (hx d) i
  unfold Y
  rw [hs]
  rfl

end Cert.Halving

end
-- ==== Proof.Same.lean ====
/-
  The two printed kernels are one program: the same body, the same table of bodies, the same main function.
-/
module

public import proofs.«01_k».proof.Proof.Gen.Kernel
public import proofs.«01_k».proof.Proof.Gen.KernelIdeal

@[expose] public section

noncomputable section

namespace Cert.Halving

open Idealize.ShloMosaic

variable {F : FTy → Type} [FloatOps F]

/-- The two kernels' bodies are the same. -/
theorem same_body : @Cert.Kernel.cc0_body F _ Cert.Kernel.Gen.facts = @Cert.KernelIdeal.cc0_body F _ Cert.KernelIdeal.Gen.facts := rfl

/-- So are the tables that hold them. -/
theorem same_defs₀ : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

/-- And the tables with the pipelines added. -/
theorem same_defs : @Cert.Kernel.defs F _ Cert.Kernel.Gen.facts = @Cert.KernelIdeal.defs F _ Cert.KernelIdeal.Gen.facts :=
  congrArg (Pipeline.defs _) same_defs₀

end Cert.Halving

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem
open Cert.Halving (run_main run_frame same_defs finalA_x finalA_y arg_eq Y_eq_ref)

/-- The kernel at its own float values: it runs, its argument ends unchanged, every counter ends at zero. The two
    printed kernels have one text, so this is the run of the other at these float values. -/
theorem frame_kernel : Cert.quiescent_Kernel := fun m ρ _ => by
  rw [same_defs]
  exact run_frame (F := Bits) m ρ

/-- The same of the kernel at exact values. -/
theorem frame_ideal : Cert.quiescent_KernelIdeal := fun m ρ _ =>
  run_frame (F := Ideal) m ρ

/-- The same of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that are the eight blocks of the reference's argument, every device's result is the reference's. -/
theorem values : Cert.algebraic_KernelIdeal_ReferenceIdeal := fun m ρ m' ρ' _ hm =>
  ⟨_, (θ_run Cert.KernelIdeal.defs _ _).mono
      (fun _ h c => ⟨(h.1 c 1).trans ((finalA_y m ρ c).trans
        (Y_eq_ref _ _ (fun d => (arg_eq m ρ d).trans (hm d)) c)), (h.1 c 0).trans (finalA_x m ρ c)⟩) (run_main (F := Ideal) m ρ),
    (θ_run Cert.ReferenceIdeal.defs _ _).mono
      (fun _ h => ⟨((h 0).1).trans (Cert.ReferenceIdeal.Read.val_main_v11_eq _), (h 0).2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
